-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 8192, 2048]⟩ ⟨3, ![2, 8192, 2048]⟩ (Layout.meshBlock [2, 2] ![[0], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x8192x2048 : Shape := ⟨3, ![1, 8192, 2048]⟩
abbrev S8192x2048 : Shape := ⟨2, ![8192, 2048]⟩
abbrev S1x2048 : Shape := ⟨2, ![1, 2048]⟩
abbrev S4x256x2048 : Shape := ⟨3, ![4, 256, 2048]⟩
abbrev S3x256x2048 : Shape := ⟨3, ![3, 256, 2048]⟩
abbrev S2x256x2048 : Shape := ⟨3, ![2, 256, 2048]⟩
abbrev S4x2 : Shape := ⟨2, ![4, 2]⟩
abbrev S2 : Shape := ⟨1, ![2]⟩
abbrev S3 : Shape := ⟨1, ![3]⟩
abbrev S4 : Shape := ⟨1, ![4]⟩
abbrev S_ : Shape := ⟨0, ![]⟩
abbrev S1x1 : Shape := ⟨2, ![1, 1]⟩
abbrev S1x64x2048 : Shape := ⟨3, ![1, 64, 2048]⟩
abbrev S64x2048 : Shape := ⟨2, ![64, 2048]⟩
abbrev S1x128x2048 : Shape := ⟨3, ![1, 128, 2048]⟩
abbrev S128x2048 : Shape := ⟨2, ![128, 2048]⟩
abbrev S1 : Shape := ⟨1, ![1]⟩
abbrev S64 : Shape := ⟨1, ![64]⟩
abbrev S64x1 : Shape := ⟨2, ![64, 1]⟩
abbrev S1x256x2048 : Shape := ⟨3, ![1, 256, 2048]⟩
abbrev S256x2048 : Shape := ⟨2, ![256, 2048]⟩
abbrev S128 : Shape := ⟨1, ![128]⟩
abbrev S128x1 : Shape := ⟨2, ![128, 1]⟩
abbrev S256 : Shape := ⟨1, ![256]⟩
abbrev S256x1 : Shape := ⟨2, ![256, 1]⟩

abbrev nBuf : Space → Nat
  | .hbm => 4
  | .vmem => 9
  | .smem => 0
  | _ => 0

abbrev bufTy : (tb : Table) → Fin (tcTables nBuf tb) → BufTy
  | .hbm, ⟨0, _⟩ => ⟨S1x8192x2048, .f32⟩
  | .hbm, ⟨1, _⟩ => ⟨S8192x2048, .f32⟩
  | .hbm, ⟨2, _⟩ => ⟨S1x2048, .f32⟩
  | .hbm, ⟨3, _⟩ => ⟨S8192x2048, .f32⟩
  | .local _ .vmem, ⟨0, _⟩ => ⟨S1x2048, .f32⟩
  | .local _ .vmem, ⟨1, _⟩ => ⟨S4x256x2048, .f32⟩
  | .local _ .vmem, ⟨2, _⟩ => ⟨S3x256x2048, .bf16⟩
  | .local _ .vmem, ⟨3, _⟩ => ⟨S4x256x2048, .bf16⟩
  | .local _ .vmem, ⟨4, _⟩ => ⟨S4x256x2048, .f32⟩
  | .local _ .vmem, ⟨5, _⟩ => ⟨S2x256x2048, .bf16⟩
  | .local _ .vmem, ⟨6, _⟩ => ⟨S3x256x2048, .bf16⟩
  | .local _ .vmem, ⟨7, _⟩ => ⟨S2x256x2048, .f32⟩
  | .local _ .vmem, ⟨8, _⟩ => ⟨S2x256x2048, .f32⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 3 → Bool
  | ⟨0, _⟩ => true
  | ⟨1, _⟩ => true
  | ⟨2, _⟩ => false
  | _ => false

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  (ofTc nBuf bufTy 3 25 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_scratch6 : Ref sig .tc := ⟨.vmem, 7, rfl⟩
abbrev cc0_scratch7 : Ref sig .tc := ⟨.vmem, 8, rfl⟩
abbrev cc0_sem0_0 : DmaSem sig := 0
abbrev barrier0 : Sem sig := 2

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_5 : BitVec 32 := 2#32
  let v9 : BitVec 32 := Scalar.muli v6 c2_i32_5
  let v10 : BitVec 32 := Scalar.addi c0_i32 v9
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_6 : BitVec 32 := 1#32
  let v11 : BitVec 32 := Scalar.muli v5 c1_i32_6
  let v12 : BitVec 32 := Scalar.addi v10 v11
  v12.toNat
def k0_dev2 (d0 : Dev nD) : Nat :=
  let c0_i32_9 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_8 : BitVec 32 := 2#32
  let v13 : BitVec 32 := Scalar.muli v2 c2_i32_8
  let v14 : BitVec 32 := Scalar.addi c0_i32_9 v13
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_10 : BitVec 32 := 1#32
  let v15 : BitVec 32 := Scalar.muli v7 c1_i32_10
  let v16 : BitVec 32 := Scalar.addi v14 v15
  v16.toNat
def k0_dev3 (d0 : Dev nD) : Nat :=
  let c0_i32_13 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_12 : BitVec 32 := 2#32
  let v17 : BitVec 32 := Scalar.muli v6 c2_i32_12
  let v18 : BitVec 32 := Scalar.addi c0_i32_13 v17
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_14 : BitVec 32 := 1#32
  let v19 : BitVec 32 := Scalar.muli v5 c1_i32_14
  let v20 : BitVec 32 := Scalar.addi v18 v19
  v20.toNat
def k0_dev4 (d0 : Dev nD) : Nat :=
  let c0_i32_16 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_15 : BitVec 32 := 2#32
  let v21 : BitVec 32 := Scalar.muli v2 c2_i32_15
  let v22 : BitVec 32 := Scalar.addi c0_i32_16 v21
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_17 : BitVec 32 := 1#32
  let v23 : BitVec 32 := Scalar.muli v7 c1_i32_17
  let v24 : BitVec 32 := Scalar.addi v22 v23
  v24.toNat
def k0_off1 (d0 : Dev nD) (c0_i32_18 : BitVec 32) : Fin 3 → Nat :=
  let c0_i32_19 : BitVec 32 := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v25 : BitVec 32 := Scalar.muli v5 c4096_i32
  let v26 : BitVec 32 := Scalar.addi v25 c0_i32_18
  let c0_i32_25 : BitVec 32 := 0#32
  ![0, v26.toNat, 0]
def k0_off1_at (r : Fin 4) : BitVec 32 :=
  if r.val < 2 then
    if r.val < 1 then
      0#32
    else
      64#32
  else
    if r.val < 3 then
      3968#32
    else
      4032#32
def k0_off2 (d0 : Dev nD) (c0_i32_18 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v25 : BitVec 32 := Scalar.muli v5 c4096_i32
  let v26 : BitVec 32 := Scalar.addi v25 c0_i32_18
  let c0_i32_31 : BitVec 32 := 0#32
  ![v26.toNat, 0]
def k0_off2_at (r : Fin 4) : BitVec 32 :=
  if r.val < 2 then
    if r.val < 1 then
      0#32
    else
      64#32
  else
    if r.val < 3 then
      3968#32
    else
      4032#32
def k0_off3 (d0 : Dev nD) (c128_i32 : BitVec 32) : Fin 3 → Nat :=
  let c0_i32_47 : BitVec 32 := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32_46 : BitVec 32 := 4096#32
  let v51 : BitVec 32 := Scalar.muli v5 c4096_i32_46
  let v52 : BitVec 32 := Scalar.addi v51 c128_i32
  let c0_i32_53 : BitVec 32 := 0#32
  ![0, v52.toNat, 0]
def k0_off4 (d0 : Dev nD) (c128_i32 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32_46 : BitVec 32 := 4096#32
  let v51 : BitVec 32 := Scalar.muli v5 c4096_i32_46
  let v52 : BitVec 32 := Scalar.addi v51 c128_i32
  let c0_i32_59 : BitVec 32 := 0#32
  ![v52.toNat, 0]
def k0_dev5 (d0 : Dev nD) : Nat :=
  let c0_i32_85 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_84 : BitVec 32 := 2#32
  let v81 : BitVec 32 := Scalar.muli v6 c2_i32_84
  let v82 : BitVec 32 := Scalar.addi c0_i32_85 v81
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_86 : BitVec 32 := 1#32
  let v83 : BitVec 32 := Scalar.muli v5 c1_i32_86
  let v84 : BitVec 32 := Scalar.addi v82 v83
  v84.toNat
def k0_dev6 (d0 : Dev nD) : Nat :=
  let c0_i32_116 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_115 : BitVec 32 := 2#32
  let v110 : BitVec 32 := Scalar.muli v6 c2_i32_115
  let v111 : BitVec 32 := Scalar.addi c0_i32_116 v110
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_117 : BitVec 32 := 1#32
  let v112 : BitVec 32 := Scalar.muli v5 c1_i32_117
  let v113 : BitVec 32 := Scalar.addi v111 v112
  v113.toNat
def k0_dev7 (d0 : Dev nD) : Nat :=
  let c0_i32_147 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_146 : BitVec 32 := 2#32
  let v139 : BitVec 32 := Scalar.muli v6 c2_i32_146
  let v140 : BitVec 32 := Scalar.addi c0_i32_147 v139
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_148 : BitVec 32 := 1#32
  let v141 : BitVec 32 := Scalar.muli v5 c1_i32_148
  let v142 : BitVec 32 := Scalar.addi v140 v141
  v142.toNat
def k0_dev8 (d0 : Dev nD) : Nat :=
  let c0_i32_182 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_181 : BitVec 32 := 2#32
  let v187 : BitVec 32 := Scalar.muli v6 c2_i32_181
  let v188 : BitVec 32 := Scalar.addi c0_i32_182 v187
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_183 : BitVec 32 := 1#32
  let v189 : BitVec 32 := Scalar.muli v5 c1_i32_183
  let v190 : BitVec 32 := Scalar.addi v188 v189
  v190.toNat
def k0_off5 (d0 : Dev nD) (c256_i32 : BitVec 32) : Fin 3 → Nat :=
  let c0_i32_195 : BitVec 32 := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32_194 : BitVec 32 := 4096#32
  let v202 : BitVec 32 := Scalar.muli v5 c4096_i32_194
  let v203 : BitVec 32 := Scalar.addi v202 c256_i32
  let c0_i32_201 : BitVec 32 := 0#32
  ![0, v203.toNat, 0]
def k0_off6 (d0 : Dev nD) (c256_i32 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32_194 : BitVec 32 := 4096#32
  let v202 : BitVec 32 := Scalar.muli v5 c4096_i32_194
  let v203 : BitVec 32 := Scalar.addi v202 c256_i32
  let c0_i32_207 : BitVec 32 := 0#32
  ![v203.toNat, 0]
def k0_dev9 (d0 : Dev nD) : Nat :=
  let c0_i32_215 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_214 : BitVec 32 := 2#32
  let v215 : BitVec 32 := Scalar.muli v2 c2_i32_214
  let v216 : BitVec 32 := Scalar.addi c0_i32_215 v215
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_216 : BitVec 32 := 1#32
  let v217 : BitVec 32 := Scalar.muli v7 c1_i32_216
  let v218 : BitVec 32 := Scalar.addi v216 v217
  v218.toNat
def k0_dev10 (d0 : Dev nD) : Nat :=
  let c0_i32_255 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_254 : BitVec 32 := 2#32
  let v250 : BitVec 32 := Scalar.muli v6 c2_i32_254
  let v251 : BitVec 32 := Scalar.addi c0_i32_255 v250
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_256 : BitVec 32 := 1#32
  let v252 : BitVec 32 := Scalar.muli v5 c1_i32_256
  let v253 : BitVec 32 := Scalar.addi v251 v252
  v253.toNat
def k0_dev11 (d0 : Dev nD) : Nat :=
  let c0_i32_291 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_290 : BitVec 32 := 2#32
  let v298 : BitVec 32 := Scalar.muli v6 c2_i32_290
  let v299 : BitVec 32 := Scalar.addi c0_i32_291 v298
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_292 : BitVec 32 := 1#32
  let v300 : BitVec 32 := Scalar.muli v5 c1_i32_292
  let v301 : BitVec 32 := Scalar.addi v299 v300
  v301.toNat
def k0_dev12 (d0 : Dev nD) : Nat :=
  let c0_i32_324 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_323 : BitVec 32 := 2#32
  let v326 : BitVec 32 := Scalar.muli v2 c2_i32_323
  let v327 : BitVec 32 := Scalar.addi c0_i32_324 v326
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_325 : BitVec 32 := 1#32
  let v328 : BitVec 32 := Scalar.muli v7 c1_i32_325
  let v329 : BitVec 32 := Scalar.addi v327 v328
  v329.toNat
def k0_dev13 (d0 : Dev nD) : Nat :=
  let c0_i32_349 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_348 : BitVec 32 := 2#32
  let v354 : BitVec 32 := Scalar.muli v2 c2_i32_348
  let v355 : BitVec 32 := Scalar.addi c0_i32_349 v354
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_350 : BitVec 32 := 1#32
  let v356 : BitVec 32 := Scalar.muli v7 c1_i32_350
  let v357 : BitVec 32 := Scalar.addi v355 v356
  v357.toNat
def k0_off7 (d0 : Dev nD) (c0_i32_353 : BitVec 32) : Fin 2 → Nat :=
  let c1_i32_351 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v358 : BitVec 32 := Scalar.subi c1_i32_351 v5
  let c4096_i32_352 : BitVec 32 := 4096#32
  let v359 : BitVec 32 := Scalar.muli v358 c4096_i32_352
  let v360 : BitVec 32 := Scalar.addi v359 c0_i32_353
  let c0_i32_356 : BitVec 32 := 0#32
  ![v360.toNat, 0]
def k0_off7_at (r : Fin 4) : BitVec 32 :=
  if r.val < 2 then
    if r.val < 1 then
      0#32
    else
      64#32
  else
    if r.val < 3 then
      3968#32
    else
      4032#32
def k0_dev14 (d0 : Dev nD) : Nat :=
  let c0_i32_394 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_393 : BitVec 32 := 2#32
  let v389 : BitVec 32 := Scalar.muli v6 c2_i32_393
  let v390 : BitVec 32 := Scalar.addi c0_i32_394 v389
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_395 : BitVec 32 := 1#32
  let v391 : BitVec 32 := Scalar.muli v5 c1_i32_395
  let v392 : BitVec 32 := Scalar.addi v390 v391
  v392.toNat
def k0_dev15 (d0 : Dev nD) : Nat :=
  let c0_i32_435 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_434 : BitVec 32 := 2#32
  let v442 : BitVec 32 := Scalar.muli v6 c2_i32_434
  let v443 : BitVec 32 := Scalar.addi c0_i32_435 v442
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_436 : BitVec 32 := 1#32
  let v444 : BitVec 32 := Scalar.muli v5 c1_i32_436
  let v445 : BitVec 32 := Scalar.addi v443 v444
  v445.toNat
def k0_dev16 (d0 : Dev nD) : Nat :=
  let c0_i32_477 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_476 : BitVec 32 := 2#32
  let v476 : BitVec 32 := Scalar.muli v2 c2_i32_476
  let v477 : BitVec 32 := Scalar.addi c0_i32_477 v476
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_478 : BitVec 32 := 1#32
  let v478 : BitVec 32 := Scalar.muli v7 c1_i32_478
  let v479 : BitVec 32 := Scalar.addi v477 v478
  v479.toNat
def k0_dev17 (d0 : Dev nD) : Nat :=
  let c0_i32_502 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_501 : BitVec 32 := 2#32
  let v504 : BitVec 32 := Scalar.muli v2 c2_i32_501
  let v505 : BitVec 32 := Scalar.addi c0_i32_502 v504
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_503 : BitVec 32 := 1#32
  let v506 : BitVec 32 := Scalar.muli v7 c1_i32_503
  let v507 : BitVec 32 := Scalar.addi v505 v506
  v507.toNat
def k0_dev18 (d0 : Dev nD) : Nat :=
  let c0_i32_547 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_546 : BitVec 32 := 2#32
  let v539 : BitVec 32 := Scalar.muli v6 c2_i32_546
  let v540 : BitVec 32 := Scalar.addi c0_i32_547 v539
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_548 : BitVec 32 := 1#32
  let v541 : BitVec 32 := Scalar.muli v5 c1_i32_548
  let v542 : BitVec 32 := Scalar.addi v540 v541
  v542.toNat
def k0_dev19 (d0 : Dev nD) : Nat :=
  let c0_i32_588 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_587 : BitVec 32 := 2#32
  let v592 : BitVec 32 := Scalar.muli v6 c2_i32_587
  let v593 : BitVec 32 := Scalar.addi c0_i32_588 v592
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_589 : BitVec 32 := 1#32
  let v594 : BitVec 32 := Scalar.muli v5 c1_i32_589
  let v595 : BitVec 32 := Scalar.addi v593 v594
  v595.toNat
def k0_dev20 (d0 : Dev nD) : Nat :=
  let c0_i32_630 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_629 : BitVec 32 := 2#32
  let v626 : BitVec 32 := Scalar.muli v2 c2_i32_629
  let v627 : BitVec 32 := Scalar.addi c0_i32_630 v626
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_631 : BitVec 32 := 1#32
  let v628 : BitVec 32 := Scalar.muli v7 c1_i32_631
  let v629 : BitVec 32 := Scalar.addi v627 v628
  v629.toNat
def k0_dev21 (d0 : Dev nD) : Nat :=
  let c0_i32_660 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_659 : BitVec 32 := 2#32
  let v659 : BitVec 32 := Scalar.muli v2 c2_i32_659
  let v660 : BitVec 32 := Scalar.addi c0_i32_660 v659
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_661 : BitVec 32 := 1#32
  let v661 : BitVec 32 := Scalar.muli v7 c1_i32_661
  let v662 : BitVec 32 := Scalar.addi v660 v661
  v662.toNat
def k0_off8 (d0 : Dev nD) (c128_i32_664 : BitVec 32) : Fin 2 → Nat :=
  let c1_i32_662 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v663 : BitVec 32 := Scalar.subi c1_i32_662 v5
  let c4096_i32_663 : BitVec 32 := 4096#32
  let v664 : BitVec 32 := Scalar.muli v663 c4096_i32_663
  let v665 : BitVec 32 := Scalar.addi v664 c128_i32_664
  let c0_i32_667 : BitVec 32 := 0#32
  ![v665.toNat, 0]
def k0_dev22 (d0 : Dev nD) : Nat :=
  let c0_i32_705 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_704 : BitVec 32 := 2#32
  let v694 : BitVec 32 := Scalar.muli v6 c2_i32_704
  let v695 : BitVec 32 := Scalar.addi c0_i32_705 v694
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_706 : BitVec 32 := 1#32
  let v696 : BitVec 32 := Scalar.muli v5 c1_i32_706
  let v697 : BitVec 32 := Scalar.addi v695 v696
  v697.toNat
def k0_dev23 (d0 : Dev nD) : Nat :=
  let c0_i32_746 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_745 : BitVec 32 := 2#32
  let v747 : BitVec 32 := Scalar.muli v6 c2_i32_745
  let v748 : BitVec 32 := Scalar.addi c0_i32_746 v747
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_747 : BitVec 32 := 1#32
  let v749 : BitVec 32 := Scalar.muli v5 c1_i32_747
  let v750 : BitVec 32 := Scalar.addi v748 v749
  v750.toNat
def k0_dev24 (d0 : Dev nD) : Nat :=
  let c0_i32_788 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_787 : BitVec 32 := 2#32
  let v781 : BitVec 32 := Scalar.muli v2 c2_i32_787
  let v782 : BitVec 32 := Scalar.addi c0_i32_788 v781
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_789 : BitVec 32 := 1#32
  let v783 : BitVec 32 := Scalar.muli v7 c1_i32_789
  let v784 : BitVec 32 := Scalar.addi v782 v783
  v784.toNat
def k0_dev25 (d0 : Dev nD) : Nat :=
  let c0_i32_818 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_817 : BitVec 32 := 2#32
  let v814 : BitVec 32 := Scalar.muli v2 c2_i32_817
  let v815 : BitVec 32 := Scalar.addi c0_i32_818 v814
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_819 : BitVec 32 := 1#32
  let v816 : BitVec 32 := Scalar.muli v7 c1_i32_819
  let v817 : BitVec 32 := Scalar.addi v815 v816
  v817.toNat
def k0_off9 (d0 : Dev nD) (c256_i32_822 : BitVec 32) : Fin 2 → Nat :=
  let c1_i32_820 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v818 : BitVec 32 := Scalar.subi c1_i32_820 v5
  let c4096_i32_821 : BitVec 32 := 4096#32
  let v819 : BitVec 32 := Scalar.muli v818 c4096_i32_821
  let v820 : BitVec 32 := Scalar.addi v819 c256_i32_822
  let c0_i32_825 : BitVec 32 := 0#32
  ![v820.toNat, 0]
def k0_dev26 (d0 : Dev nD) : Nat :=
  let c0_i32_863 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_862 : BitVec 32 := 2#32
  let v849 : BitVec 32 := Scalar.muli v6 c2_i32_862
  let v850 : BitVec 32 := Scalar.addi c0_i32_863 v849
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_864 : BitVec 32 := 1#32
  let v851 : BitVec 32 := Scalar.muli v5 c1_i32_864
  let v852 : BitVec 32 := Scalar.addi v850 v851
  v852.toNat
def k0_dev27 (d0 : Dev nD) : Nat :=
  let c0_i32_904 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_903 : BitVec 32 := 2#32
  let v902 : BitVec 32 := Scalar.muli v6 c2_i32_903
  let v903 : BitVec 32 := Scalar.addi c0_i32_904 v902
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_905 : BitVec 32 := 1#32
  let v904 : BitVec 32 := Scalar.muli v5 c1_i32_905
  let v905 : BitVec 32 := Scalar.addi v903 v904
  v905.toNat
def k0_dev28 (d0 : Dev nD) : Nat :=
  let c0_i32_946 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_945 : BitVec 32 := 2#32
  let v936 : BitVec 32 := Scalar.muli v2 c2_i32_945
  let v937 : BitVec 32 := Scalar.addi c0_i32_946 v936
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_947 : BitVec 32 := 1#32
  let v938 : BitVec 32 := Scalar.muli v7 c1_i32_947
  let v939 : BitVec 32 := Scalar.addi v937 v938
  v939.toNat
def k0_dev29 (d0 : Dev nD) : Nat :=
  let c0_i32_976 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_975 : BitVec 32 := 2#32
  let v969 : BitVec 32 := Scalar.muli v2 c2_i32_975
  let v970 : BitVec 32 := Scalar.addi c0_i32_976 v969
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_977 : BitVec 32 := 1#32
  let v971 : BitVec 32 := Scalar.muli v7 c1_i32_977
  let v972 : BitVec 32 := Scalar.addi v970 v971
  v972.toNat
def k0_dev30 (d0 : Dev nD) : Nat :=
  let c0_i32_1021 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_1020 : BitVec 32 := 2#32
  let v1004 : BitVec 32 := Scalar.muli v6 c2_i32_1020
  let v1005 : BitVec 32 := Scalar.addi c0_i32_1021 v1004
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1022 : BitVec 32 := 1#32
  let v1006 : BitVec 32 := Scalar.muli v5 c1_i32_1022
  let v1007 : BitVec 32 := Scalar.addi v1005 v1006
  v1007.toNat
def k0_dev31 (d0 : Dev nD) : Nat :=
  let c0_i32_1062 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_1061 : BitVec 32 := 2#32
  let v1057 : BitVec 32 := Scalar.muli v6 c2_i32_1061
  let v1058 : BitVec 32 := Scalar.addi c0_i32_1062 v1057
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1063 : BitVec 32 := 1#32
  let v1059 : BitVec 32 := Scalar.muli v5 c1_i32_1063
  let v1060 : BitVec 32 := Scalar.addi v1058 v1059
  v1060.toNat
def k0_dev32 (d0 : Dev nD) : Nat :=
  let c0_i32_1104 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1103 : BitVec 32 := 2#32
  let v1091 : BitVec 32 := Scalar.muli v2 c2_i32_1103
  let v1092 : BitVec 32 := Scalar.addi c0_i32_1104 v1091
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1105 : BitVec 32 := 1#32
  let v1093 : BitVec 32 := Scalar.muli v7 c1_i32_1105
  let v1094 : BitVec 32 := Scalar.addi v1092 v1093
  v1094.toNat
def k0_dev33 (d0 : Dev nD) : Nat :=
  let c0_i32_1134 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1133 : BitVec 32 := 2#32
  let v1124 : BitVec 32 := Scalar.muli v2 c2_i32_1133
  let v1125 : BitVec 32 := Scalar.addi c0_i32_1134 v1124
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1135 : BitVec 32 := 1#32
  let v1126 : BitVec 32 := Scalar.muli v7 c1_i32_1135
  let v1127 : BitVec 32 := Scalar.addi v1125 v1126
  v1127.toNat
def k0_dev34 (d0 : Dev nD) : Nat :=
  let c0_i32_1179 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_1178 : BitVec 32 := 2#32
  let v1159 : BitVec 32 := Scalar.muli v6 c2_i32_1178
  let v1160 : BitVec 32 := Scalar.addi c0_i32_1179 v1159
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1180 : BitVec 32 := 1#32
  let v1161 : BitVec 32 := Scalar.muli v5 c1_i32_1180
  let v1162 : BitVec 32 := Scalar.addi v1160 v1161
  v1162.toNat
def k0_dev35 (d0 : Dev nD) : Nat :=
  let c0_i32_1220 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_1219 : BitVec 32 := 2#32
  let v1212 : BitVec 32 := Scalar.muli v6 c2_i32_1219
  let v1213 : BitVec 32 := Scalar.addi c0_i32_1220 v1212
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1221 : BitVec 32 := 1#32
  let v1214 : BitVec 32 := Scalar.muli v5 c1_i32_1221
  let v1215 : BitVec 32 := Scalar.addi v1213 v1214
  v1215.toNat
def k0_dev36 (d0 : Dev nD) : Nat :=
  let c0_i32_1262 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1261 : BitVec 32 := 2#32
  let v1246 : BitVec 32 := Scalar.muli v2 c2_i32_1261
  let v1247 : BitVec 32 := Scalar.addi c0_i32_1262 v1246
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1263 : BitVec 32 := 1#32
  let v1248 : BitVec 32 := Scalar.muli v7 c1_i32_1263
  let v1249 : BitVec 32 := Scalar.addi v1247 v1248
  v1249.toNat
def k0_dev37 (d0 : Dev nD) : Nat :=
  let c0_i32_1292 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1291 : BitVec 32 := 2#32
  let v1279 : BitVec 32 := Scalar.muli v2 c2_i32_1291
  let v1280 : BitVec 32 := Scalar.addi c0_i32_1292 v1279
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1293 : BitVec 32 := 1#32
  let v1281 : BitVec 32 := Scalar.muli v7 c1_i32_1293
  let v1282 : BitVec 32 := Scalar.addi v1280 v1281
  v1282.toNat
def k0_dev38 (d0 : Dev nD) : Nat :=
  let c0_i32_1337 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_1336 : BitVec 32 := 2#32
  let v1314 : BitVec 32 := Scalar.muli v6 c2_i32_1336
  let v1315 : BitVec 32 := Scalar.addi c0_i32_1337 v1314
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1338 : BitVec 32 := 1#32
  let v1316 : BitVec 32 := Scalar.muli v5 c1_i32_1338
  let v1317 : BitVec 32 := Scalar.addi v1315 v1316
  v1317.toNat
def k0_dev39 (d0 : Dev nD) : Nat :=
  let c0_i32_1378 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_1377 : BitVec 32 := 2#32
  let v1367 : BitVec 32 := Scalar.muli v6 c2_i32_1377
  let v1368 : BitVec 32 := Scalar.addi c0_i32_1378 v1367
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1379 : BitVec 32 := 1#32
  let v1369 : BitVec 32 := Scalar.muli v5 c1_i32_1379
  let v1370 : BitVec 32 := Scalar.addi v1368 v1369
  v1370.toNat
def k0_dev40 (d0 : Dev nD) : Nat :=
  let c0_i32_1420 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1419 : BitVec 32 := 2#32
  let v1401 : BitVec 32 := Scalar.muli v2 c2_i32_1419
  let v1402 : BitVec 32 := Scalar.addi c0_i32_1420 v1401
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1421 : BitVec 32 := 1#32
  let v1403 : BitVec 32 := Scalar.muli v7 c1_i32_1421
  let v1404 : BitVec 32 := Scalar.addi v1402 v1403
  v1404.toNat
def k0_dev41 (d0 : Dev nD) : Nat :=
  let c0_i32_1450 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1449 : BitVec 32 := 2#32
  let v1434 : BitVec 32 := Scalar.muli v2 c2_i32_1449
  let v1435 : BitVec 32 := Scalar.addi c0_i32_1450 v1434
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1451 : BitVec 32 := 1#32
  let v1436 : BitVec 32 := Scalar.muli v7 c1_i32_1451
  let v1437 : BitVec 32 := Scalar.addi v1435 v1436
  v1437.toNat
def k0_dev42 (d0 : Dev nD) : Nat :=
  let c0_i32_1495 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_1494 : BitVec 32 := 2#32
  let v1469 : BitVec 32 := Scalar.muli v6 c2_i32_1494
  let v1470 : BitVec 32 := Scalar.addi c0_i32_1495 v1469
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1496 : BitVec 32 := 1#32
  let v1471 : BitVec 32 := Scalar.muli v5 c1_i32_1496
  let v1472 : BitVec 32 := Scalar.addi v1470 v1471
  v1472.toNat
def k0_dev43 (d0 : Dev nD) : Nat :=
  let c0_i32_1536 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_1535 : BitVec 32 := 2#32
  let v1522 : BitVec 32 := Scalar.muli v6 c2_i32_1535
  let v1523 : BitVec 32 := Scalar.addi c0_i32_1536 v1522
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1537 : BitVec 32 := 1#32
  let v1524 : BitVec 32 := Scalar.muli v5 c1_i32_1537
  let v1525 : BitVec 32 := Scalar.addi v1523 v1524
  v1525.toNat
def k0_dev44 (d0 : Dev nD) : Nat :=
  let c0_i32_1578 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1577 : BitVec 32 := 2#32
  let v1556 : BitVec 32 := Scalar.muli v2 c2_i32_1577
  let v1557 : BitVec 32 := Scalar.addi c0_i32_1578 v1556
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1579 : BitVec 32 := 1#32
  let v1558 : BitVec 32 := Scalar.muli v7 c1_i32_1579
  let v1559 : BitVec 32 := Scalar.addi v1557 v1558
  v1559.toNat
def k0_dev45 (d0 : Dev nD) : Nat :=
  let c0_i32_1608 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1607 : BitVec 32 := 2#32
  let v1589 : BitVec 32 := Scalar.muli v2 c2_i32_1607
  let v1590 : BitVec 32 := Scalar.addi c0_i32_1608 v1589
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1609 : BitVec 32 := 1#32
  let v1591 : BitVec 32 := Scalar.muli v7 c1_i32_1609
  let v1592 : BitVec 32 := Scalar.addi v1590 v1591
  v1592.toNat
def k0_dev46 (d0 : Dev nD) : Nat :=
  let c0_i32_1653 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_1652 : BitVec 32 := 2#32
  let v1624 : BitVec 32 := Scalar.muli v6 c2_i32_1652
  let v1625 : BitVec 32 := Scalar.addi c0_i32_1653 v1624
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1654 : BitVec 32 := 1#32
  let v1626 : BitVec 32 := Scalar.muli v5 c1_i32_1654
  let v1627 : BitVec 32 := Scalar.addi v1625 v1626
  v1627.toNat
def k0_dev47 (d0 : Dev nD) : Nat :=
  let c0_i32_1694 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_1693 : BitVec 32 := 2#32
  let v1677 : BitVec 32 := Scalar.muli v6 c2_i32_1693
  let v1678 : BitVec 32 := Scalar.addi c0_i32_1694 v1677
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1695 : BitVec 32 := 1#32
  let v1679 : BitVec 32 := Scalar.muli v5 c1_i32_1695
  let v1680 : BitVec 32 := Scalar.addi v1678 v1679
  v1680.toNat
def k0_dev48 (d0 : Dev nD) : Nat :=
  let c0_i32_1736 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1735 : BitVec 32 := 2#32
  let v1711 : BitVec 32 := Scalar.muli v2 c2_i32_1735
  let v1712 : BitVec 32 := Scalar.addi c0_i32_1736 v1711
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1737 : BitVec 32 := 1#32
  let v1713 : BitVec 32 := Scalar.muli v7 c1_i32_1737
  let v1714 : BitVec 32 := Scalar.addi v1712 v1713
  v1714.toNat
def k0_dev49 (d0 : Dev nD) : Nat :=
  let c0_i32_1766 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1765 : BitVec 32 := 2#32
  let v1744 : BitVec 32 := Scalar.muli v2 c2_i32_1765
  let v1745 : BitVec 32 := Scalar.addi c0_i32_1766 v1744
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1767 : BitVec 32 := 1#32
  let v1746 : BitVec 32 := Scalar.muli v7 c1_i32_1767
  let v1747 : BitVec 32 := Scalar.addi v1745 v1746
  v1747.toNat
def k0_dev50 (d0 : Dev nD) : Nat :=
  let c0_i32_1811 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_1810 : BitVec 32 := 2#32
  let v1779 : BitVec 32 := Scalar.muli v6 c2_i32_1810
  let v1780 : BitVec 32 := Scalar.addi c0_i32_1811 v1779
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1812 : BitVec 32 := 1#32
  let v1781 : BitVec 32 := Scalar.muli v5 c1_i32_1812
  let v1782 : BitVec 32 := Scalar.addi v1780 v1781
  v1782.toNat
def k0_dev51 (d0 : Dev nD) : Nat :=
  let c0_i32_1852 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_1851 : BitVec 32 := 2#32
  let v1832 : BitVec 32 := Scalar.muli v6 c2_i32_1851
  let v1833 : BitVec 32 := Scalar.addi c0_i32_1852 v1832
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1853 : BitVec 32 := 1#32
  let v1834 : BitVec 32 := Scalar.muli v5 c1_i32_1853
  let v1835 : BitVec 32 := Scalar.addi v1833 v1834
  v1835.toNat
def k0_dev52 (d0 : Dev nD) : Nat :=
  let c0_i32_1894 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1893 : BitVec 32 := 2#32
  let v1866 : BitVec 32 := Scalar.muli v2 c2_i32_1893
  let v1867 : BitVec 32 := Scalar.addi c0_i32_1894 v1866
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1895 : BitVec 32 := 1#32
  let v1868 : BitVec 32 := Scalar.muli v7 c1_i32_1895
  let v1869 : BitVec 32 := Scalar.addi v1867 v1868
  v1869.toNat
def k0_dev53 (d0 : Dev nD) : Nat :=
  let c0_i32_1924 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1923 : BitVec 32 := 2#32
  let v1899 : BitVec 32 := Scalar.muli v2 c2_i32_1923
  let v1900 : BitVec 32 := Scalar.addi c0_i32_1924 v1899
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1925 : BitVec 32 := 1#32
  let v1901 : BitVec 32 := Scalar.muli v7 c1_i32_1925
  let v1902 : BitVec 32 := Scalar.addi v1900 v1901
  v1902.toNat
def k0_dev54 (d0 : Dev nD) : Nat :=
  let c0_i32_1969 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_1968 : BitVec 32 := 2#32
  let v1934 : BitVec 32 := Scalar.muli v6 c2_i32_1968
  let v1935 : BitVec 32 := Scalar.addi c0_i32_1969 v1934
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1970 : BitVec 32 := 1#32
  let v1936 : BitVec 32 := Scalar.muli v5 c1_i32_1970
  let v1937 : BitVec 32 := Scalar.addi v1935 v1936
  v1937.toNat
def k0_dev55 (d0 : Dev nD) : Nat :=
  let c0_i32_2010 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_2009 : BitVec 32 := 2#32
  let v1987 : BitVec 32 := Scalar.muli v6 c2_i32_2009
  let v1988 : BitVec 32 := Scalar.addi c0_i32_2010 v1987
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2011 : BitVec 32 := 1#32
  let v1989 : BitVec 32 := Scalar.muli v5 c1_i32_2011
  let v1990 : BitVec 32 := Scalar.addi v1988 v1989
  v1990.toNat
def k0_dev56 (d0 : Dev nD) : Nat :=
  let c0_i32_2052 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_2051 : BitVec 32 := 2#32
  let v2021 : BitVec 32 := Scalar.muli v2 c2_i32_2051
  let v2022 : BitVec 32 := Scalar.addi c0_i32_2052 v2021
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_2053 : BitVec 32 := 1#32
  let v2023 : BitVec 32 := Scalar.muli v7 c1_i32_2053
  let v2024 : BitVec 32 := Scalar.addi v2022 v2023
  v2024.toNat
def k0_dev57 (d0 : Dev nD) : Nat :=
  let c0_i32_2082 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_2081 : BitVec 32 := 2#32
  let v2054 : BitVec 32 := Scalar.muli v2 c2_i32_2081
  let v2055 : BitVec 32 := Scalar.addi c0_i32_2082 v2054
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_2083 : BitVec 32 := 1#32
  let v2056 : BitVec 32 := Scalar.muli v7 c1_i32_2083
  let v2057 : BitVec 32 := Scalar.addi v2055 v2056
  v2057.toNat
def k0_dev58 (d0 : Dev nD) : Nat :=
  let c0_i32_2127 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_2126 : BitVec 32 := 2#32
  let v2089 : BitVec 32 := Scalar.muli v6 c2_i32_2126
  let v2090 : BitVec 32 := Scalar.addi c0_i32_2127 v2089
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2128 : BitVec 32 := 1#32
  let v2091 : BitVec 32 := Scalar.muli v5 c1_i32_2128
  let v2092 : BitVec 32 := Scalar.addi v2090 v2091
  v2092.toNat
def k0_dev59 (d0 : Dev nD) : Nat :=
  let c0_i32_2168 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_2167 : BitVec 32 := 2#32
  let v2142 : BitVec 32 := Scalar.muli v6 c2_i32_2167
  let v2143 : BitVec 32 := Scalar.addi c0_i32_2168 v2142
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2169 : BitVec 32 := 1#32
  let v2144 : BitVec 32 := Scalar.muli v5 c1_i32_2169
  let v2145 : BitVec 32 := Scalar.addi v2143 v2144
  v2145.toNat
def k0_dev60 (d0 : Dev nD) : Nat :=
  let c0_i32_2210 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_2209 : BitVec 32 := 2#32
  let v2176 : BitVec 32 := Scalar.muli v2 c2_i32_2209
  let v2177 : BitVec 32 := Scalar.addi c0_i32_2210 v2176
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_2211 : BitVec 32 := 1#32
  let v2178 : BitVec 32 := Scalar.muli v7 c1_i32_2211
  let v2179 : BitVec 32 := Scalar.addi v2177 v2178
  v2179.toNat
def k0_dev61 (d0 : Dev nD) : Nat :=
  let c0_i32_2240 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_2239 : BitVec 32 := 2#32
  let v2209 : BitVec 32 := Scalar.muli v2 c2_i32_2239
  let v2210 : BitVec 32 := Scalar.addi c0_i32_2240 v2209
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_2241 : BitVec 32 := 1#32
  let v2211 : BitVec 32 := Scalar.muli v7 c1_i32_2241
  let v2212 : BitVec 32 := Scalar.addi v2210 v2211
  v2212.toNat
def k0_dev62 (d0 : Dev nD) : Nat :=
  let c0_i32_2285 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_2284 : BitVec 32 := 2#32
  let v2244 : BitVec 32 := Scalar.muli v6 c2_i32_2284
  let v2245 : BitVec 32 := Scalar.addi c0_i32_2285 v2244
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2286 : BitVec 32 := 1#32
  let v2246 : BitVec 32 := Scalar.muli v5 c1_i32_2286
  let v2247 : BitVec 32 := Scalar.addi v2245 v2246
  v2247.toNat
def k0_dev63 (d0 : Dev nD) : Nat :=
  let c0_i32_2326 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_2325 : BitVec 32 := 2#32
  let v2297 : BitVec 32 := Scalar.muli v6 c2_i32_2325
  let v2298 : BitVec 32 := Scalar.addi c0_i32_2326 v2297
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2327 : BitVec 32 := 1#32
  let v2299 : BitVec 32 := Scalar.muli v5 c1_i32_2327
  let v2300 : BitVec 32 := Scalar.addi v2298 v2299
  v2300.toNat
def k0_dev64 (d0 : Dev nD) : Nat :=
  let c0_i32_2368 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_2367 : BitVec 32 := 2#32
  let v2331 : BitVec 32 := Scalar.muli v2 c2_i32_2367
  let v2332 : BitVec 32 := Scalar.addi c0_i32_2368 v2331
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_2369 : BitVec 32 := 1#32
  let v2333 : BitVec 32 := Scalar.muli v7 c1_i32_2369
  let v2334 : BitVec 32 := Scalar.addi v2332 v2333
  v2334.toNat
def k0_dev65 (d0 : Dev nD) : Nat :=
  let c0_i32_2398 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_2397 : BitVec 32 := 2#32
  let v2364 : BitVec 32 := Scalar.muli v2 c2_i32_2397
  let v2365 : BitVec 32 := Scalar.addi c0_i32_2398 v2364
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_2399 : BitVec 32 := 1#32
  let v2366 : BitVec 32 := Scalar.muli v7 c1_i32_2399
  let v2367 : BitVec 32 := Scalar.addi v2365 v2366
  v2367.toNat
def k0_dev66 (d0 : Dev nD) : Nat :=
  let c0_i32_2443 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_2442 : BitVec 32 := 2#32
  let v2399 : BitVec 32 := Scalar.muli v6 c2_i32_2442
  let v2400 : BitVec 32 := Scalar.addi c0_i32_2443 v2399
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2444 : BitVec 32 := 1#32
  let v2401 : BitVec 32 := Scalar.muli v5 c1_i32_2444
  let v2402 : BitVec 32 := Scalar.addi v2400 v2401
  v2402.toNat
def k0_dev67 (d0 : Dev nD) : Nat :=
  let c0_i32_2484 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_2483 : BitVec 32 := 2#32
  let v2452 : BitVec 32 := Scalar.muli v6 c2_i32_2483
  let v2453 : BitVec 32 := Scalar.addi c0_i32_2484 v2452
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2485 : BitVec 32 := 1#32
  let v2454 : BitVec 32 := Scalar.muli v5 c1_i32_2485
  let v2455 : BitVec 32 := Scalar.addi v2453 v2454
  v2455.toNat
def k0_dev68 (d0 : Dev nD) : Nat :=
  let c0_i32_2526 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_2525 : BitVec 32 := 2#32
  let v2486 : BitVec 32 := Scalar.muli v2 c2_i32_2525
  let v2487 : BitVec 32 := Scalar.addi c0_i32_2526 v2486
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_2527 : BitVec 32 := 1#32
  let v2488 : BitVec 32 := Scalar.muli v7 c1_i32_2527
  let v2489 : BitVec 32 := Scalar.addi v2487 v2488
  v2489.toNat
def k0_dev69 (d0 : Dev nD) : Nat :=
  let c0_i32_2556 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_2555 : BitVec 32 := 2#32
  let v2519 : BitVec 32 := Scalar.muli v2 c2_i32_2555
  let v2520 : BitVec 32 := Scalar.addi c0_i32_2556 v2519
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_2557 : BitVec 32 := 1#32
  let v2521 : BitVec 32 := Scalar.muli v7 c1_i32_2557
  let v2522 : BitVec 32 := Scalar.addi v2520 v2521
  v2522.toNat
def k0_dev70 (d0 : Dev nD) : Nat :=
  let c0_i32_2601 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_2600 : BitVec 32 := 2#32
  let v2554 : BitVec 32 := Scalar.muli v6 c2_i32_2600
  let v2555 : BitVec 32 := Scalar.addi c0_i32_2601 v2554
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2602 : BitVec 32 := 1#32
  let v2556 : BitVec 32 := Scalar.muli v5 c1_i32_2602
  let v2557 : BitVec 32 := Scalar.addi v2555 v2556
  v2557.toNat
def k0_dev71 (d0 : Dev nD) : Nat :=
  let c0_i32_2680 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_2679 : BitVec 32 := 2#32
  let v2637 : BitVec 32 := Scalar.muli v2 c2_i32_2679
  let v2638 : BitVec 32 := Scalar.addi c0_i32_2680 v2637
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_2681 : BitVec 32 := 1#32
  let v2639 : BitVec 32 := Scalar.muli v7 c1_i32_2681
  let v2640 : BitVec 32 := Scalar.addi v2638 v2639
  v2640.toNat
def k0_dev72 (d0 : Dev nD) : Nat :=
  let c0_i32_2710 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_2709 : BitVec 32 := 2#32
  let v2670 : BitVec 32 := Scalar.muli v2 c2_i32_2709
  let v2671 : BitVec 32 := Scalar.addi c0_i32_2710 v2670
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_2711 : BitVec 32 := 1#32
  let v2672 : BitVec 32 := Scalar.muli v7 c1_i32_2711
  let v2673 : BitVec 32 := Scalar.addi v2671 v2672
  v2673.toNat
def k0_dev73 (d0 : Dev nD) : Nat :=
  let c0_i32_2755 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_2754 : BitVec 32 := 2#32
  let v2705 : BitVec 32 := Scalar.muli v6 c2_i32_2754
  let v2706 : BitVec 32 := Scalar.addi c0_i32_2755 v2705
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2756 : BitVec 32 := 1#32
  let v2707 : BitVec 32 := Scalar.muli v5 c1_i32_2756
  let v2708 : BitVec 32 := Scalar.addi v2706 v2707
  v2708.toNat
def k0_dev74 (d0 : Dev nD) : Nat :=
  let c0_i32_2820 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_2819 : BitVec 32 := 2#32
  let v2775 : BitVec 32 := Scalar.muli v2 c2_i32_2819
  let v2776 : BitVec 32 := Scalar.addi c0_i32_2820 v2775
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_2821 : BitVec 32 := 1#32
  let v2777 : BitVec 32 := Scalar.muli v7 c1_i32_2821
  let v2778 : BitVec 32 := Scalar.addi v2776 v2777
  v2778.toNat
def k0_dev75 (d0 : Dev nD) : Nat :=
  let c0_i32_2850 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_2849 : BitVec 32 := 2#32
  let v2808 : BitVec 32 := Scalar.muli v2 c2_i32_2849
  let v2809 : BitVec 32 := Scalar.addi c0_i32_2850 v2808
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_2851 : BitVec 32 := 1#32
  let v2810 : BitVec 32 := Scalar.muli v7 c1_i32_2851
  let v2811 : BitVec 32 := Scalar.addi v2809 v2810
  v2811.toNat
def k0_dev76 (d0 : Dev nD) : Nat :=
  let c0_i32_2919 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_2918 : BitVec 32 := 2#32
  let v2878 : BitVec 32 := Scalar.muli v2 c2_i32_2918
  let v2879 : BitVec 32 := Scalar.addi c0_i32_2919 v2878
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_2920 : BitVec 32 := 1#32
  let v2880 : BitVec 32 := Scalar.muli v7 c1_i32_2920
  let v2881 : BitVec 32 := Scalar.addi v2879 v2880
  v2881.toNat
def k0_dev77 (d0 : Dev nD) : Nat :=
  let c0_i32_3014 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_3013 : BitVec 32 := 2#32
  let v2977 : BitVec 32 := Scalar.muli v2 c2_i32_3013
  let v2978 : BitVec 32 := Scalar.addi c0_i32_3014 v2977
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_3015 : BitVec 32 := 1#32
  let v2979 : BitVec 32 := Scalar.muli v7 c1_i32_3015
  let v2980 : BitVec 32 := Scalar.addi v2978 v2979
  v2980.toNat
abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S2x8192x2048 : Shape := ⟨3, ![2, 8192, 2048]⟩
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩

abbrev nBuf : Space → Nat
  | .hbm => 21
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S8192x2048, .f32⟩
  | .hbm, ⟨2, _⟩ => ⟨S1x2048, .f32⟩
  | .hbm, ⟨3, _⟩ => ⟨S_, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S8192x2048, .f32⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩

abbrev nD : Nat := 1
abbrev τ : Topo := Topo.v7x

variable {F : FTy → Type} [FloatOps F]
-- ==== Proof.Program.lean ====
/- The kernel's body, written once with the chunk as a parameter: the phases of its software
   pipeline as functions of the chunk they work on, and the order in which they run. -/
module

public import proofs.«01_k».proof.Proof.Gen.KernelIdeal
public import proofs.«01_k».proof.Proof.Gen.KernelIdeal.Skeleton

@[expose] public section

noncomputable section

namespace Cert.KernelIdeal.Body

open Idealize.ShloMosaic Idealize.ShloMosaic.TcCoe Idealize.SL.Sem
open Cert.KernelIdeal.Gen

/-! ## The chunks -/

/-- Rows of chunk `c`. -/
def sz (c : ℕ) : ℕ := if c < 2 then 64 else if c = 2 then 128 else if c < 17 then 256 else if c = 17 then 128 else 64

/-- First row of chunk `c` within the half a device owns. -/
def off (c : ℕ) : ℕ :=
  if c ≤ 2 then 64 * c else if c ≤ 17 then 256 * (c - 2) else if c < 20 then 3968 + 64 * (c - 18) else 0

theorem sz_cases (c : ℕ) : sz c = 64 ∨ sz c = 128 ∨ sz c = 256 := by
  unfold sz; split_ifs <;> simp
theorem sz_le (c : ℕ) : sz c ≤ 256 := by rcases sz_cases c with h | h | h <;> omega
theorem sz_pos (c : ℕ) : 0 < sz c := by rcases sz_cases c with h | h | h <;> omega
theorem sz_even (c : ℕ) : 2 ∣ sz c := by rcases sz_cases c with h | h | h <;> omega
theorem off_sz (c : ℕ) : off c + sz c ≤ 4096 := by unfold off sz; split_ifs <;> omega
/-- The next chunk starts where this one ends. -/
theorem off_succ (c : ℕ) (h : c < 19) : off (c + 1) = off c + sz c := by
  unfold off sz; split_ifs <;> omega

/-! ## Shapes -/

/-- The whole scratch of `k` slots of 256 rows. -/
abbrev shB (k : ℕ) : Shape := ⟨3, ![k, 256, 2048]⟩
/-- One slot's leading `n` rows, with the slot axis, -/
abbrev sh3 (n : ℕ) : Shape := ⟨3, ![1, n, 2048]⟩
/-- and without it. -/
abbrev sh2 (n : ℕ) : Shape := ⟨2, ![n, 2048]⟩
/-- One number per row, -/
abbrev sh1 (n : ℕ) : Shape := ⟨1, ![n]⟩
/-- and as a column. -/
abbrev shC (n : ℕ) : Shape := ⟨2, ![n, 1]⟩

theorem squeezes3 (n : ℕ) : (sh3 n).Squeezes (sh2 n) := by
  simp [Shape.Squeezes, Shape.dropsOnes, List.ofFn_succ]
theorem casts32 (n : ℕ) : (sh3 n).ShapeCasts (sh2 n) := (squeezes3 n).numel_eq
theorem casts23 (n : ℕ) : (sh2 n).ShapeCasts (sh3 n) := (squeezes3 n).numel_eq.symm
theorem casts1C (n : ℕ) : (sh1 n).ShapeCasts (shC n) := by
  simp [Shape.ShapeCasts, Shape.numel, Shape.prodPi]
theorem reduces21 (n : ℕ) : (sh2 n).Reduces [1] (sh1 n) := by
  refine ⟨rfl, Nat.one_pos, fun b => ?_⟩
  match b with
  | ⟨0, _⟩ => rfl
theorem bcastC (n : ℕ) : (shC n).Broadcasts (sh2 n) := by
  refine ⟨Nat.le_refl 2, fun a => ?_⟩
  match a with
  | ⟨0, _⟩ => exact .inr fun _ => rfl
  | ⟨1, _⟩ => exact .inl rfl
theorem bcastG (n : ℕ) : (⟨2, ![1, 2048]⟩ : Shape).Broadcasts (sh2 n) := by
  refine ⟨Nat.le_refl 2, fun a => ?_⟩
  match a with
  | ⟨0, _⟩ => exact .inl rfl
  | ⟨1, _⟩ => exact .inr fun _ => rfl
theorem pos3 {n : ℕ} (h : 0 < n) : 0 < (sh3 n).numel := by
  show 0 < 1 * (n * (2048 * 1)); omega

/-! ## Slots of the scratch buffers -/

theorem slot_inb {k s n : ℕ} (hs : s < k) (hn : n ≤ 256) (a : Fin 3) :
    (![s, 0, 0] : Fin 3 → ℕ) a + (sh3 n).size a ≤ (shB k).size a := by
  match a with
  | ⟨0, _⟩ => exact hs
  | ⟨1, _⟩ => show 0 + n ≤ 256; omega
  | ⟨2, _⟩ => show 0 + 2048 ≤ 2048; omega

/-- The leading `n` rows of slot `s`. -/
abbrev slotRect {k s n : ℕ} (hs : s < k) (hn : n ≤ 256) : Rect (shB k) :=
  Rect.unit (s := shB k) ![s, 0, 0] (sh3 n).size (slot_inb hs hn)

theorem slot_packed {k s n : ℕ} (hs : s < k) (hn : n ≤ 256) (h2 : 2 ∣ n) :
    (slotRect hs hn).PackedRows (EltTy.packing .bf16) :=
  by
  refine .inr ⟨(by decide : 2 ≤ 3), rfl, .inl ⟨?_, ?_⟩⟩
  · exact Nat.dvd_zero 2
  · exact h2
theorem slot_words {k s n : ℕ} (hs : s < k) (hn : n ≤ 256) (h2 : 2 ∣ n) :
    (slotRect hs hn).WholeWords (EltTy.packing .bf16) := (slot_packed hs hn h2).wholeWords

/-- The memref of the leading `n` rows of slot `s` of `m`. -/
abbrev slotM {k s n : ℕ} {e : EltTy} (m : Memref sig .tc .vmem (shB k) e) (hs : s < k) (hn : n ≤ 256) :
    Memref sig .tc .vmem (sh2 n) e :=
  (m.slice (slotRect hs hn) (fun _ => rfl)).squeeze (sh2 n) (squeezes3 n)

/-! ## Devices, rows and semaphores -/

/-- The neighbour along x, which holds the other partial of the same rows. -/
abbrev xN (d : Dev nD) : Dev nD := ⟨k0_dev1 d, k0_dev1_lt d⟩
/-- The neighbour along y, which owns the other half of the rows. -/
abbrev yN (d : Dev nD) : Dev nD := ⟨k0_dev2 d, k0_dev2_lt d⟩

/-- First row of chunk `c` of the half device `d` owns. -/
def rowM (d : Dev nD) (c : ℕ) : ℕ :=
  (Scalar.addi (Scalar.muli (Scalar.remsi (Scalar.divsi (Dev.word d) 1#32) 2#32) 4096#32) (BitVec.ofNat 32 (off c))).toNat
/-- First row of chunk `c` of the other half. -/
def rowO (d : Dev nD) (c : ℕ) : ℕ :=
  (Scalar.addi (Scalar.muli (Scalar.subi 1#32 (Scalar.remsi (Scalar.divsi (Dev.word d) 1#32) 2#32)) 4096#32) (BitVec.ofNat 32 (off c))).toNat

theorem word_add (a b : ℕ) (ha : a ≤ 4096) (hb : b ≤ 4096) :
    (Scalar.addi (BitVec.ofNat 32 a) (BitVec.ofNat 32 b)).toNat = a + b := by
  show (BitVec.ofNat 32 a + BitVec.ofNat 32 b).toNat = a + b
  simp only [BitVec.toNat_add, BitVec.toNat_ofNat]; omega

theorem word_mine (d : Dev nD) : Scalar.muli (Scalar.remsi (Scalar.divsi (Dev.word d) 1#32) 2#32) 4096#32
    = BitVec.ofNat 32 (d.val % 2 * 4096) := by revert d; decide
theorem word_other (d : Dev nD) : Scalar.muli (Scalar.subi 1#32 (Scalar.remsi (Scalar.divsi (Dev.word d) 1#32) 2#32)) 4096#32
    = BitVec.ofNat 32 ((1 - d.val % 2) * 4096) := by revert d; decide

theorem rowM_eq (d : Dev nD) (c : ℕ) : rowM d c = d.val % 2 * 4096 + off c := by
  have h := off_sz c
  unfold rowM; rw [word_mine, word_add] <;> omega
theorem rowO_eq (d : Dev nD) (c : ℕ) : rowO d c = (1 - d.val % 2) * 4096 + off c := by
  have h := off_sz c
  unfold rowO; rw [word_other, word_add] <;> omega
theorem rowM_le (d : Dev nD) (c : ℕ) : rowM d c + sz c ≤ 8192 := by
  have := off_sz c; rw [rowM_eq]; omega
theorem rowO_le (d : Dev nD) (c : ℕ) : rowO d c + sz c ≤ 8192 := by
  have := off_sz c; rw [rowO_eq]; omega

theorem arg3_inb {r n : ℕ} (h : r + n ≤ 8192) (a : Fin 3) :
    (![0, r, 0] : Fin 3 → ℕ) a + (sh3 n).size a ≤ S1x8192x2048.size a := by
  match a with
  | ⟨0, _⟩ => exact Nat.le_refl 1
  | ⟨1, _⟩ => exact h
  | ⟨2, _⟩ => show 0 + 2048 ≤ 2048; omega
theorem arg2_inb {r n : ℕ} (h : r + n ≤ 8192) (a : Fin 2) :
    (![r, 0] : Fin 2 → ℕ) a + (sh2 n).size a ≤ S8192x2048.size a := by
  match a with
  | ⟨0, _⟩ => exact h
  | ⟨1, _⟩ => show 0 + 2048 ≤ 2048; omega

/-- Rows `r … r+n` of the partial sums. -/
abbrev rect3 {r n : ℕ} (h : r + n ≤ 8192) : Rect S1x8192x2048 :=
  Rect.unit (s := S1x8192x2048) ![0, r, 0] (sh3 n).size (arg3_inb h)
/-- Rows `r … r+n` of a whole matrix. -/
abbrev rect2 {r n : ℕ} (h : r + n ≤ 8192) : Rect S8192x2048 :=
  Rect.unit (s := S8192x2048) ![r, 0] (sh2 n).size (arg2_inb h)

/-- The partial-sum rows of chunk `c`, -/
abbrev pM (d : Dev nD) (c : ℕ) : Memref sig .tc .hbm (sh2 (sz c)) .f32 :=
  ((Memref.whole main_arg0).slice (rect3 (rowM_le d c)) (fun _ => rfl)).squeeze (sh2 (sz c)) (squeezes3 (sz c))
/-- the residual rows, -/
abbrev rM (d : Dev nD) (c : ℕ) : Memref sig .tc .hbm (sh2 (sz c)) .f32 :=
  (Memref.whole main_arg1).slice (rect2 (rowM_le d c)) (fun _ => rfl)
/-- the result rows of the own half, -/
abbrev omM (d : Dev nD) (c : ℕ) : Memref sig .tc .hbm (sh2 (sz c)) .f32 :=
  (Memref.whole main_v1).slice (rect2 (rowM_le d c)) (fun _ => rfl)
/-- and of the other. -/
abbrev ooM (d : Dev nD) (c : ℕ) : Memref sig .tc .hbm (sh2 (sz c)) .f32 :=
  (Memref.whole main_v1).slice (rect2 (rowO_le d c)) (fun _ => rfl)

theorem m4 (c : ℕ) : c % 4 < 4 := Nat.mod_lt _ (by decide)
theorem m3 (c : ℕ) : c % 3 < 3 := Nat.mod_lt _ (by decide)
theorem m2 (c : ℕ) : c % 2 < 2 := Nat.mod_lt _ (by decide)

/-- Loaded partial sums. -/
abbrev mP (c : ℕ) : Memref sig .tc .vmem (sh2 (sz c)) .f32 := slotM (Memref.whole cc0_scratch0) (m4 c) (sz_le c)
/-- Partial sums to send. -/
abbrev mXS (c : ℕ) : Memref sig .tc .vmem (sh2 (sz c)) .bf16 := slotM (Memref.whole cc0_scratch1) (m3 c) (sz_le c)
/-- Partial sums received. -/
abbrev mXR (c : ℕ) : Memref sig .tc .vmem (sh2 (sz c)) .bf16 := slotM (Memref.whole cc0_scratch2) (m4 c) (sz_le c)
/-- Loaded residual. -/
abbrev mR (c : ℕ) : Memref sig .tc .vmem (sh2 (sz c)) .f32 := slotM (Memref.whole cc0_scratch3) (m4 c) (sz_le c)
/-- Normalised rows to send. -/
abbrev mYS (c : ℕ) : Memref sig .tc .vmem (sh2 (sz c)) .bf16 := slotM (Memref.whole cc0_scratch4) (m2 c) (sz_le c)
/-- Normalised rows received. -/
abbrev mYR (c : ℕ) : Memref sig .tc .vmem (sh2 (sz c)) .bf16 := slotM (Memref.whole cc0_scratch5) (m3 c) (sz_le c)
/-- Own result rows to store. -/
abbrev mOM (c : ℕ) : Memref sig .tc .vmem (sh2 (sz c)) .f32 := slotM (Memref.whole cc0_scratch6) (m2 c) (sz_le c)
/-- The other half's result rows to store. -/
abbrev mOO (c : ℕ) : Memref sig .tc .vmem (sh2 (sz c)) .f32 := slotM (Memref.whole cc0_scratch7) (m2 c) (sz_le c)

abbrev semP (c : ℕ) : DmaSem sig := ⟨1 + 2 * (c % 4), by have := m4 c; show _ < 25; omega⟩
abbrev semR (c : ℕ) : DmaSem sig := ⟨1 + (2 * (c % 4) + 1), by have := m4 c; show _ < 25; omega⟩
abbrev semOM (c : ℕ) : DmaSem sig := ⟨9 + c % 2, by have := m2 c; show _ < 25; omega⟩
abbrev semOO (c : ℕ) : DmaSem sig := ⟨11 + c % 2, by have := m2 c; show _ < 25; omega⟩
abbrev semXS (c : ℕ) : DmaSem sig := ⟨13 + c % 3, by have := m3 c; show _ < 25; omega⟩
abbrev semXR (c : ℕ) : DmaSem sig := ⟨16 + c % 4, by have := m4 c; show _ < 25; omega⟩
abbrev semYS (c : ℕ) : DmaSem sig := ⟨20 + c % 2, by have := m2 c; show _ < 25; omega⟩
abbrev semYR (c : ℕ) : DmaSem sig := ⟨22 + c % 3, by have := m3 c; show _ < 25; omega⟩
abbrev semCX : Sem sig := ⟨0, by decide⟩
abbrev semCY : Sem sig := ⟨1, by decide⟩
abbrev semB : Sem sig := sig.barrier 0 rfl

variable {F : FTy → Type} [FloatOps F]

/-! ## The values stored -/

/-- Partial sums narrowed for the wire. -/
def narrow {n : ℕ} (v : Vec F (sh3 n) .f32) : FVec F (sh3 n) .bf16 :=
  shapeCast (sh3 n) (truncf .bf16 (shapeCast (sh2 n) v (casts32 n)) bitsLt_bf16_f32) (casts23 n)

/-- The chunk's sum of both partials and the residual. -/
def ysum {n : ℕ} (p : Vec F (sh3 n) .f32) (x : Vec F (sh3 n) .bf16) (r : Vec F (sh3 n) .f32) : FVec F (sh2 n) .f32 :=
  addf (addf (shapeCast (sh2 n) p (casts32 n)) (extf .f32 (shapeCast (sh2 n) x (casts32 n)) bitsLt_bf16_f32))
    (shapeCast (sh2 n) r (casts32 n))

/-- The normalised chunk. -/
def norm {n : ℕ} (p : Vec F (sh3 n) .f32) (x : Vec F (sh3 n) .bf16) (r : Vec F (sh3 n) .f32) (g : Vec F S1x2048 .f32) :
    FVec F (sh2 n) .f32 :=
  mulf
    (mulf (ysum p x r)
      (broadcastTo (sh2 n)
        (rsqrt (addf
          (divf (shapeCast (shC n) (multiReduction .add [1] (sh1 n) (mulf (ysum p x r) (ysum p x r)) 0x00000000#32
              (reduces21 n) (.inl rfl) rfl) (casts1C n))
            (broadcast (shC n) (Scalar.ofBits .f32 0x45000000#32)))
          (broadcast (shC n) (Scalar.ofBits .f32 0x358637BD#32))))
        (bcastC n)))
    (broadcastTo (sh2 n) (shapeCast S1x2048 g shapeCasts_S1x2048_S1x2048) (bcastG n))

/-- as stored, -/
def normF {n : ℕ} (p : Vec F (sh3 n) .f32) (x : Vec F (sh3 n) .bf16) (r : Vec F (sh3 n) .f32) (g : Vec F S1x2048 .f32) :
    FVec F (sh3 n) .f32 := shapeCast (sh3 n) (norm p x r g) (casts23 n)
/-- and as sent. -/
def normB {n : ℕ} (p : Vec F (sh3 n) .f32) (x : Vec F (sh3 n) .bf16) (r : Vec F (sh3 n) .f32) (g : Vec F S1x2048 .f32) :
    FVec F (sh3 n) .bf16 := shapeCast (sh3 n) (truncf .bf16 (norm p x r g) bitsLt_bf16_f32) (casts23 n)
/-- Received rows widened. -/
def widen {n : ℕ} (v : Vec F (sh3 n) .bf16) : FVec F (sh3 n) .f32 :=
  shapeCast (sh3 n) (extf .f32 (shapeCast (sh2 n) v (casts32 n)) bitsLt_bf16_f32) (casts23 n)

/-! ## The phases -/

/-- Start loading chunk `c`. -/
def ldStart (d : Dev nD) (c : ℕ) : Prog (TpuEff nD τ sig (Elt F) Λ₀ .tc) PUnit := do
  Prog.lift (.enqueueDma (pM d c) (.here (mP c)) (.dma (semP c)) ((View.wordExact_bits rfl).reshape _ _) ((View.wordExact_bits rfl).reshape _ _) ⟨Or.inl rfl, trivial⟩)
  Prog.lift (.enqueueDma (rM d c) (.here (mR c)) (.dma (semR c)) (View.wordExact_bits rfl) ((View.wordExact_bits rfl).reshape _ _) ⟨Or.inl rfl, trivial⟩)

/-- Wait for it. -/
def ldWait (d : Dev nD) (c : ℕ) : Prog (TpuEff nD τ sig (Elt F) Λ₀ .tc) PUnit := do
  Prog.lift (.waitDma2 (semP c) (pM d c) (mP c) ((View.wordExact_bits rfl).reshape _ _) ((View.wordExact_bits rfl).reshape _ _))
  Prog.lift (.waitDma2 (semR c) (rM d c) (mR c) (View.wordExact_bits rfl) ((View.wordExact_bits rfl).reshape _ _))

/-- A load of the leading rows of slot `c % k` of a scratch. -/
abbrev rd {k s n : ℕ} {e : EltTy} (m : Memref sig .tc .vmem (shB k) e) (hs : s < k) (hn : n ≤ 256) (h0 : 0 < n) :
    Prog (TpuEff nD τ sig (Elt F) Λ₀ .tc) (Vec F (sh3 n) e) :=
  Prog.lift (.load m (slotRect hs hn).toLoadRect (View.loadsAt_vmem (pos3 h0)))

/-- A store of single-precision rows to a slot, after a read of the slot nothing uses. -/
abbrev wrF {k s n : ℕ} (m : Memref sig .tc .vmem (shB k) .f32) (hs : s < k) (hn : n ≤ 256) (h0 : 0 < n)
    (v : FVec F (sh3 n) .f32) : Prog (TpuEff nD τ sig (Elt F) Λ₀ .tc) PUnit := do
  let _ : Vec F (sh3 n) .f32 ← rd m hs hn h0
  Prog.lift (.store m (slotRect hs hn) v Finset.univ (View.stores_vmem_bits_univ (pos3 h0) rfl) (.inl rfl))

/-- The same for half-precision rows. -/
abbrev wrB {k s n : ℕ} (m : Memref sig .tc .vmem (shB k) .bf16) (hm : m.IsWhole) (hs : s < k) (hn : n ≤ 256) (h0 : 0 < n) (h2 : 2 ∣ n)
    (v : FVec F (sh3 n) .bf16) : Prog (TpuEff nD τ sig (Elt F) Λ₀ .tc) PUnit := do
  let _ : Vec F (sh3 n) .bf16 ← rd m hs hn h0
  Prog.lift (.store m (slotRect hs hn) v Finset.univ (View.stores_vmem (pos3 h0) (hm.storeExact_slice rfl _ (slot_packed hs hn h2)) (fun _ => rfl)) (.inl rfl))

/-- Narrow chunk `c` into its send slot, wait for a credit and send it along x. -/
def xSend (d : Dev nD) (c : ℕ) : Prog (TpuEff nD τ sig (Elt F) Λ₀ .tc) PUnit := do
  let v : Vec F (sh3 (sz c)) .f32 ← rd (Memref.whole cc0_scratch0) (m4 c) (sz_le c) (sz_pos c)
  wrB (Memref.whole cc0_scratch1) (Memref.isWhole_whole _) (m3 c) (sz_le c) (sz_pos c) (sz_even c) (narrow v)
  semWaitWord semCX 1#32
  Prog.lift (.enqueueDma (mXS c) (.remote (Dev.tc (xN d)) (mXR c) (.dma (semXS c))) (.dma (semXR c))
    (((Memref.isWhole_whole _).wordExact_slice rfl _ (slot_words (m3 c) (sz_le c) (sz_even c))).reshape _ _)
    (((Memref.isWhole_whole _).wordExact_slice rfl _ (slot_words (m4 c) (sz_le c) (sz_even c))).reshape _ _) ⟨⟨rfl, Or.inl rfl⟩, trivial⟩)

/-- Wait until the send of chunk `c` along x has left its slot. -/
def xSent (c : ℕ) : Prog (TpuEff nD τ sig (Elt F) Λ₀ .tc) PUnit :=
  Prog.lift (.waitDma2 (semXS c) (mXR c) (mXS c)
    (((Memref.isWhole_whole _).wordExact_slice rfl _ (slot_words (m4 c) (sz_le c) (sz_even c))).reshape _ _)
    (((Memref.isWhole_whole _).wordExact_slice rfl _ (slot_words (m3 c) (sz_le c) (sz_even c))).reshape _ _))

/-- Wait until the neighbour's chunk `c` has arrived. -/
def xRecv (c : ℕ) : Prog (TpuEff nD τ sig (Elt F) Λ₀ .tc) PUnit :=
  Prog.lift (.waitDma2 (semXR c) (mXS c) (mXR c)
    (((Memref.isWhole_whole _).wordExact_slice rfl _ (slot_words (m3 c) (sz_le c) (sz_even c))).reshape _ _)
    (((Memref.isWhole_whole _).wordExact_slice rfl _ (slot_words (m4 c) (sz_le c) (sz_even c))).reshape _ _))

/-- Wait until the send of chunk `c` along y has left its slot. -/
def ySent (c : ℕ) : Prog (TpuEff nD τ sig (Elt F) Λ₀ .tc) PUnit :=
  Prog.lift (.waitDma2 (semYS c) (mYR c) (mYS c)
    (((Memref.isWhole_whole _).wordExact_slice rfl _ (slot_words (m3 c) (sz_le c) (sz_even c))).reshape _ _)
    (((Memref.isWhole_whole _).wordExact_slice rfl _ (slot_words (m2 c) (sz_le c) (sz_even c))).reshape _ _))

/-- Wait until the neighbour's normalised chunk `c` has arrived. -/
def yRecv (c : ℕ) : Prog (TpuEff nD τ sig (Elt F) Λ₀ .tc) PUnit :=
  Prog.lift (.waitDma2 (semYR c) (mYS c) (mYR c)
    (((Memref.isWhole_whole _).wordExact_slice rfl _ (slot_words (m2 c) (sz_le c) (sz_even c))).reshape _ _)
    (((Memref.isWhole_whole _).wordExact_slice rfl _ (slot_words (m3 c) (sz_le c) (sz_even c))).reshape _ _))

/-- Send chunk `c` along y. -/
def ySend (d : Dev nD) (c : ℕ) : Prog (TpuEff nD τ sig (Elt F) Λ₀ .tc) PUnit := do
  semWaitWord semCY 1#32
  Prog.lift (.enqueueDma (mYS c) (.remote (Dev.tc (yN d)) (mYR c) (.dma (semYS c))) (.dma (semYR c))
    (((Memref.isWhole_whole _).wordExact_slice rfl _ (slot_words (m2 c) (sz_le c) (sz_even c))).reshape _ _)
    (((Memref.isWhole_whole _).wordExact_slice rfl _ (slot_words (m3 c) (sz_le c) (sz_even c))).reshape _ _) ⟨⟨rfl, Or.inl rfl⟩, trivial⟩)

/-- Start, and wait for, the store of the own rows of chunk `c`. -/
def omStart (d : Dev nD) (c : ℕ) : Prog (TpuEff nD τ sig (Elt F) Λ₀ .tc) PUnit :=
  Prog.lift (.enqueueDma (mOM c) (.here (omM d c)) (.dma (semOM c)) ((View.wordExact_bits rfl).reshape _ _) (View.wordExact_bits rfl) ⟨Or.inl rfl, trivial⟩)
@[inherit_doc omStart] def omWait (d : Dev nD) (c : ℕ) : Prog (TpuEff nD τ sig (Elt F) Λ₀ .tc) PUnit :=
  Prog.lift (.waitDma2 (semOM c) (mOM c) (omM d c) ((View.wordExact_bits rfl).reshape _ _) (View.wordExact_bits rfl))
/-- Start, and wait for, the store of the other half's rows of chunk `c`. -/
def ooStart (d : Dev nD) (c : ℕ) : Prog (TpuEff nD τ sig (Elt F) Λ₀ .tc) PUnit :=
  Prog.lift (.enqueueDma (mOO c) (.here (ooM d c)) (.dma (semOO c)) ((View.wordExact_bits rfl).reshape _ _) (View.wordExact_bits rfl) ⟨Or.inl rfl, trivial⟩)
@[inherit_doc ooStart] def ooWait (d : Dev nD) (c : ℕ) : Prog (TpuEff nD τ sig (Elt F) Λ₀ .tc) PUnit :=
  Prog.lift (.waitDma2 (semOO c) (mOO c) (ooM d c) ((View.wordExact_bits rfl).reshape _ _) (View.wordExact_bits rfl))

/-- A program run only where `p` holds. -/
abbrev only (p : Prop) [Decidable p] (x : Prog (TpuEff nD τ sig (Elt F) Λ₀ .tc) PUnit) :
    Prog (TpuEff nD τ sig (Elt F) Λ₀ .tc) PUnit := if p then x else .ret ⟨⟩

variable (gM : Memref sig .tc .vmem S1x2048 .f32)

/-- Normalise chunk `c`: its own rows to store, and the same narrowed for the wire. -/
def compute (d : Dev nD) (c : ℕ) : Prog (TpuEff nD τ sig (Elt F) Λ₀ .tc) PUnit := do
  let p : Vec F (sh3 (sz c)) .f32 ← rd (Memref.whole cc0_scratch0) (m4 c) (sz_le c) (sz_pos c)
  let x : Vec F (sh3 (sz c)) .bf16 ← rd (Memref.whole cc0_scratch2) (m4 c) (sz_le c) (sz_pos c)
  let r : Vec F (sh3 (sz c)) .f32 ← rd (Memref.whole cc0_scratch3) (m4 c) (sz_le c) (sz_pos c)
  let g : Vec F S1x2048 .f32 ← Prog.lift (.load gM (Rect.unit (s := S1x2048) ![0, 0] S1x2048.size inb_S1x2048_S1x2048_0_0).toLoadRect (View.loadsAt_vmem h_S1x2048))
  only (2 ≤ c) (omWait d (c - 2))
  wrF (Memref.whole cc0_scratch6) (m2 c) (sz_le c) (sz_pos c) (normF p x r g)
  only (c < 16) (semSignalWord (xN d) semCX 1#32)
  only (2 ≤ c) (ySent (c - 2))
  wrB (Memref.whole cc0_scratch4) (Memref.isWhole_whole _) (m2 c) (sz_le c) (sz_pos c) (sz_even c) (normB p x r g)

/-- The first half of iteration `c`: prepare the send of chunk `c + 2`, and the rows of chunk `c`. -/
def stepA (d : Dev nD) (c : ℕ) : Prog (TpuEff nD τ sig (Elt F) Λ₀ .tc) PUnit := do
  only (1 ≤ c ∧ c < 18) do
    ldWait d (c + 2)
    xSent (c - 1)
    xSend d (c + 2)
  only (c = 0) do
    ldWait d (c + 2)
    xSend d (c + 2)
  xRecv c
  compute gM d c
  omStart d c
  only (c < 17) (ldStart d (c + 3))
  ySend d c

/-- The second half: the other half's rows of chunk `e`. -/
def stepB (d : Dev nD) (e : ℕ) : Prog (TpuEff nD τ sig (Elt F) Λ₀ .tc) PUnit := do
  yRecv e
  only (2 ≤ e) (ooWait d (e - 2))
  let v : Vec F (sh3 (sz e)) .bf16 ← rd (Memref.whole cc0_scratch5) (m3 e) (sz_le e) (sz_pos e)
  wrF (Memref.whole cc0_scratch7) (m2 e) (sz_le e) (sz_pos e) (widen v)
  only (e < 17) (semSignalWord (yN d) semCY 1#32)
  ooStart d e

/-- Iterations `c … c+n-1`. -/
def steps (d : Dev nD) (c : ℕ) : ℕ → Prog (TpuEff nD τ sig (Elt F) Λ₀ .tc) PUnit → Prog (TpuEff nD τ sig (Elt F) Λ₀ .tc) PUnit
  | 0, k => k
  | n + 1, k => do
    stepA gM d c
    stepB d (c - 1)
    steps d (c + 1) n k

/-- What precedes the first iteration. -/
def begin (d : Dev nD) : Prog (TpuEff nD τ sig (Elt F) Λ₀ .tc) PUnit := do
  semSignalWord (xN d) semB 1#32
  semSignalWord (yN d) semB 1#32
  semWaitWord semB 2#32
  semSignalWord (xN d) semCX 4#32
  semSignalWord (yN d) semCY 3#32
  ldStart d 0
  ldStart d 1
  ldStart d 2
  ldWait d 0
  xSend d 0
  ldWait d 1
  xSend d 1

/-- What follows the last one. -/
def finish (d : Dev nD) : Prog (TpuEff nD τ sig (Elt F) Λ₀ .tc) PUnit := do
  stepB d 19
  xSent 17
  xSent 18
  xSent 19
  ySent 18
  ySent 19
  omWait d 18
  omWait d 19
  ooWait d 18
  ooWait d 19

/-- The body. -/
def body : Prog (TpuEff nD τ sig (Elt F) Λ₀ .tc) PUnit := do
  let d : Dev nD ← Prog.lift .deviceId
  begin d
  stepA gM d 0
  steps gM d 1 19 (finish d)

end Cert.KernelIdeal.Body

end
-- ==== Proof.Slots.lean ====
/- Slots of a scratch of several buffers, held whole, and what is read from their leading rows. -/
module

public import proofs.«01_k».proof.Proof.Program
public import proofs.«01_k».proof.Proof.Gen.KernelIdeal.Launch
public import Idealize.ShloMosaic.Lib.Pipeline.Launch
public import Idealize.ShloMosaic.Lib.Pipeline.Kit
public import Idealize.ShloMosaic.Lib.Transfers
public import Idealize.ShloMosaic.Lib.Release
public import Idealize.ShloMosaic.Lib.Pipeline.Value
public import Idealize.ShloMosaic.Lib.ViewIndex
public import Idealize.ShloMosaic.Lib.Tactic

@[expose] public section

noncomputable section

namespace Cert.KernelIdeal.Body

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release Idealize.ShloMosaic.Transfers

variable {F : FTy → Type} [FloatOps F]

/-! ## The resources -/

/-- One slot handed back to its writer: the device whose slot it is, whether it is received into along
    the first axis, and the chunk that was in it. -/
abbrev Key : Type := Dev nD × (Bool × ℕ)

abbrev UU : Type := UR sig nD τ × (URounds (GSem nD τ sig) ℕ × (USlots Key × Counters))

local notation "𝕄" => MT nD τ sig ℕ (Elt F) ℕ UU ℕ

abbrev EP : Emb (UR sig nD τ) (MT nD τ sig ℕ (Elt F) ℕ UU ℕ) := embL
abbrev ER : Emb (URounds (GSem nD τ sig) ℕ) (MT nD τ sig ℕ (Elt F) ℕ UU ℕ) := Emb.inl.trans embR
abbrev ES : Emb (USlots Key) (MT nD τ sig ℕ (Elt F) ℕ UU ℕ) := (Emb.inl.trans Emb.inr).trans embR
abbrev EC : UEmb Counters (MT nD τ sig ℕ (Elt F) ℕ UU ℕ) := countersEmb

abbrev 𝒱₀ : Variants := Variants.none

/-- Device `d` runs `x` and ends with `Q`. -/
abbrev Runs (d : Dev nD) (x : Prog (TpuEff nD τ sig (Elt F) Λ₀ .tc) PUnit) (Q : sProp 𝕄) : sProp 𝕄 :=
  wp frame (wpE (defs₀ (F := F)) 𝒱₀ (d : Thread nD τ) none) Set.univ x (fun _ => Q)

/-- Run a phase, then the rest with what the phase leaves. -/
theorem seq {d : Dev nD} {P Q R : sProp 𝕄} {x : Prog (TpuEff nD τ sig (Elt F) Λ₀ .tc) PUnit}
    {k : PUnit → Prog (TpuEff nD τ sig (Elt F) Λ₀ .tc) PUnit} (h : P ⊢ Runs d x Q) :
    P ⊢ iprop((Q -∗ Runs d (k ⟨⟩) R) -∗ Runs d (x >>= k) R) := by
  unfold Runs
  rw [wp_bind]
  iintro HP Hk
  iapply (wp_wand frame _ (Q := fun _ => Q)) $$ [HP]
  · iapply h; iexact HP
  iintro %u HQ
  iapply Hk; iexact HQ

/-- A program run only where `p` holds. -/
theorem only_runs {d : Dev nD} {p : Prop} [Decidable p] {P Q : sProp 𝕄} {x : Prog (TpuEff nD τ sig (Elt F) Λ₀ .tc) PUnit}
    (h : p → P ⊢ Runs d x Q) (h' : ¬p → P ⊢ Q) : P ⊢ Runs d (only p x) Q := by
  unfold only
  by_cases hp : p
  · rw [if_pos hp]; exact h hp
  · rw [if_neg hp]; exact (h' hp).trans (le_wp_ret frame _ _ PUnit.unit (fun _ => Q))

/-! ## Slots -/

section Slot

variable {n : ℕ} {e : EltTy} (M : Memref sig .tc .vmem (shB n) e) (h0 : 0 < n) (k : ℕ)

/-- The leading `sz k` rows of slot `k % n`. -/
abbrev sub : Memref sig .tc .vmem (sh2 (sz k)) e := slotM M (Nat.mod_lt k h0) (sz_le k)

/-- The elements of slot `k % n`. -/
def slotI : Finset M.view.ty.Idx := (M.view.slice (slotRect (Nat.mod_lt k h0) (le_refl 256))).set

theorem sub_set : (sub M h0 k).view.set = (M.view.slice (slotRect (Nat.mod_lt k h0) (sz_le k))).set :=
  View.set_reshape _ _

theorem slice_subset : (M.view.slice (slotRect (Nat.mod_lt k h0) (sz_le k))).set ⊆ slotI M h0 k := by
  unfold slotI
  rw [View.set_slice, View.set_slice]
  refine Finset.map_subset_map.mpr fun i hi => ?_
  rw [Rect.mem_set_unit] at hi ⊢
  intro a
  have := hi a
  have hz := sz_le k
  match a with
  | ⟨0, _⟩ => exact this
  | ⟨1, _⟩ => exact ⟨this.1, lt_of_lt_of_le this.2 (Nat.add_le_add_left hz 0)⟩
  | ⟨2, _⟩ => exact this

theorem setOn_subset : M.view.setOn (slotRect (Nat.mod_lt k h0) (sz_le k)).toLoadRect.set ⊆ slotI M h0 k := by
  have h := slice_subset M h0 k
  rw [View.set_slice] at h; exact h

theorem sub_subset : (sub M h0 k).view.set ⊆ slotI M h0 k := (sub_set M h0 k).symm ▸ slice_subset M h0 k

theorem slotI_add : slotI M h0 (k + n) = slotI M h0 k := by
  have h : ∀ s s' (hs : s < n) (hs' : s' < n), s = s' →
      (M.view.slice (slotRect hs (le_refl 256))).set = (M.view.slice (slotRect hs' (le_refl 256))).set := by
    rintro s _ hs hs' rfl; rfl
  exact h _ _ _ _ (Nat.add_mod_right k n)

theorem slotI_disjoint {k k' : ℕ} (h : k % n ≠ k' % n) : Disjoint (slotI M h0 k) (slotI M h0 k') := by
  unfold slotI
  refine View.disjoint_slice (Rect.unit_disjoint (s := shB n) 0 ?_)
  show k % n + 1 ≤ k' % n ∨ k' % n + 1 ≤ k % n
  omega

theorem slotI_union : (Finset.range n).biUnion (slotI M h0) = M.view.set := by
  ext i
  rw [Finset.mem_biUnion]
  constructor
  · rintro ⟨s, -, hs⟩; exact View.set_slice_subset (v := M.view) _ hs
  · intro hi
    obtain ⟨x, -, rfl⟩ := Finset.mem_map.mp hi
    have hx : (x 0).val < n := (x 0).isLt
    refine ⟨(x 0).val, Finset.mem_range.mpr hx, ?_⟩
    unfold slotI
    rw [View.set_slice]
    refine Finset.mem_map_of_mem _ (Rect.mem_set_unit.mpr fun a => ?_)
    match a with
    | ⟨0, _⟩ => exact ⟨(Nat.mod_eq_of_lt hx).le, by show (x 0).val < _ % n + 1; rw [Nat.mod_eq_of_lt hx]; omega⟩
    | ⟨1, _⟩ => exact ⟨Nat.zero_le _, by have : (x 1).val < 256 := (x 1).isLt; show (x 1).val < 0 + 256; omega⟩
    | ⟨2, _⟩ => exact ⟨Nat.zero_le _, by have : (x 2).val < 2048 := (x 2).isLt; show (x 2).val < 0 + 2048; omega⟩

variable (d : Dev nD)

/-- The slot, whatever it holds; -/
def Full : sProp 𝕄 := iprop(∃ f, M.view.loc (d : Thread nD τ) ↦[slotI M h0 k]{fullShare} f)
/-- with chunk `k`'s rows holding `v`; -/
def Has (v : (sh2 (sz k)).Idx → Elt F e) : sProp 𝕄 :=
  iprop(∃ f, ⌜(sub M h0 k).view.read (Elt F) f = v⌝ ∗ M.view.loc (d : Thread nD τ) ↦[slotI M h0 k]{fullShare} f)
/-- the rows of chunk `k` alone; -/
def Sub : sProp 𝕄 := iprop(∃ f, M.view.loc (d : Thread nD τ) ↦[(sub M h0 k).view.set]{fullShare} f)
/-- the others. -/
def Rest : sProp 𝕄 := iprop(∃ f, M.view.loc (d : Thread nD τ) ↦[slotI M h0 k \ (sub M h0 k).view.set]{fullShare} f)

theorem Has_full (v : (sh2 (sz k)).Idx → Elt F e) : Has (F := F) M h0 k d v ⊢ Full M h0 k d := by
  unfold Has Full; iintro ⟨%f, -, H⟩; iexists f; iexact H

theorem Sub_rest : iprop(Sub (F := F) M h0 k d ∗ Rest M h0 k d) ⊢ Full M h0 k d := by
  unfold Sub Rest Full
  iintro ⟨⟨%f, H⟩, ⟨%g, G⟩⟩
  iexists _
  iapply (pointsTo_join_subset (sub_subset M h0 k))
  isplitl [H] <;> iassumption

theorem split_sub (f : M.view.ty.Contents (Elt F)) :
    (M.view.loc (d : Thread nD τ) ↦[slotI M h0 k]{fullShare} f : sProp 𝕄)
      ⊢ iprop((M.view.loc (d : Thread nD τ) ↦[(sub M h0 k).view.set]{fullShare} f) ∗ Rest M h0 k d) := by
  unfold Rest
  refine (pointsTo_split_subset (sub_subset M h0 k)).1.trans ?_
  iintro ⟨H, G⟩
  isplitl [H]; · iexact H
  iexists f; iexact G

theorem Full_add : Full (F := F) M h0 (k + n) d = Full M h0 k d := by
  unfold Full; rw [slotI_add]

instance Full_storable : Storable (upEmb : UEmb _ 𝕄) (Full (F := F) M h0 k d) := by unfold Full; infer_instance
instance Has_storable (v : (sh2 (sz k)).Idx → Elt F e) : Storable (upEmb : UEmb _ 𝕄) (Has (F := F) M h0 k d v) := by
  unfold Has; infer_instance
instance Sub_storable : Storable (upEmb : UEmb _ 𝕄) (Sub (F := F) M h0 k d) := by unfold Sub; infer_instance

/-- All the slots are the scratch. -/
theorem slots_of (f : M.view.ty.Contents (Elt F)) :
    (M.view.loc (d : Thread nD τ) ↦[M.view.set]{fullShare} f : sProp 𝕄) ⊢ bigSep (Finset.range n) fun s => Full M h0 s d := by
  rw [← slotI_union M h0, pointsTo_biUnion _ _ fun t ht t' ht' hne => slotI_disjoint M h0 (by
    rw [Nat.mod_eq_of_lt (Finset.mem_range.mp ht), Nat.mod_eq_of_lt (Finset.mem_range.mp ht')]; exact hne)]
  refine bigSep_mono fun s _ => (show (M.view.loc (d : Thread nD τ) ↦[slotI M h0 s]{fullShare} f : sProp 𝕄) ⊢ Full M h0 s d from ?_)
  unfold Full; iintro H; iexists f; iexact H

theorem slots_join (f₀ : M.view.ty.Contents (Elt F)) : (bigSep (Finset.range n) fun s => Full M h0 s d)
    ⊢ (iprop(∃ f, M.view.loc (d : Thread nD τ) ↦[M.view.set]{fullShare} f) : sProp 𝕄) := by
  unfold Full
  refine (BI.bigSep_exists_pi (Finset.range n) _).trans ?_
  iintro ⟨%fs, H⟩
  ihave H := (pointsTo_biUnion_join (ℓ := M.view.loc (d : Thread nD τ)) _ _ fs f₀ fun t ht t' ht' hne => slotI_disjoint M h0 (by
    rw [Nat.mod_eq_of_lt (Finset.mem_range.mp ht), Nat.mod_eq_of_lt (Finset.mem_range.mp ht')]; exact hne)) $$ H
  icases H with ⟨%g, -, H⟩
  iexists g
  rw [slotI_union]; iexact H

/-! ## Reading and storing the leading rows -/

variable {k d}

/-- A load of the leading rows. -/
theorem rd_runs {R : sProp 𝕄} {hs : k % n < n} {hn : sz k ≤ 256} {hp : 0 < sz k}
    {K : Vec F (sh3 (sz k)) e → Prog (TpuEff nD τ sig (Elt F) Λ₀ .tc) PUnit} (v : (sh2 (sz k)).Idx → Elt F e) :
    Has M h0 k d v ⊢ iprop((∀ w : Vec F (sh3 (sz k)) e, ⌜shapeCast (sh2 (sz k)) w (casts32 (sz k)) = v⌝ -∗ Has M h0 k d v -∗ Runs d (K w) R)
      -∗ Runs d (rd M hs hn hp >>= K) R) := by
  unfold Has rd Runs
  simp only [Prog.lift, Prog.bind_op, Prog.bind_ret]
  iintro ⟨%f, %hf, H⟩ Hk
  iapply (wp_load 𝒱₀ (d : Thread nD τ) none Set.univ (m := M) (S := slotI M h0 k) (setOn_subset M h0 k)) $$ H
  iintro H
  iapply Hk $$ %_
  · ipureintro; exact hf
  · iexists f
    isplitr; · ipureintro; exact hf
    iexact H

/-- A read of a slot whose contents are not used. -/
theorem rd_any {R : sProp 𝕄} {hs : k % n < n} {hn : sz k ≤ 256} {hp : 0 < sz k}
    {K : Vec F (sh3 (sz k)) e → Prog (TpuEff nD τ sig (Elt F) Λ₀ .tc) PUnit} :
    Full M h0 k d ⊢ iprop((∀ w, Full M h0 k d -∗ Runs d (K w) R) -∗ Runs d (rd M hs hn hp >>= K) R) := by
  unfold Full rd Runs
  simp only [Prog.lift, Prog.bind_op, Prog.bind_ret]
  iintro ⟨%f, H⟩ Hk
  iapply (wp_load 𝒱₀ (d : Thread nD τ) none Set.univ (m := M) (S := slotI M h0 k) (setOn_subset M h0 k)) $$ H
  iintro H
  iapply Hk $$ %_
  iexists f; iexact H

theorem stored (f : M.view.ty.Contents (Elt F)) (v : (sh2 (sz k)).Idx → Elt F e) :
    (sub M h0 k).view.read (Elt F) ((M.access (slotRect (Nat.mod_lt k h0) (sz_le k))).write (Elt F) f (shapeCast (sh3 (sz k)) v (casts23 (sz k))) Finset.univ) = v := by
  refine Eq.trans ?_ (shapeCast_shapeCast v (casts23 (sz k)) (casts32 (sz k)))
  exact congrArg (fun w : (sh3 (sz k)).Idx → Elt F e => shapeCast (sh2 (sz k)) w (casts32 (sz k)))
    (View.read_write_univ (v := M.view.slice (slotRect (Nat.mod_lt k h0) (sz_le k))) f (shapeCast (sh3 (sz k)) v (casts23 (sz k))))

end Slot

theorem wrF_runs {n : ℕ} (M : Memref sig .tc .vmem (shB n) .f32) (h0 : 0 < n) {k : ℕ} {d : Dev nD}
    {hs : k % n < n} {hn : sz k ≤ 256} {hp : 0 < sz k} (v : (sh2 (sz k)).Idx → Elt F .f32) :
    Full M h0 k d ⊢ Runs d (wrF M hs hn hp (shapeCast (sh3 (sz k)) v (casts23 (sz k)))) (Has M h0 k d v) := by
  unfold wrF
  iintro H
  iapply (rd_any M h0) $$ H
  iintro %w H
  unfold Full Has Runs
  icases H with ⟨%f, H⟩
  iapply (wp_store 𝒱₀ (d : Thread nD τ) none Set.univ (m := M) (r := slotRect hs hn) (Mk := Finset.univ) (S := slotI M h0 k)
    (slice_subset M h0 k)) $$ H
  iintro H
  rw [wp_ret]; imodintro
  iexists _
  isplitr; swap; · iexact H
  ipureintro; exact stored M h0 f v

theorem wrB_runs {n : ℕ} (M : Memref sig .tc .vmem (shB n) .bf16) (h0 : 0 < n) {k : ℕ} {d : Dev nD} {hm : M.IsWhole}
    {hs : k % n < n} {hn : sz k ≤ 256} {hp : 0 < sz k} {h2 : 2 ∣ sz k} (v : (sh2 (sz k)).Idx → Elt F .bf16) :
    Full M h0 k d ⊢ Runs d (wrB M hm hs hn hp h2 (shapeCast (sh3 (sz k)) v (casts23 (sz k)))) (Has M h0 k d v) := by
  unfold wrB
  iintro H
  iapply (rd_any M h0) $$ H
  iintro %w H
  unfold Full Has Runs
  icases H with ⟨%f, H⟩
  iapply (wp_store 𝒱₀ (d : Thread nD τ) none Set.univ (m := M) (r := slotRect hs hn) (Mk := Finset.univ) (S := slotI M h0 k)
    (slice_subset M h0 k)) $$ H
  iintro H
  rw [wp_ret]; imodintro
  iexists _
  isplitr; swap; · iexact H
  ipureintro; exact stored M h0 f v

end Cert.KernelIdeal.Body

end
-- ==== Proof.Values.lean ====
/- The two exchanges, their buffers, and the values that travel. -/
module

public import proofs.«01_k».proof.Proof.Slots

@[expose] public section

noncomputable section

namespace Cert.KernelIdeal.Body

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release Idealize.ShloMosaic.Transfers

variable {F : FTy → Type} [FloatOps F]

/-! ## The two exchanges -/

/-- The exchange of partial sums along the first mesh axis, and that of normalised rows along the second. -/
inductive Ax
  | x
  | y
  deriving DecidableEq

instance : Fintype Ax := ⟨{.x, .y}, fun a => by cases a <;> decide⟩

/-- Send slots, -/
abbrev Ax.nS : Ax → ℕ
  | .x => 3
  | .y => 2
/-- and receive slots. -/
abbrev Ax.nR : Ax → ℕ
  | .x => 4
  | .y => 3

theorem Ax.nS_pos (a : Ax) : 0 < a.nS := by cases a <;> decide
theorem Ax.nR_pos (a : Ax) : 0 < a.nR := by cases a <;> decide

/-- The axis, told by a truth value. -/
def Ax.isX : Ax → Bool
  | .x => true
  | .y => false
def Ax.ofX (b : Bool) : Ax := if b then .x else .y
theorem Ax.ofX_isX (a : Ax) : Ax.ofX a.isX = a := by cases a <;> rfl

/-- The device's neighbour. -/
abbrev nb : Ax → Dev nD → Dev nD
  | .x => xN
  | .y => yN

theorem nb_nb (a : Ax) (d : Dev nD) : nb a (nb a d) = d := by cases a <;> revert d <;> decide

abbrev mSW : (a : Ax) → Memref sig .tc .vmem (shB a.nS) .bf16
  | .x => Memref.whole cc0_scratch1
  | .y => Memref.whole cc0_scratch4
abbrev mRW : (a : Ax) → Memref sig .tc .vmem (shB a.nR) .bf16
  | .x => Memref.whole cc0_scratch2
  | .y => Memref.whole cc0_scratch5

/-- Where chunk `k` is sent from, -/
abbrev mSnd (a : Ax) (k : ℕ) : Memref sig .tc .vmem (sh2 (sz k)) .bf16 := sub (mSW a) a.nS_pos k
/-- and where it is received. -/
abbrev mRcv (a : Ax) (k : ℕ) : Memref sig .tc .vmem (sh2 (sz k)) .bf16 := sub (mRW a) a.nR_pos k

abbrev semS : Ax → ℕ → DmaSem sig
  | .x, k => semXS k
  | .y, k => semYS k
abbrev semV : Ax → ℕ → DmaSem sig
  | .x, k => semXR k
  | .y, k => semYR k
abbrev semK : Ax → Sem sig
  | .x => semCX
  | .y => semCY

/-- What the transfer of chunk `k` counts on a semaphore. -/
def cnt (a : Ax) (k : ℕ) : ℕ := (mRcv a k).view.dmaCredit

theorem cnt_pos (a : Ax) (k : ℕ) : 0 < cnt a k :=
  View.dmaCredit_pos _ (by
    show 0 < (sh2 (sz k)).numel
    have := sz_pos k
    simp [Shape.numel, Shape.prodPi]; omega)

theorem cnt_snd (a : Ax) (k : ℕ) : (mSnd a k).view.dmaCredit = cnt a k := by cases a <;> rfl

/-! ## The values -/

/-- `norm` of matrices. -/
def norm2 {n : ℕ} (p : Vec F (sh2 n) .f32) (x : Vec F (sh2 n) .bf16) (r : Vec F (sh2 n) .f32) (g : Vec F S1x2048 .f32) :
    FVec F (sh2 n) .f32 :=
  let y : FVec F (sh2 n) .f32 := addf (addf p (extf .f32 x bitsLt_bf16_f32)) r
  mulf
    (mulf y
      (broadcastTo (sh2 n)
        (rsqrt (addf
          (divf (shapeCast (shC n) (multiReduction .add [1] (sh1 n) (mulf y y) 0x00000000#32
              (reduces21 n) (.inl rfl) rfl) (casts1C n))
            (broadcast (shC n) (Scalar.ofBits .f32 0x45000000#32)))
          (broadcast (shC n) (Scalar.ofBits .f32 0x358637BD#32))))
        (bcastC n)))
    (broadcastTo (sh2 n) (shapeCast S1x2048 g shapeCasts_S1x2048_S1x2048) (bcastG n))

theorem norm_eq {n : ℕ} (p : Vec F (sh3 n) .f32) (x : Vec F (sh3 n) .bf16) (r : Vec F (sh3 n) .f32) (g : Vec F S1x2048 .f32) :
    norm p x r g = norm2 (shapeCast (sh2 n) p (casts32 n)) (shapeCast (sh2 n) x (casts32 n)) (shapeCast (sh2 n) r (casts32 n)) g := rfl

variable (m : (ℓ : Loc nD τ sig) → Buf (Elt F) ℓ)

/-- Chunk `k` of the device's partial sums, -/
def pC (d : Dev nD) (k : ℕ) : Vec F (sh2 (sz k)) .f32 := (pM d k).view.read (Elt F) (m ((d : Thread nD τ).loc main_arg0))
/-- of its residual, -/
def rC (d : Dev nD) (k : ℕ) : Vec F (sh2 (sz k)) .f32 := (rM d k).view.read (Elt F) (m ((d : Thread nD τ).loc main_arg1))
/-- and its weights. -/
def gV (d : Dev nD) : Vec F S1x2048 .f32 := m ((d : Thread nD τ).loc main_arg2)

/-- The normalised chunk of the half the device owns. -/
def nV (d : Dev nD) (k : ℕ) : FVec F (sh2 (sz k)) .f32 :=
  norm2 (pC m d k) (truncf .bf16 (pC m (xN d) k) bitsLt_bf16_f32) (rC m d k) (gV m d)

/-- What the device sends. -/
def msg : Ax → Dev nD → (k : ℕ) → FVec F (sh2 (sz k)) .bf16
  | .x, d, k => truncf .bf16 (pC m d k) bitsLt_bf16_f32
  | .y, d, k => truncf .bf16 (nV m d k) bitsLt_bf16_f32

/-- The chunk of the other half, as received. -/
def oV (d : Dev nD) (k : ℕ) : FVec F (sh2 (sz k)) .f32 := extf .f32 (msg m .y (yN d) k) bitsLt_bf16_f32

end Cert.KernelIdeal.Body

end
-- ==== Proof.Times.lean ====
/- What a device still owes, as a function of how far it has come. -/
module

public import proofs.«01_k».proof.Proof.Values

@[expose] public section

noncomputable section

namespace Cert.KernelIdeal.Body

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release Idealize.ShloMosaic.Transfers

variable {F : FTy → Type} [FloatOps F]

local notation "𝕄" => MT nD τ sig ℕ (Elt F) ℕ UU ℕ

/-! ## The cells -/

abbrev bCell (d : Dev nD) : GSem nD τ sig := ((d : Thread nD τ), .reg semB)
abbrev kCell (a : Ax) (d : Dev nD) : GSem nD τ sig := ((d : Thread nD τ), .reg (semK a))
abbrev sCell (a : Ax) (d : Dev nD) (k : ℕ) : GSem nD τ sig := ((d : Thread nD τ), .dma (semS a k))
abbrev vCell (a : Ax) (d : Dev nD) (k : ℕ) : GSem nD τ sig := ((d : Thread nD τ), .dma (semV a k))

/-! ## The times -/

/-- What a device gives its neighbours: the first signals, chunks, and slots. -/
inductive Fam
  | bar
  | dat
  | crd
  deriving DecidableEq

instance : Fintype Fam := ⟨{.bar, .dat, .crd}, fun a => by cases a <;> decide⟩

abbrev Ev := Ax × Fam × Fin 20

/-- The moment of each, and zero of what is never given. -/
def time : Ax → Fam → ℕ → ℕ
  | .x, .bar, k => if k = 0 then 1 else 0
  | .y, .bar, k => if k = 0 then 2 else 0
  | .x, .dat, k => if k < 2 then 5 + k else 4 * k - 1
  | .y, .dat, k => 4 * k + 9
  | .x, .crd, k => if k < 3 then 0 else if k = 3 then 3 else 4 * k - 8
  | .y, .crd, k => if k < 2 then 0 else if k = 2 then 4 else 4 * k + 2

abbrev tm (e : Ev) : ℕ := time e.1 e.2.1 e.2.2.val

/-- How many slots credit `k` stands for. -/
def camt (a : Ax) (k : ℕ) : ℕ := if k + 1 = a.nR then a.nR else 1

theorem camt_pos (a : Ax) (k : ℕ) : 0 < camt a k := by unfold camt; split; exact a.nR_pos; decide

theorem tm_inj (e e' : Ev) (h : tm e ≠ 0) (h' : tm e = tm e') : e = e' := by
  obtain ⟨a, f, k, hk⟩ := e
  obtain ⟨a', f', k', hk'⟩ := e'
  cases a <;> cases f <;> cases a' <;> cases f' <;> simp only [tm, time] at h h' <;>
    first
      | (exfalso; (try split_ifs at h h') <;> omega)
      | (have : k = k' := by (try split_ifs at h h') <;> omega
         subst this; rfl)

theorem tm_le (e : Ev) : tm e ≤ 85 := by
  obtain ⟨a, f, k, hk⟩ := e
  cases a <;> cases f <;> simp only [tm, time] <;> (try split_ifs) <;> omega

/-- The cell of it at the device it goes to, -/
def evCell (a : Ax) (f : Fam) (k : ℕ) (d : Dev nD) : GSem nD τ sig :=
  match f with
  | .bar => bCell d
  | .dat => vCell a d k
  | .crd => kCell a d
/-- and how much. -/
def evAmt (a : Ax) (f : Fam) (k : ℕ) : ℕ :=
  match f with
  | .bar => 1
  | .dat => cnt a k
  | .crd => camt a k

theorem evAmt_pos (a : Ax) (f : Fam) (k : ℕ) : 0 < evAmt a f k := by
  cases f
  · exact Nat.one_pos
  · exact cnt_pos a k
  · exact camt_pos a k

def due (d : Dev nD) (e : Ev) : CellTallies nD τ sig ℕ :=
  tallyAt (evCell e.1 e.2.1 e.2.2.val (nb e.1 d)) (tm e) (evAmt e.1 e.2.1 e.2.2.val)

/-- What the device owes at time `t`. -/
def O (d : Dev nD) (t : ℕ) : CellTallies nD τ sig ℕ := ∑ e : Ev, if t ≤ tm e then due d e else 0

theorem O_step (d : Dev nD) (e : Ev) (h : tm e ≠ 0) : O d (tm e) = O d (tm e + 1) + due d e := by
  unfold O
  rw [show due d e = ∑ e' : Ev, if e' = e then due d e' else 0 by rw [Finset.sum_ite_eq' Finset.univ e]; simp,
    ← Finset.sum_add_distrib]
  refine Finset.sum_congr rfl fun e' _ => ?_
  by_cases he : e' = e
  · subst he; simp
  · have hne : tm e ≠ tm e' := fun h' => he (tm_inj e e' h h').symm
    rw [if_neg he, add_zero]
    by_cases hle : tm e ≤ tm e'
    · rw [if_pos hle, if_pos (by omega)]
    · rw [if_neg hle, if_neg (by omega)]

theorem O_skip (d : Dev nD) (t : ℕ) (h : ∀ e : Ev, tm e ≠ t) : O d t = O d (t + 1) := by
  unfold O
  refine Finset.sum_congr rfl fun e _ => ?_
  have := h e
  by_cases hle : t ≤ tm e
  · rw [if_pos hle, if_pos (by omega)]
  · rw [if_neg hle, if_neg (by omega)]

theorem O_end (d : Dev nD) (t : ℕ) (h : 85 < t) : O d t = 0 := by
  unfold O
  refine Finset.sum_eq_zero fun e _ => ?_
  rw [if_neg]
  have := tm_le e
  omega

/-- Steps at which nothing is given. -/
theorem skip_dat (d : Dev nD) (c : ℕ) (h : 18 ≤ c) : O d (4 * c + 7) = O d (4 * c + 8) :=
  O_skip d (4 * c + 7) fun ⟨a, f, k, hk⟩ => by
    cases a <;> cases f <;> simp only [tm, time] <;> (try split_ifs) <;> omega
theorem skip_crdx (d : Dev nD) (c : ℕ) (h : 16 ≤ c) : O d (4 * c + 8) = O d (4 * c + 9) :=
  O_skip d (4 * c + 8) fun ⟨a, f, k, hk⟩ => by
    cases a <;> cases f <;> simp only [tm, time] <;> (try split_ifs) <;> omega
theorem skip_crdy (d : Dev nD) (c : ℕ) (h : c = 0 ∨ 18 ≤ c) : O d (4 * c + 10) = O d (4 * c + 11) :=
  O_skip d (4 * c + 10) fun ⟨a, f, k, hk⟩ => by
    cases a <;> cases f <;> simp only [tm, time] <;> (try split_ifs) <;> omega

theorem step_at (d : Dev nD) (a : Ax) (f : Fam) (k : ℕ) (hk : k < 20) (t : ℕ) (ht : time a f k = t) (h0 : 0 < t) :
    O d t = O d (t + 1) + tallyAt (evCell a f k (nb a d)) t (evAmt a f k) := by
  subst ht
  exact O_step d (a, f, ⟨k, hk⟩) (by show time a f k ≠ 0; omega)

/-! ## The levels -/

def L (g : GSem nD τ sig) : Finset ℕ := if g.1.2 = .tc then Finset.range 100 else ∅
def lv (g : GSem nD τ sig) (ι : ℕ) : ℕ := ι

theorem evCell_tc (a : Ax) (f : Fam) (k : ℕ) (d : Dev nD) : (evCell a f k d).1.2 = .tc := by cases f <;> rfl

theorem O_support (d : Dev nD) (t : ℕ) (g : GSem nD τ sig) (ι : ℕ) (h : 0 < O d t g ι) : g.1.2 = .tc ∧ t ≤ ι ∧ ι < 100 := by
  unfold O at h
  rw [Finset.sum_apply, Finsupp.finset_sum_apply] at h
  obtain ⟨e, _, he⟩ : ∃ e ∈ Finset.univ, 0 < (if t ≤ tm e then due d e else 0 : CellTallies nD τ sig ℕ) g ι := by
    by_contra hn
    push Not at hn
    exact absurd (Finset.sum_eq_zero fun e he => Nat.le_zero.mp (hn e he)) (by omega)
  have h85 := tm_le e
  split at he
  · rename_i hle
    unfold due at he
    rw [tallyAt_apply] at he
    split at he
    · rename_i hg
      obtain ⟨hg, hi⟩ := hg
      subst hg; subst hi
      exact ⟨evCell_tc _ _ _ _, hle, by omega⟩
    · omega
  · exact absurd he (by simp)

theorem mayOwe (d : Dev nD) (t : ℕ) (N : Waits sig ℕ) (h0 : 0 < t) (h : ∀ p ∈ N, p.2 < t ∧ p.2 < 100) :
    (levAts L lv : sProp 𝕄) ⊢ MayOwe (d : Thread nD τ) N (O d t) :=
  MayOwe.of_cut (L := L) (lev := lv) (t - 1)
    (fun p hp => by
      show p.2 ∈ (if _ then Finset.range 100 else ∅)
      rw [if_pos rfl]; exact Finset.mem_range.mpr (h p hp).2)
    (fun g ι hg => by
      obtain ⟨h1, h2, h3⟩ := O_support d t g ι hg
      unfold L; rw [if_pos h1]; exact Finset.mem_range.mpr h3)
    (fun p hp => by have := (h p hp).1; show p.2 ≤ t - 1; omega)
    (fun g ι hg => by have := (O_support d t g ι hg).2.1; show t - 1 < ι; omega)

end Cert.KernelIdeal.Body

end
-- ==== Proof.Schedule.lean ====
/- What each semaphore of the exchanges stands for. -/
module

public import proofs.«01_k».proof.Proof.Times

@[expose] public section

noncomputable section

namespace Cert.KernelIdeal.Body

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release Idealize.ShloMosaic.Transfers

variable {F : FTy → Type} [FloatOps F]

local notation "𝕄" => MT nD τ sig ℕ (Elt F) ℕ UU ℕ

variable (m : (ℓ : Loc nD τ sig) → Buf (Elt F) ℓ)

/-! ## Lent slots -/

/-- Receive slot of device `e` for chunk `k`, free, once its semaphore's count of earlier chunks is settled. -/
def Lend (a : Ax) (e : Dev nD) (k : ℕ) : sProp 𝕄 :=
  iprop(Full (F := F) (mRW a) a.nR_pos k e ∗ reached ER (vCell a e k) (k / a.nR))

instance Lend_storable (a : Ax) (e : Dev nD) (k : ℕ) : Storable (upEmb : UEmb _ 𝕄) (Lend (F := F) a e k) := by
  unfold Lend; infer_instance

/-- The slot is freed by its owner, for chunk `k`. -/
abbrev key (a : Ax) (e : Dev nD) (k : ℕ) : Key := (e, a.isX, k)
def Sl (κ : Key) : sProp 𝕄 := Lend (F := F) (Ax.ofX κ.2.1) κ.1 κ.2.2
theorem Sl_key (a : Ax) (e : Dev nD) (k : ℕ) : Sl (F := F) (key a e k) = Lend a e k := by unfold Sl; rw [Ax.ofX_isX]

instance Sl_storable (κ : Key) : Storable (upEmb : UEmb _ 𝕄) (Sl (F := F) κ) := by unfold Sl; infer_instance

abbrev freed (a : Ax) (e : Dev nD) (k : ℕ) : sProp 𝕄 := released ES (key a e k) 1
/-- All slots freed for chunks before `k`. -/
abbrev Freed (a : Ax) (e : Dev nD) (k : ℕ) : sProp 𝕄 := bigSep (Finset.Ico a.nR k) (freed (F := F) a e)

/-! ## The schedule -/

/-- The exchange a transfer's semaphore belongs to, -/
def axOf (s : ℕ) : Ax := if s < 20 then .x else .y
/-- whether it counts what was sent, -/
def isSnd (s : ℕ) : Bool := decide (s < 16 ∨ (20 ≤ s ∧ s < 22))
/-- and the chunk of its round. -/
def chk (s r : ℕ) : ℕ :=
  if s < 13 then 20 else if s < 16 then 3 * r + (s - 13) else if s < 20 then 4 * r + (s - 16)
  else if s < 22 then 2 * r + (s - 20) else 3 * r + (s - 22)

/-- The exchange a credit semaphore belongs to. -/
def axK (s : ℕ) : Ax := if s = 0 then .x else .y

def barPay (e : Dev nD) (i : ℕ) : sProp 𝕄 :=
  if i = 0 then bigSep (Finset.range 4) (fun k => Lend (F := F) .x (nb .x e) k)
  else bigSep (Finset.range 3) (fun k => Lend (F := F) .y (nb .y e) k)

instance barPay_storable (e : Dev nD) (i : ℕ) : Storable (upEmb : UEmb _ 𝕄) (barPay (F := F) e i) := by
  unfold barPay; split <;> infer_instance

def Rd : Schedule (GSem nD τ sig) ℕ 𝕄 where
  duties g r := match g.2 with
    | .reg s => if r = 0 then if s.val = 2 then {0, 1} else Finset.Ico ((axK s.val).nR - 1) 20 else ∅
    | .dma s => if chk s.val r < 20 then {0} else ∅
  amount g r i := match g.2 with
    | .reg s => if s.val = 2 then 1 else camt (axK s.val) i
    | .dma s => cnt (axOf s.val) (chk s.val r)
  payload g r i := match g.2 with
    | .reg s => if s.val = 2 then barPay g.1.1 i else Freed (F := F) (axK s.val) (nb (axK s.val) g.1.1) (i + 1)
    | .dma s =>
        if isSnd s.val then Sub (F := F) (mSW (axOf s.val)) (axOf s.val).nS_pos (chk s.val r) g.1.1
        else Has (mRW (axOf s.val)) (axOf s.val).nR_pos (chk s.val r) g.1.1
          (msg m (axOf s.val) (nb (axOf s.val) g.1.1) (chk s.val r))
  amount_pos g r i _ := by
    obtain ⟨t, s | s⟩ := g
    · show 0 < if _ then 1 else camt _ i
      split
      · exact Nat.one_pos
      · exact camt_pos _ _
    · exact cnt_pos _ _

instance Rd_storable (g : GSem nD τ sig) (r i : ℕ) : Storable (upEmb : UEmb _ 𝕄) ((Rd m).payload g r i) := by
  obtain ⟨t, s | s⟩ := g
  · show Storable _ (if _ then barPay _ _ else Freed (F := F) _ _ _)
    split <;> infer_instance
  · show Storable _ (if _ then Sub (F := F) _ _ _ _ else Has _ _ _ _ _)
    split <;> infer_instance

/-! ### Decoding -/

theorem chk_s (a : Ax) (k r : ℕ) : chk (semS a k).val r = a.nS * r + k % a.nS := by
  cases a
  · have : k % 3 < 3 := Nat.mod_lt _ (by decide)
    show chk (13 + k % 3) r = 3 * r + k % 3
    unfold chk; split_ifs <;> omega
  · have : k % 2 < 2 := Nat.mod_lt _ (by decide)
    show chk (20 + k % 2) r = 2 * r + k % 2
    unfold chk; split_ifs <;> omega
theorem chk_v (a : Ax) (k r : ℕ) : chk (semV a k).val r = a.nR * r + k % a.nR := by
  cases a
  · have : k % 4 < 4 := Nat.mod_lt _ (by decide)
    show chk (16 + k % 4) r = 4 * r + k % 4
    unfold chk; split_ifs <;> omega
  · have : k % 3 < 3 := Nat.mod_lt _ (by decide)
    show chk (22 + k % 3) r = 3 * r + k % 3
    unfold chk; split_ifs <;> omega
theorem axOf_s (a : Ax) (k : ℕ) : axOf (semS a k).val = a := by
  cases a
  · have : k % 3 < 3 := Nat.mod_lt _ (by decide)
    show (if 13 + k % 3 < 20 then Ax.x else .y) = _
    rw [if_pos (by omega)]
  · show (if 20 + k % 2 < 20 then Ax.x else .y) = _
    rw [if_neg (by omega)]
theorem axOf_v (a : Ax) (k : ℕ) : axOf (semV a k).val = a := by
  cases a
  · have : k % 4 < 4 := Nat.mod_lt _ (by decide)
    show (if 16 + k % 4 < 20 then Ax.x else .y) = _
    rw [if_pos (by omega)]
  · show (if 22 + k % 3 < 20 then Ax.x else .y) = _
    rw [if_neg (by omega)]
theorem isSnd_s (a : Ax) (k : ℕ) : isSnd (semS a k).val = true := by
  refine decide_eq_true ?_
  cases a
  · have : k % 3 < 3 := Nat.mod_lt _ (by decide)
    show 13 + k % 3 < 16 ∨ _; omega
  · have : k % 2 < 2 := Nat.mod_lt _ (by decide)
    show 20 + k % 2 < 16 ∨ (20 ≤ 20 + k % 2 ∧ 20 + k % 2 < 22); omega
theorem isSnd_v (a : Ax) (k : ℕ) : isSnd (semV a k).val = false := by
  refine decide_eq_false ?_
  cases a
  · show ¬(16 + k % 4 < 16 ∨ (20 ≤ 16 + k % 4 ∧ 16 + k % 4 < 22)); have : k % 4 < 4 := Nat.mod_lt _ (by decide); omega
  · show ¬(22 + k % 3 < 16 ∨ (20 ≤ 22 + k % 3 ∧ 22 + k % 3 < 22)); omega
theorem axK_k (a : Ax) : axK (semK a).val = a := by cases a <;> rfl
theorem k_ne (a : Ax) : ¬(semK a).val = 2 := by cases a <;> decide

/-! ### The sent side -/

theorem duties_s (a : Ax) (d : Dev nD) (k : ℕ) (hk : k < 20) : (Rd m).duties (sCell a d k) (k / a.nS) = {0} := by
  show (if chk (semS a k).val _ < 20 then ({0} : Finset ℕ) else ∅) = _
  rw [chk_s, Nat.div_add_mod, if_pos hk]
theorem duties_s_end (a : Ax) (d : Dev nD) (k : ℕ) (hk : 20 ≤ k) (r : ℕ) (hr : k / a.nS ≤ r) : (Rd m).duties (sCell a d k) r = ∅ := by
  show (if chk (semS a k).val _ < 20 then ({0} : Finset ℕ) else ∅) = _
  have h := Nat.div_add_mod k a.nS
  have h' := Nat.mul_le_mul_left a.nS hr
  rw [chk_s, if_neg (by omega)]
theorem amount_s (a : Ax) (d : Dev nD) (k i : ℕ) : (Rd m).amount (sCell a d k) (k / a.nS) i = cnt a k := by
  show cnt (axOf (semS a k).val) (chk (semS a k).val _) = _
  rw [chk_s, Nat.div_add_mod, axOf_s]
theorem payload_s (a : Ax) (d : Dev nD) (k i : ℕ) : (Rd m).payload (sCell a d k) (k / a.nS) i = Sub (F := F) (mSW a) a.nS_pos k d := by
  show (if isSnd (semS a k).val then Sub (F := F) (mSW (axOf (semS a k).val)) (axOf (semS a k).val).nS_pos (chk (semS a k).val (k / a.nS)) d else _) = _
  rw [isSnd_s, if_pos rfl, chk_s, Nat.div_add_mod, axOf_s]
theorem expect_s (a : Ax) (d : Dev nD) (k : ℕ) (hk : k < 20) : (Rd m).expect (sCell a d k) (k / a.nS) = cnt a k := by
  unfold Schedule.expect Schedule.amountOf
  rw [duties_s m a d k hk, Finset.sum_singleton, amount_s]

/-! ### The received side -/

theorem duties_v (a : Ax) (d : Dev nD) (k : ℕ) (hk : k < 20) : (Rd m).duties (vCell a d k) (k / a.nR) = {0} := by
  show (if chk (semV a k).val _ < 20 then ({0} : Finset ℕ) else ∅) = _
  rw [chk_v, Nat.div_add_mod, if_pos hk]
theorem duties_v_end (a : Ax) (d : Dev nD) (k : ℕ) (hk : 20 ≤ k) (r : ℕ) (hr : k / a.nR ≤ r) : (Rd m).duties (vCell a d k) r = ∅ := by
  show (if chk (semV a k).val _ < 20 then ({0} : Finset ℕ) else ∅) = _
  have h := Nat.div_add_mod k a.nR
  have h' := Nat.mul_le_mul_left a.nR hr
  rw [chk_v, if_neg (by omega)]
theorem amount_v (a : Ax) (d : Dev nD) (k i : ℕ) : (Rd m).amount (vCell a d k) (k / a.nR) i = cnt a k := by
  show cnt (axOf (semV a k).val) (chk (semV a k).val _) = _
  rw [chk_v, Nat.div_add_mod, axOf_v]
theorem payload_v (a : Ax) (d : Dev nD) (k i : ℕ) :
    (Rd m).payload (vCell a d k) (k / a.nR) i = Has (mRW a) a.nR_pos k d (msg m a (nb a d) k) := by
  show (if isSnd (semV a k).val then _ else Has (mRW (axOf (semV a k).val)) (axOf (semV a k).val).nR_pos (chk (semV a k).val (k / a.nR)) d
          (msg m (axOf (semV a k).val) (nb (axOf (semV a k).val) d) (chk (semV a k).val (k / a.nR)))) = _
  rw [isSnd_v, if_neg (by decide), chk_v, Nat.div_add_mod, axOf_v]
theorem expect_v (a : Ax) (d : Dev nD) (k : ℕ) (hk : k < 20) : (Rd m).expect (vCell a d k) (k / a.nR) = cnt a k := by
  unfold Schedule.expect Schedule.amountOf
  rw [duties_v m a d k hk, Finset.sum_singleton, amount_v]

/-! ### Credits -/

theorem duties_k (a : Ax) (d : Dev nD) : (Rd m).duties (kCell a d) 0 = Finset.Ico (a.nR - 1) 20 := by
  show (if 0 = 0 then if (semK a).val = 2 then {0, 1} else Finset.Ico ((axK (semK a).val).nR - 1) 20 else ∅) = _
  rw [if_pos rfl, if_neg (k_ne a), axK_k]
theorem duties_k_end (a : Ax) (d : Dev nD) (r : ℕ) (hr : 1 ≤ r) : (Rd m).duties (kCell a d) r = ∅ := by
  show (if r = 0 then _ else ∅) = _
  rw [if_neg (by omega)]
theorem amount_k (a : Ax) (d : Dev nD) (i : ℕ) : (Rd m).amount (kCell a d) 0 i = camt a i := by
  show (if (semK a).val = 2 then 1 else camt (axK (semK a).val) i) = _
  rw [if_neg (k_ne a), axK_k]
theorem payload_k (a : Ax) (d : Dev nD) (i : ℕ) : (Rd m).payload (kCell a d) 0 i = Freed (F := F) a (nb a d) (i + 1) := by
  show (if (semK a).val = 2 then _ else Freed (F := F) (axK (semK a).val) (nb (axK (semK a).val) d) (i + 1)) = _
  rw [if_neg (k_ne a), axK_k]
theorem expect_k (a : Ax) (d : Dev nD) : (Rd m).expect (kCell a d) 0 = 20 := by
  unfold Schedule.expect Schedule.amountOf
  rw [duties_k, Finset.sum_congr rfl fun i _ => amount_k m a d i]
  cases a <;> decide

/-! ### The first signals -/

theorem duties_b (d : Dev nD) : (Rd m).duties (bCell d) 0 = {0, 1} := rfl
theorem duties_b_end (d : Dev nD) (r : ℕ) (hr : 1 ≤ r) : (Rd m).duties (bCell d) r = ∅ := by
  show (if r = 0 then _ else ∅) = _
  rw [if_neg (by omega)]
theorem amount_b (d : Dev nD) (i : ℕ) : (Rd m).amount (bCell d) 0 i = 1 := rfl
theorem payload_b (a : Ax) (d : Dev nD) (i : ℕ) (hi : i = if a = .x then 0 else 1) :
    (Rd m).payload (bCell d) 0 i = bigSep (Finset.range a.nR) (fun k => Lend (F := F) a (nb a d) k) := by
  subst hi; cases a <;> rfl
theorem expect_b (d : Dev nD) : (Rd m).expect (bCell d) 0 = 2 := rfl

/-! ## The common ground -/

abbrev IxC := Dev nD × Fin 15
def locOf (j : Fin 15) : SemLoc sig :=
  if h : j.val < 3 then .reg ⟨j.val, h⟩ else .dma ⟨10 + j.val, by have := j.isLt; show 10 + j.val < 25; omega⟩
abbrev cellOf (i : IxC) : GSem nD τ sig := ((i.1 : Thread nD τ), locOf i.2)
theorem cellOf_injective : Function.Injective cellOf := by
  intro i j h
  have h1 : i.1 = j.1 := by have := congrArg (fun g : GSem nD τ sig => g.1.1) h; exact this
  have h2 : locOf i.2 = locOf j.2 := congrArg (fun g : GSem nD τ sig => g.2) h
  refine Prod.ext h1 ?_
  revert h2
  generalize i.2 = p
  generalize j.2 = q
  revert p q
  decide

def cells : Finset (GSem nD τ sig) := Finset.univ.image cellOf

theorem mem_b (d : Dev nD) : bCell d ∈ cells := Finset.mem_image.mpr ⟨(d, 2), Finset.mem_univ _, rfl⟩
theorem mem_k (a : Ax) (d : Dev nD) : kCell a d ∈ cells := by
  cases a
  · exact Finset.mem_image.mpr ⟨(d, 0), Finset.mem_univ _, rfl⟩
  · exact Finset.mem_image.mpr ⟨(d, 1), Finset.mem_univ _, rfl⟩

theorem mem_dma (d : Dev nD) (s : DmaSem sig) (h : 13 ≤ s.val) : ((d : Thread nD τ), SemLoc.dma s) ∈ cells := by
  refine Finset.mem_image.mpr ⟨(d, ⟨s.val - 10, by have : s.val < 25 := s.isLt; omega⟩), Finset.mem_univ _, ?_⟩
  show ((d : Thread nD τ), locOf _) = _
  unfold locOf
  rw [dif_neg (by show ¬(s.val - 10 < 3); omega)]
  congr 2
  exact Fin.ext (by show 10 + (s.val - 10) = s.val; omega)
theorem mem_s (a : Ax) (d : Dev nD) (k : ℕ) : sCell a d k ∈ cells :=
  mem_dma d _ (by cases a; exact Nat.le_add_right 13 _; exact Nat.le_add_right_of_le (by decide : 13 ≤ 20))
theorem mem_v (a : Ax) (d : Dev nD) (k : ℕ) : vCell a d k ∈ cells :=
  mem_dma d _ (by cases a; exact Nat.le_add_right_of_le (by decide : 13 ≤ 16); exact Nat.le_add_right_of_le (by decide : 13 ≤ 22))

/-- The chunks whose slots are freed. -/
def keys : Finset Key :=
  Finset.univ.biUnion fun d : Dev nD => Finset.univ.biUnion fun a : Ax => (Finset.Ico a.nR 20).image (key a d)

theorem mem_keys (a : Ax) (d : Dev nD) (k : ℕ) (h : a.nR ≤ k) (hk : k < 20) : key a d k ∈ keys :=
  Finset.mem_biUnion.mpr ⟨d, Finset.mem_univ _, Finset.mem_biUnion.mpr ⟨a, Finset.mem_univ _,
    Finset.mem_image.mpr ⟨k, Finset.mem_Ico.mpr ⟨h, hk⟩, rfl⟩⟩⟩

/-- The schedule is kept at every cell, slots are handed on at every key, and the order of waits is fixed. -/
def Ctx (K : GSem nD τ sig → ℕ) (J : Key → ℕ) : sProp 𝕄 :=
  iprop(bigSep cells (fun g => cellInv ER (Rd m) (K g) g) ∗ bigSep cells (fun g => reached ER g 0)
    ∗ bigSep keys (fun κ => slotInv (E := ES) (J κ) κ (Sl (F := F) κ)) ∗ levAts L lv)

variable {m} {K : GSem nD τ sig → ℕ} {J : Key → ℕ}

instance Ctx_persistent : BI.Persistent (Ctx (F := F) m K J) := by unfold Ctx; infer_instance

theorem pick {I : Type} [DecidableEq I] {S : Finset I} {Φ : I → sProp 𝕄} {i : I} (h : i ∈ S) : bigSep S Φ ⊢ Φ i := BI.bigSep_elim h

theorem Ctx_cell {g : GSem nD τ sig} (h : g ∈ cells) : Ctx m K J ⊢ cellInv ER (Rd m) (K g) g := by
  unfold Ctx
  iintro ⟨H, -, -, -⟩
  iapply (pick (Φ := fun g => cellInv ER (Rd m) (K g) g) h) $$ H
theorem Ctx_reached {g : GSem nD τ sig} (h : g ∈ cells) : Ctx m K J ⊢ reached ER g 0 := by
  unfold Ctx
  iintro ⟨-, H, -, -⟩
  iapply (pick (Φ := fun g => reached ER g 0) h) $$ H
theorem Ctx_slot {κ : Key} (h : κ ∈ keys) : Ctx m K J ⊢ slotInv (E := ES) (J κ) κ (Sl (F := F) κ) := by
  unfold Ctx
  iintro ⟨-, -, H, -⟩
  iapply (pick (Φ := fun κ => slotInv (E := ES) (J κ) κ (Sl (F := F) κ)) h) $$ H
theorem Ctx_owe (d : Dev nD) (t : ℕ) (N : Waits sig ℕ) (h0 : 0 < t) (h : ∀ p ∈ N, p.2 < t ∧ p.2 < 100) :
    Ctx m K J ⊢ MayOwe (d : Thread nD τ) N (O d t) := by
  unfold Ctx
  iintro ⟨-, -, -, H⟩
  iapply (mayOwe d t N h0 h) $$ H

end Cert.KernelIdeal.Body

end
-- ==== Proof.Ranges.lean ====
/- Families of assertions over intervals of numbers. -/
module

public import proofs.«01_k».proof.Proof.Slots

@[expose] public section

noncomputable section

namespace Cert.KernelIdeal.Body

open Idealize.ShloMosaic
open Idealize.SL Idealize.SL.RA Idealize.SL.BI
open scoped Idealize.SL.BI
open Idealize.SL.BI.BIBase Idealize.SL.BI.Laws Idealize.SL.ProofMode Idealize.SL.Sem

variable {M : Type} [URA M] (Φ : ℕ → sProp M)

theorem fam_first {a b : ℕ} (h : a < b) : bigSep (Finset.Ico a b) Φ = iprop(Φ a ∗ bigSep (Finset.Ico (a + 1) b) Φ) := by
  have he : Finset.Ico a b = insert a (Finset.Ico (a + 1) b) := by
    ext i; simp only [Finset.mem_insert, Finset.mem_Ico]; omega
  rw [he]
  exact BI.bigSep_insert (by simp)

theorem fam_last {a b : ℕ} (h : a ≤ b) : bigSep (Finset.Ico a (b + 1)) Φ = iprop(Φ b ∗ bigSep (Finset.Ico a b) Φ) := by
  have he : Finset.Ico a (b + 1) = insert b (Finset.Ico a b) := by
    ext i; simp only [Finset.mem_insert, Finset.mem_Ico]; omega
  rw [he]
  exact BI.bigSep_insert (by simp)

/-- Take the first. -/
theorem fam_take {a b : ℕ} (h : a < b) : bigSep (Finset.Ico a b) Φ ⊢ iprop(Φ a ∗ bigSep (Finset.Ico (a + 1) b) Φ) :=
  Entails.of_eq (fam_first Φ h)

/-- Add one at the end. -/
theorem fam_put {a b : ℕ} (h : a ≤ b) : iprop(Φ b ∗ bigSep (Finset.Ico a b) Φ) ⊢ bigSep (Finset.Ico a (b + 1)) Φ :=
  Entails.of_eq (fam_last Φ h).symm

/-- Take the first and add one at the end. -/
theorem fam_turn (n c : ℕ) (hn : 0 < n) :
    bigSep (Finset.Ico c (c + n)) Φ ⊢ iprop(Φ c ∗ (Φ (c + n) -∗ bigSep (Finset.Ico (c + 1) (c + 1 + n)) Φ)) := by
  rw [fam_first Φ (show c < c + n by omega), show c + 1 + n = c + n + 1 by omega, fam_last Φ (show c + 1 ≤ c + n by omega)]
  iintro ⟨H, G⟩
  isplitl [H]; · iexact H
  iintro H
  isplitl [H] <;> iassumption

theorem fam_nil {a b : ℕ} (h : b ≤ a) : bigSep (Finset.Ico a b) Φ = iprop(emp) := by
  rw [Finset.Ico_eq_empty (by omega)]; exact BI.bigSep_empty

/-- A member is taken out and put back. -/
theorem fam_at {I : Type} [DecidableEq I] {S : Finset I} {Ψ : I → sProp M} {i : I} (h : i ∈ S) :
    bigSep S Ψ = iprop(Ψ i ∗ bigSep (S.erase i) Ψ) := BI.bigSep_erase h

theorem fam_union {I : Type} [DecidableEq I] {S T : Finset I} {Ψ : I → sProp M} (h : Disjoint S T) :
    bigSep (S ∪ T) Ψ = iprop(bigSep S Ψ ∗ bigSep T Ψ) := BI.bigSep_union h

/-- Over an image. -/
theorem fam_image {I J : Type} [DecidableEq I] [DecidableEq J] {S : Finset I} {f : I → J} (h : Set.InjOn f S) (Ψ : J → sProp M) :
    bigSep (S.image f) Ψ = bigSep S (fun i => Ψ (f i)) := by
  induction S using Finset.induction_on with
  | empty => rw [Finset.image_empty, BI.bigSep_empty, BI.bigSep_empty]
  | insert a S ha ih =>
    have hn : f a ∉ S.image f := fun hm => by
      obtain ⟨b, hb, he⟩ := Finset.mem_image.mp hm
      exact ha (h (Finset.mem_insert_of_mem hb) (Finset.mem_insert_self a S) he ▸ hb)
    rw [Finset.image_insert, BI.bigSep_insert hn, BI.bigSep_insert ha, ih fun x hx y hy => h (Finset.mem_insert_of_mem hx) (Finset.mem_insert_of_mem hy)]

theorem fam_fin (n : ℕ) : bigSep (Finset.univ : Finset (Fin n)) (fun k => Φ k.val) = bigSep (Finset.Ico 0 n) Φ := by
  rw [← fam_image (f := fun k : Fin n => k.val) (fun a _ b _ h => Fin.ext h) Φ]
  congr 1
  ext i
  simp only [Finset.mem_image, Finset.mem_univ, true_and, Finset.mem_Ico]
  exact ⟨fun ⟨k, hk⟩ => ⟨Nat.zero_le _, hk ▸ k.isLt⟩, fun h => ⟨⟨i, h.2⟩, rfl⟩⟩

/-- What repeats every `n` numbers. -/
theorem fam_period (n : ℕ) (hn : 0 < n) (h : ∀ k, Φ (k + n) = Φ k) (c : ℕ) : bigSep (Finset.Ico c (c + n)) Φ = bigSep (Finset.Ico 0 n) Φ := by
  induction c with
  | zero => rw [Nat.zero_add]
  | succ c ih =>
    rw [← ih, fam_first Φ (show c < c + n by omega), show c + 1 + n = c + n + 1 by omega, fam_last Φ (show c + 1 ≤ c + n by omega), h]

/-- Over an interval, moved. -/
theorem fam_shift (n N : ℕ) (h : n ≤ N) :
    bigSep (Finset.Ico n N) Φ = bigSep (Finset.Ico 0 N) (fun k => if k + n < N then Φ (k + n) else iprop(emp)) := by
  rw [← Finset.Ico_union_Ico_eq_Ico (Nat.zero_le (N - n)) (Nat.sub_le N n), BI.bigSep_union (Finset.Ico_disjoint_Ico_consecutive 0 (N - n) N)]
  have h1 : bigSep (Finset.Ico (N - n) N) (fun k => if k + n < N then Φ (k + n) else iprop(emp)) = iprop(emp) := by
    rw [BI.bigSep_congr (Ψ := fun _ => iprop(emp)) fun k hk => by rw [if_neg (by have := (Finset.mem_Ico.mp hk).1; omega)]]
    exact BI.bigSep_emp_const _
  have h2 : bigSep (Finset.Ico 0 (N - n)) (fun k => if k + n < N then Φ (k + n) else iprop(emp)) = bigSep (Finset.Ico 0 (N - n)) (fun k => Φ (k + n)) :=
    BI.bigSep_congr fun k hk => by rw [if_pos (by have := (Finset.mem_Ico.mp hk).2; omega)]
  rw [h1, h2, ← fam_image (f := fun k : ℕ => k + n) (fun a _ b _ h => Nat.add_right_cancel h) Φ]
  have h3 : (Finset.Ico 0 (N - n)).image (fun k => k + n) = Finset.Ico n N := by
    ext i
    simp only [Finset.mem_image, Finset.mem_Ico]
    exact ⟨fun ⟨k, hk, he⟩ => by omega, fun hi => ⟨i - n, by omega, by omega⟩⟩
  rw [h3]
  exact (equiv_iff.mp Idealize.SL.BI.sep_emp).symm

/-- What may be copied goes to every member. -/
theorem fam_share {I : Type} [DecidableEq I] {S : Finset I} {R : sProp M} [BI.Persistent R] {Ψ Ψ' : I → sProp M}
    (h : ∀ i ∈ S, iprop(R ∗ Ψ i) ⊢ Ψ' i) : iprop(R ∗ bigSep S Ψ) ⊢ bigSep S Ψ' := by
  induction S using Finset.induction_on with
  | empty => rw [BI.bigSep_empty, BI.bigSep_empty]; iintro ⟨-, H⟩; iexact H
  | insert a S ha ih =>
    rw [show bigSep (insert a S) Ψ = iprop(Ψ a ∗ bigSep S Ψ) from BI.bigSep_insert ha,
      show bigSep (insert a S) Ψ' = iprop(Ψ' a ∗ bigSep S Ψ') from BI.bigSep_insert ha]
    iintro ⟨#HR, H, G⟩
    isplitl [H]
    · iapply (h a (Finset.mem_insert_self a S))
      isplitr; · iexact HR
      iexact H
    iapply (ih fun i hi => h i (Finset.mem_insert_of_mem hi))
    isplitr; · iexact HR
    iexact G

end Cert.KernelIdeal.Body

end
-- ==== Proof.Exchange.lean ====
/- One exchange, phase by phase, along either axis. -/
module

public import proofs.«01_k».proof.Proof.Schedule
public import proofs.«01_k».proof.Proof.Ranges

@[expose] public section

noncomputable section

namespace Cert.KernelIdeal.Body

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release Idealize.ShloMosaic.Transfers

variable {F : FTy → Type} [FloatOps F]

local notation "𝕄" => MT nD τ sig ℕ (Elt F) ℕ UU ℕ

variable {m : (ℓ : Loc nD τ sig) → Buf (Elt F) ℓ} {K : GSem nD τ sig → ℕ} {J : Key → ℕ}

/-- What the device owes at time `t`, whatever it has waited for. -/
def Ow (d : Dev nD) (t : ℕ) : sProp 𝕄 := iprop(∃ W, owes (d : Thread nD τ) (O d t) W)

theorem Ow_eq {d : Dev nD} {t t' : ℕ} (h : O d t = O d t') : Ow (F := F) d t ⊢ Ow d t' := by
  unfold Ow; rw [h]

/-! ## Credits -/

/-- When credit `k` is given. -/
abbrev crdT (a : Ax) (k : ℕ) : ℕ := time a .crd (max k (a.nR - 1))
abbrev datT (a : Ax) (k : ℕ) : ℕ := time a .dat k

theorem crdT_lt (a : Ax) (k : ℕ) (hk : k < 20) : crdT a k < datT a k ∧ crdT a k < 100 := by
  cases a
  · show (if max k 3 < 3 then 0 else if max k 3 = 3 then 3 else 4 * max k 3 - 8) < (if k < 2 then 5 + k else 4 * k - 1) ∧ (if max k 3 < 3 then 0 else if max k 3 = 3 then 3 else 4 * max k 3 - 8) < 100
    split_ifs <;> omega
  · show (if max k 2 < 2 then 0 else if max k 2 = 2 then 4 else 4 * max k 2 + 2) < 4 * k + 9 ∧ (if max k 2 < 2 then 0 else if max k 2 = 2 then 4 else 4 * max k 2 + 2) < 100
    split_ifs <;> omega

theorem datT_pos (a : Ax) (k : ℕ) : 0 < datT a k := by
  cases a
  · show 0 < (if k < 2 then 5 + k else 4 * k - 1); split <;> omega
  · exact Nat.succ_pos _

/-- `k` credits have been taken. -/
def Credit (a : Ax) (d : Dev nD) (k : ℕ) : sProp 𝕄 :=
  iprop(∃ T : Finset ℕ, ⌜k = 20 → Finset.Ico (a.nR - 1) 20 ⊆ T⌝ ∗ atPos ER (kCell a d) 0 T k ∗ bigSep T (fun i => Freed (F := F) a (nb a d) (i + 1)))

/-- The slot chunk `k` goes to has been freed. -/
def Prior (a : Ax) (d : Dev nD) (k : ℕ) : sProp 𝕄 := if k < a.nR then iprop(emp) else freed a (nb a d) k

abbrev credTok (a : Ax) (d : Dev nD) (k : ℕ) : sProp 𝕄 := cred (tallyAt (kCell a d) (crdT a k) 1)

theorem credit_runs (a : Ax) (d : Dev nD) (k t : ℕ) (hk : k < 20) (ht : crdT a k < t) :
    iprop(Ctx (F := F) m K J ∗ Credit a d k ∗ credTok a d k ∗ Ow d t)
      ⊢ Runs d (semWaitWord (semK a) 1#32) iprop(Credit a d (k + 1) ∗ Prior a d k ∗ Ow d t) := by
  iintro ⟨#HC, Hcr, Htok, How⟩
  unfold Credit Ow Runs
  icases Hcr with ⟨%T, -, Hat, HT⟩
  icases How with ⟨%W, How⟩
  simp only [semWaitWord, Prog.lift]
  iapply (Rounds.wp_wait 𝒱₀ ER (Rd m) (d : Thread nD τ) none (wpE_semWait_eq 𝒱₀ (d : Thread nD τ) none Set.univ) (Set.mem_univ (K (kCell a d)))
    (cr := Finsupp.single (crdT a k) 1) {(SemLoc.reg (semK a), crdT a k)} (by rw [Util.total_single]; rfl) (image_single_subset _ _ _)) $$ [Hat Htok How]
  · isplitr; · iapply (Ctx_cell (mem_k a d)); iexact HC
    isplitl [Htok]; · iexact Htok
    isplitl [How]; · iexact How
    isplitr [Hat]
    · iapply (Ctx_owe (m := m) (K := K) (J := J) d t _ (by omega) (fun p hp => by
        rw [Finset.mem_singleton.mp hp]; exact ⟨ht, (crdT_lt a k hk).2⟩)); iexact HC
    · iexact Hat
  iintro %S ⟨%hS, How, Hat, HS⟩
  rw [expect_k, duties_k] at hS
  obtain ⟨h1, h2, h3⟩ := hS
  change k + 1 + _ ≤ 20 at h3
  rw [wp_ret]; imodintro
  ihave HS := (show bigSep (S \ T) (fun i => (Rd m).payload (kCell a d) 0 i) ⊢ bigSep (S \ T) (fun i => Freed (F := F) a (nb a d) (i + 1)) from
    bigSep_mono fun i _ => Entails.of_eq (payload_k m a d i)) $$ HS
  ihave HS := (show iprop(bigSep T (fun i => Freed (F := F) a (nb a d) (i + 1)) ∗ bigSep (S \ T) (fun i => Freed (F := F) a (nb a d) (i + 1)))
      ⊢ bigSep S (fun i => Freed (F := F) a (nb a d) (i + 1)) from Entails.of_eq (by
    conv_rhs => rw [← Finset.union_sdiff_of_subset h1]
    exact (bigSep_union Finset.disjoint_sdiff).symm)) $$ [HT HS]
  · isplitl [HT] <;> iassumption
  icases HS with #HS
  isplitl [Hat]
  · iexists S
    isplitr
    · ipureintro
      intro h20
      have : (Finset.Ico (a.nR - 1) 20 \ S).card = 0 := by omega
      exact Finset.sdiff_eq_empty_iff_subset.mp (Finset.card_eq_zero.mp this)
    isplitl [Hat]; · iexact Hat
    iexact HS
  isplitr
  · unfold Prior
    by_cases hlt : k < a.nR
    · rw [if_pos hlt]; iempintro
    · rw [if_neg hlt]
      have hex : ∃ j ∈ S, k ≤ j := by
        by_contra hn
        push Not at hn
        have hsub : Finset.Ico k 20 ⊆ Finset.Ico (a.nR - 1) 20 \ S := fun j hj => by
          have := Finset.mem_Ico.mp hj
          refine Finset.mem_sdiff.mpr ⟨Finset.mem_Ico.mpr ⟨by omega, this.2⟩, fun hjS => ?_⟩
          have := hn j hjS
          omega
        have := Finset.card_le_card hsub
        rw [Nat.card_Ico] at this
        omega
      obtain ⟨j, hj, hkj⟩ := hex
      ihave H := (pick (Φ := fun i => Freed (F := F) a (nb a d) (i + 1)) hj) $$ HS
      iapply (pick (Φ := freed (F := F) a (nb a d)) (Finset.mem_Ico.mpr ⟨by omega, by omega⟩)) $$ H
  iexists _; iexact How

/-- At the end the semaphore is settled. -/
theorem credit_close (a : Ax) (d : Dev nD) :
    iprop(Ctx (F := F) m K J ∗ Credit a d 20) ⊢ |={Set.univ}=> semVal (kCell a d) 0 := by
  iintro ⟨#HC, Hcr⟩
  unfold Credit
  icases Hcr with ⟨%T, %hT, Hat, -⟩
  imod (Rounds.fupd_skip ER (Rd m) (g := kCell a d) (κ := K (kCell a d)) (R := 0) (T := T) (m := 20) (by rw [duties_k]; exact hT rfl)
    (by rw [expect_k]) (Set.mem_univ _)) $$ [Hat] with ⟨Hat, -⟩
  · isplitr; · iapply (Ctx_cell (mem_k a d)); iexact HC
    iexact Hat
  iapply (Rounds.cell_close ER (Rd m) (κ := K (kCell a d)) (Set.mem_univ _) (fun h => h) (fun r hr => duties_k_end m a d r hr))
  isplitr; · iapply (Ctx_cell (mem_k a d)); iexact HC
  iexact Hat

/-! ## Sending -/

/-- The right to write chunk `k` at the neighbour. -/
def Wr (a : Ax) (d : Dev nD) (k : ℕ) : sProp 𝕄 :=
  if k < a.nR then Lend (F := F) a (nb a d) k else writeTok ES (key a (nb a d) k) 1

theorem borrow (a : Ax) (d : Dev nD) (k : ℕ) (hk : k < 20) :
    iprop(Ctx (F := F) m K J ∗ Wr a d k ∗ Prior a d k) ⊢ |={Set.univ}=> Lend (F := F) a (nb a d) k := by
  unfold Wr Prior
  by_cases h : k < a.nR
  · rw [if_pos h, if_pos h]
    iintro ⟨-, HW, -⟩
    imodintro; iexact HW
  · rw [if_neg h, if_neg h, ← Sl_key]
    iintro ⟨#HC, HW, HP⟩
    iapply (Release.slot_take ES (Set.mem_univ (J (key a (nb a d) k))) 1)
    isplitr; · iapply (Ctx_slot (mem_keys a (nb a d) k (by omega) hk)); iexact HC
    isplitl [HP] <;> iassumption

/-- The send slot of chunk `k`: the count of earlier chunks settled, -/
abbrev sPos (a : Ax) (d : Dev nD) (k : ℕ) : sProp 𝕄 :=
  iprop(atPos ER (sCell a d k) (k / a.nS) ∅ 0 ∗ reached ER (sCell a d k) (k / a.nS))
/-- free; -/
def Ready (a : Ax) (d : Dev nD) (k : ℕ) : sProp 𝕄 := iprop(Full (F := F) (mSW a) a.nS_pos k d ∗ sPos a d k)
/-- on its way. -/
def Flying (a : Ax) (d : Dev nD) (k : ℕ) : sProp 𝕄 :=
  iprop(Rest (F := F) (mSW a) a.nS_pos k d ∗ atPos ER (sCell a d k) (k / a.nS) ∅ 0 ∗ cred (tallyAt (sCell a d k) 0 (cnt a k)))

/-- What the device needs to send chunk `k`. -/
def SndTok (a : Ax) (d : Dev nD) (k : ℕ) : sProp 𝕄 :=
  iprop(Wr (F := F) a d k ∗ dutyTok ER (vCell a (nb a d) k) (k / a.nR) 0 ∗ dutyTok ER (sCell a d k) (k / a.nS) 0 ∗ credTok a d k)

theorem sPos_add (a : Ax) (d : Dev nD) (k : ℕ) :
    (iprop(atPos ER (sCell a d k) (k / a.nS + 1) ∅ 0 ∗ reached ER (sCell a d k) (k / a.nS + 1)) : sProp 𝕄) ⊢ sPos a d (k + a.nS) := by
  have h : sCell a d (k + a.nS) = sCell a d k := by
    cases a
    · show ((d : Thread nD τ), SemLoc.dma (semXS (k + 3))) = _
      have : (semXS (k + 3)) = semXS k := Fin.ext (by show 13 + (k + 3) % 3 = 13 + k % 3; omega)
      rw [this]
    · show ((d : Thread nD τ), SemLoc.dma (semYS (k + 2))) = _
      have : (semYS (k + 2)) = semYS k := Fin.ext (by show 20 + (k + 2) % 2 = 20 + k % 2; omega)
      rw [this]
  unfold sPos
  rw [h, Nat.add_div_right k a.nS_pos]

theorem vCell_add (a : Ax) (d : Dev nD) (k : ℕ) : vCell a d (k + a.nR) = vCell a d k := by
  cases a
  · show ((d : Thread nD τ), SemLoc.dma (semXR (k + 4))) = _
    have : (semXR (k + 4)) = semXR k := Fin.ext (by show 16 + (k + 4) % 4 = 16 + k % 4; omega)
    rw [this]
  · show ((d : Thread nD τ), SemLoc.dma (semYR (k + 3))) = _
    have : (semYR (k + 3)) = semYR k := Fin.ext (by show 22 + (k + 3) % 3 = 22 + k % 3; omega)
    rw [this]

theorem send_runs (a : Ax) (d : Dev nD) (k : ℕ) (hk : k < 20) {hsrc : (mSnd a k).view.WordExact} {hdst : (mRcv a k).view.WordExact}
    {hsem : DmaTarget.Typed .vmem (SemLoc.dma (semV a k)) (.remote (Dev.tc (nb a d)) (mRcv a k) (SemLoc.dma (semS a k)))} :
    iprop(Ctx (F := F) m K J ∗ Has (mSW a) a.nS_pos k d (msg m a d k) ∗ sPos a d k ∗ Lend (F := F) a (nb a d) k
        ∗ dutyTok ER (vCell a (nb a d) k) (k / a.nR) 0 ∗ dutyTok ER (sCell a d k) (k / a.nS) 0 ∗ Ow d (datT a k))
      ⊢ Runs d (Prog.lift (.enqueueDma (mSnd a k) (.remote (Dev.tc (nb a d)) (mRcv a k) (.dma (semS a k))) (.dma (semV a k)) hsrc hdst hsem))
          iprop(Flying a d k ∗ Ow d (datT a k + 1)) := by
  iintro ⟨#HC, Hsrc, ⟨Hat, #Hrs⟩, Hl, Htv, Hts, How⟩
  unfold Has Lend Full Ow Runs
  icases Hsrc with ⟨%fs, %hfs, Hsrc⟩
  icases Hl with ⟨⟨%fd, Hd⟩, #Hrv⟩
  icases How with ⟨%W, How⟩
  ihave Hsrc := (split_sub (mSW a) a.nS_pos k d fs) $$ Hsrc
  icases Hsrc with ⟨Hsrc, Hrest⟩
  simp only [Prog.lift]
  have hc : (mRcv a k).view.amount (SemLoc.dma (semV a k)) = cnt a k := rfl
  iapply (Rounds.wp_send 𝒱₀ ER (Rd m) (d : Thread nD τ) none (c' := (nb a d : Thread nD τ)) (src := mSnd a k) (dst := mRcv a k)
    (r₁ := k / a.nS) (r₂ := k / a.nR) (d₁ := 0) (d₂ := 0) (κ₁ := K (sCell a d k)) (κ₂ := K (vCell a (nb a d) k)) (fs := fs) (q := fullShare)
    (R := (mRcv a k).view.loc (nb a d : Thread nD τ) ↦[slotI (mRW a) a.nR_pos k]{fullShare} ((mRcv a k).view.write (Elt F) fd ((mSnd a k).view.read (Elt F) fs) Finset.univ))
    (by rw [duties_s m a d k hk]; exact Finset.mem_singleton_self 0) (by rw [duties_v m a (nb a d) k hk]; exact Finset.mem_singleton_self 0)
    (datT a k) 0 (cnt a k) hc (amount_s m a d k 0) (amount_v m a (nb a d) k 0) (O d (datT a k + 1))
    (step_at d a .dat k hk (datT a k) rfl (datT_pos a k))
    (by rw [payload_s]; unfold Sub; iintro H; iexists fs; iexact H)
    (by
      rw [payload_v, nb_nb]; unfold Has; iintro H; iexists _
      isplitr; swap; · iexact H
      ipureintro
      exact (View.read_write_univ (v := (mRcv a k).view) fd _).trans hfs)) $$ [Hsrc Hd How Htv Hts]
  · isplitr; · iapply (Ctx_cell (mem_s a d k)); iexact HC
    isplitr; · iapply (Ctx_cell (mem_v a (nb a d) k)); iexact HC
    isplitl [Hsrc]; · iexact Hsrc
    isplitl [Hd]; · iapply (pointsTo_writeUpdate (nb a d : Thread nD τ) (v := (mRcv a k).view) (sub_subset (mRW a) a.nR_pos k)) $$ Hd
    isplitl [How]; · iexact How
    isplitl [Hts]; · iexact Hts
    isplitr; · iexact Hrs
    isplitl [Htv]; · iexact Htv
    iexact Hrv
  iintro ⟨Hc, How⟩
  rw [wp_ret]; imodintro
  isplitr [How]
  · unfold Flying
    isplitl [Hrest]; · iexact Hrest
    isplitl [Hat] <;> iassumption
  iexists W; iexact How

theorem pay_s (a : Ax) (d : Dev nD) (k : ℕ) (hk : k < 20) :
    bigSep ((Rd m).duties (sCell a d k) (k / a.nS) \ ∅) (fun i => (Rd m).payload (sCell a d k) (k / a.nS) i) ⊢ Sub (F := F) (mSW a) a.nS_pos k d := by
  rw [Finset.sdiff_empty, duties_s m a d k hk, bigSep_singleton, payload_s]

theorem sent_runs (a : Ax) (d : Dev nD) (k t : ℕ) (hk : k < 20) (ht : 0 < t) {h₁ : (mRcv a k).view.WordExact} {h₂ : (mSnd a k).view.WordExact} :
    iprop(Ctx (F := F) m K J ∗ Flying a d k ∗ Ow d t)
      ⊢ Runs d (Prog.lift (.waitDma2 (semS a k) (mRcv a k) (mSnd a k) h₁ h₂)) iprop(Ready a d (k + a.nS) ∗ Ow d t) := by
  iintro ⟨#HC, Hfl, How⟩
  unfold Flying Ow Runs
  icases Hfl with ⟨Hrest, Hat, Hc⟩
  icases How with ⟨%W, How⟩
  simp only [Prog.lift]
  iapply (Rounds.wp_wait_rest_token 𝒱₀ ER (Rd m) (d : Thread nD τ) none
    (wpE_waitDma2_eq 𝒱₀ (d : Thread nD τ) none Set.univ) (Set.mem_univ (K (sCell a d k))) 0
    (k' := (mSnd a k).view.dmaCredit) (R := k / a.nS) (m := 0) (T := ∅) (by rw [expect_s m a d k hk, cnt_snd, zero_add])) $$ [Hat Hc How]
  · isplitr; · iapply (Ctx_cell (mem_s a d k)); iexact HC
    isplitl [Hc]; · rw [cnt_snd]; iexact Hc
    isplitl [How]; · iexact How
    isplitr [Hat]
    · iapply (Ctx_owe (m := m) (K := K) (J := J) d t _ ht (fun p hp => by rw [Finset.mem_singleton.mp hp]; exact ⟨ht, (by decide : 0 < 100)⟩)); iexact HC
    · iexact Hat
  iintro ⟨How, Hat, Hr, Hp⟩
  ihave Hp := (pay_s (m := m) a d k hk) $$ Hp
  rw [wp_ret]; imodintro
  isplitr [How]
  · unfold Ready
    isplitl [Hp Hrest]
    · rw [Full_add]
      iapply (Sub_rest (mSW a) a.nS_pos k d)
      isplitl [Hp] <;> iassumption
    iapply (sPos_add a d k)
    isplitl [Hat] <;> iassumption
  iexists _; iexact How

/-! ## Receiving -/

abbrev vPos (a : Ax) (d : Dev nD) (k : ℕ) : sProp 𝕄 := atPos ER (vCell a d k) (k / a.nR) ∅ 0

/-- Chunk `k` arrived. -/
def Got (m : (ℓ : Loc nD τ sig) → Buf (Elt F) ℓ) (a : Ax) (d : Dev nD) (k : ℕ) : sProp 𝕄 :=
  iprop(Has (mRW a) a.nR_pos k d (msg m a (nb a d) k) ∗ reached ER (vCell a d (k + a.nR)) ((k + a.nR) / a.nR))

theorem pay_v (a : Ax) (d : Dev nD) (k : ℕ) (hk : k < 20) :
    bigSep ((Rd m).duties (vCell a d k) (k / a.nR) \ ∅) (fun i => (Rd m).payload (vCell a d k) (k / a.nR) i)
      ⊢ Has (mRW a) a.nR_pos k d (msg m a (nb a d) k) := by
  rw [Finset.sdiff_empty, duties_v m a d k hk, bigSep_singleton, payload_v]

theorem vPos_add (a : Ax) (d : Dev nD) (k : ℕ) :
    (atPos ER (vCell a d k) (k / a.nR + 1) ∅ 0 : sProp 𝕄) ⊢ vPos a d (k + a.nR) := by
  unfold vPos; rw [vCell_add, Nat.add_div_right k a.nR_pos]
theorem vReached_add (a : Ax) (d : Dev nD) (k : ℕ) :
    (reached ER (vCell a d k) (k / a.nR + 1) : sProp 𝕄) ⊢ reached ER (vCell a d (k + a.nR)) ((k + a.nR) / a.nR) := by
  rw [vCell_add, Nat.add_div_right k a.nR_pos]

theorem recv_runs (a : Ax) (d : Dev nD) (k t : ℕ) (hk : k < 20) (ht : datT a k < t) {h₁ : (mSnd a k).view.WordExact} {h₂ : (mRcv a k).view.WordExact} :
    iprop(Ctx (F := F) m K J ∗ vPos a d k ∗ cred (tallyAt (vCell a d k) (datT a k) (cnt a k)) ∗ Ow d t)
      ⊢ Runs d (Prog.lift (.waitDma2 (semV a k) (mSnd a k) (mRcv a k) h₁ h₂)) iprop(vPos a d (k + a.nR) ∗ Got m a d k ∗ Ow d t) := by
  iintro ⟨#HC, Hat, Hc, How⟩
  unfold Ow Runs
  icases How with ⟨%W, How⟩
  simp only [Prog.lift]
  iapply (Rounds.wp_wait_rest_token 𝒱₀ ER (Rd m) (d : Thread nD τ) none
    (wpE_waitDma2_eq 𝒱₀ (d : Thread nD τ) none Set.univ) (Set.mem_univ (K (vCell a d k))) (datT a k)
    (k' := (mRcv a k).view.dmaCredit) (R := k / a.nR) (m := 0) (T := ∅) (by rw [expect_v m a d k hk, zero_add]; rfl)) $$ [Hat Hc How]
  · isplitr; · iapply (Ctx_cell (mem_v a d k)); iexact HC
    isplitl [Hc]; · iexact Hc
    isplitl [How]; · iexact How
    isplitr [Hat]
    · iapply (Ctx_owe (m := m) (K := K) (J := J) d t _ (by omega) (fun p hp => by
        rw [Finset.mem_singleton.mp hp]
        exact ⟨ht, lt_of_le_of_lt (tm_le (a, .dat, ⟨k, hk⟩)) (by decide)⟩)); iexact HC
    · iexact Hat
  iintro ⟨How, Hat, #Hr, Hp⟩
  ihave Hp := (pay_v (m := m) a d k hk) $$ Hp
  rw [wp_ret]; imodintro
  unfold Got
  isplitl [Hat]; · iapply (vPos_add a d k) $$ Hat
  isplitr [How]
  · isplitl [Hp]; · iexact Hp
    iapply (vReached_add a d k); iexact Hr
  iexists _; iexact How

/-- At the end the semaphores are settled. -/
theorem send_close (a : Ax) (d : Dev nD) (k : ℕ) (hk : 20 ≤ k) :
    iprop(Ctx (F := F) m K J ∗ atPos ER (sCell a d k) (k / a.nS) ∅ 0) ⊢ |={Set.univ}=> semVal (sCell a d k) 0 := by
  iintro ⟨#HC, Hat⟩
  iapply (Rounds.cell_close ER (Rd m) (κ := K (sCell a d k)) (Set.mem_univ _) (fun h => h) (fun r hr => duties_s_end m a d k hk r hr))
  isplitr; · iapply (Ctx_cell (mem_s a d k)); iexact HC
  iexact Hat

theorem recv_close (a : Ax) (d : Dev nD) (k : ℕ) (hk : 20 ≤ k) :
    iprop(Ctx (F := F) m K J ∗ vPos a d k) ⊢ |={Set.univ}=> semVal (vCell a d k) 0 := by
  iintro ⟨#HC, Hat⟩
  iapply (Rounds.cell_close ER (Rd m) (κ := K (vCell a d k)) (Set.mem_univ _) (fun h => h) (fun r hr => duties_v_end m a d k hk r hr))
  isplitr; · iapply (Ctx_cell (mem_v a d k)); iexact HC
  iexact Hat

/-! ## Handing slots back -/

theorem Lend_false (a : Ax) (d : Dev nD) (k : ℕ) : iprop(Sl (F := F) (key a d k) ∗ Sl (F := F) (key a d k)) ⊢ (False : sProp 𝕄) := by
  rw [Sl_key]
  unfold Lend Full
  iintro ⟨⟨⟨%f, H⟩, -⟩, ⟨⟨%g, G⟩, -⟩⟩
  iapply (Release.slot_slot_false (ℓ := (mRW a).view.loc (d : Thread nD τ)) (I := slotI (mRW a) a.nR_pos k) (by
    obtain ⟨x⟩ : Nonempty (sh2 (sz k)).Idx := ⟨fun | ⟨0, _⟩ => ⟨0, sz_pos k⟩ | ⟨1, _⟩ => ⟨0, (by decide : 0 < 2048)⟩⟩
    exact ⟨_, sub_subset (mRW a) a.nR_pos k (Finset.mem_map_of_mem _ (Finset.mem_univ x))⟩))
  unfold Release.slot
  isplitl [H]; · iexists f; iexact H
  iexists g; iexact G

/-- What the device needs to hand back the slot for chunk `k`. -/
def GrTok (a : Ax) (d : Dev nD) (k : ℕ) : sProp 𝕄 :=
  iprop(dutyTok ER (kCell a (nb a d)) 0 k ∗ readerAt ES (key a d k) 0)

theorem grant_runs (a : Ax) (d : Dev nD) (k t : ℕ) (h : a.nR ≤ k) (hk : k < 20) (ht : time a .crd k = t) (ht0 : 0 < t) :
    iprop(Ctx (F := F) m K J ∗ Lend (F := F) a d k ∗ GrTok a d k ∗ Freed a d k ∗ Ow d t)
      ⊢ Runs d (semSignalWord (nb a d) (semK a) 1#32) iprop(Freed a d (k + 1) ∗ Ow d (t + 1)) := by
  unfold GrTok
  rw [← Sl_key]
  iintro ⟨#HC, Hl, ⟨Htok, Hrd⟩, #Hf, How⟩
  unfold Ow Runs
  icases How with ⟨%W, How⟩
  imod (Release.slot_release ES (ι := J (key a d k)) (Set.mem_univ _) (Lend_false a d k) 0) $$ [Hl Hrd] with ⟨-, #Hnew⟩
  · isplitr; · iapply (Ctx_slot (mem_keys a d k h hk)); iexact HC
    isplitl [Hrd] <;> iassumption
  ihave #Hf' := (fam_put (freed (F := F) a d) h) $$ []
  · isplitr; · iexact Hnew
    iexact Hf
  simp only [semSignalWord, Prog.lift]
  iapply (Rounds.wp_signal 𝒱₀ ER (Rd m) (d : Thread nD τ) none (κ := K (kCell a (nb a d))) (r := 0) (d := k)
    (by rw [duties_k]; exact Finset.mem_Ico.mpr ⟨by omega, hk⟩) (k' := 1) (by rw [amount_k]; unfold camt; rw [if_neg (by omega)]) t (O₀ := O d t) (O d (t + 1))
    (by
      have := step_at d a .crd k hk t ht ht0
      rw [this]; congr 1
      show tallyAt (kCell a (nb a d)) t (camt a k) = _
      unfold camt; rw [if_neg (by omega)])) $$ [Htok How]
  · isplitr; · iapply (Ctx_cell (mem_k a (nb a d))); iexact HC
    isplitl [How]; · iexact How
    isplitl [Htok]; · iexact Htok
    isplitr
    · rw [payload_k, nb_nb]; iexact Hf'
    iapply (Ctx_reached (mem_k a (nb a d))); iexact HC
  iintro How
  rw [wp_ret]; imodintro
  isplitr; · iexact Hf'
  iexists W; iexact How

end Cert.KernelIdeal.Body

end
-- ==== Proof.Local.lean ====
/- Loads of the arguments' rows and stores of the result's. -/
module

public import proofs.«01_k».proof.Proof.Exchange

@[expose] public section

noncomputable section

namespace Cert.KernelIdeal.Body

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release Idealize.ShloMosaic.Transfers

variable {F : FTy → Type} [FloatOps F]

local notation "𝕄" => MT nD τ sig ℕ (Elt F) ℕ UU ℕ

variable {m : (ℓ : Loc nD τ sig) → Buf (Elt F) ℓ} {K : GSem nD τ sig → ℕ} {J : Key → ℕ}

/-! ## Loads -/

/-- The two arguments loaded by rows. -/
inductive Ar
  | p
  | r
  deriving DecidableEq

abbrev aM : Ar → Dev nD → (k : ℕ) → Memref sig .tc .hbm (sh2 (sz k)) .f32
  | .p => pM
  | .r => rM
abbrev mL : Ar → Memref sig .tc .vmem (shB 4) .f32
  | .p => Memref.whole cc0_scratch0
  | .r => Memref.whole cc0_scratch3
abbrev semL : Ar → ℕ → DmaSem sig
  | .p => semP
  | .r => semR

theorem four_pos : 0 < 4 := by decide
theorem two_pos' : 0 < 2 := by decide

abbrev mLd (b : Ar) (k : ℕ) : Memref sig .tc .vmem (sh2 (sz k)) .f32 := sub (mL b) four_pos k
abbrev lCell (b : Ar) (d : Dev nD) (k : ℕ) : GSem nD τ sig := ((d : Thread nD τ), .dma (semL b k))

theorem lCell_add (b : Ar) (d : Dev nD) (k : ℕ) : lCell b d (k + 4) = lCell b d k := by
  cases b
  · show ((d : Thread nD τ), SemLoc.dma (semP (k + 4))) = _
    have : semP (k + 4) = semP k := Fin.ext (by show 1 + 2 * ((k + 4) % 4) = 1 + 2 * (k % 4); omega)
    rw [this]
  · show ((d : Thread nD τ), SemLoc.dma (semR (k + 4))) = _
    have : semR (k + 4) = semR k := Fin.ext (by show 1 + (2 * ((k + 4) % 4) + 1) = 1 + (2 * (k % 4) + 1); omega)
    rw [this]

/-- The rows loaded. -/
def lV (m : (ℓ : Loc nD τ sig) → Buf (Elt F) ℓ) : Ar → Dev nD → (k : ℕ) → Vec F (sh2 (sz k)) .f32
  | .p => pC m
  | .r => rC m

theorem numel_pos (k : ℕ) : 0 < (sh2 (sz k)).numel := by
  have := sz_pos k
  simp [Shape.numel, Shape.prodPi]; omega

def Rows (m : (ℓ : Loc nD τ sig) → Buf (Elt F) ℓ) (b : Ar) (d : Dev nD) (k : ℕ) : sProp 𝕄 :=
  (aM b d k).view.loc (d : Thread nD τ) ↦[(aM b d k).view.set]{fullShare} m ((aM b d k).view.loc (d : Thread nD τ))

/-- A load slot, free; -/
def LFree (b : Ar) (d : Dev nD) (k : ℕ) : sProp 𝕄 := iprop(Full (F := F) (mL b) four_pos k d ∗ semVal (lCell b d k) 0)
/-- being filled; -/
def LFly (m : (ℓ : Loc nD τ sig) → Buf (Elt F) ℓ) (b : Ar) (d : Dev nD) (k : ℕ) : sProp 𝕄 :=
  Flight EC (d : Thread nD τ) (.dma (semL b k)) 0 (mLd b k).view.dmaCredit iprop(Has (mL b) four_pos k d (lV m b d k) ∗ Rows m b d k)
/-- filled. -/
def LDone (m : (ℓ : Loc nD τ sig) → Buf (Elt F) ℓ) (b : Ar) (d : Dev nD) (k : ℕ) : sProp 𝕄 :=
  iprop(Has (mL b) four_pos k d (lV m b d k) ∗ semVal (lCell b d k) 0)

theorem LDone_free (b : Ar) (d : Dev nD) (k : ℕ) : LDone m b d k ⊢ LFree (F := F) b d (k + 4) := by
  unfold LDone LFree
  rw [lCell_add, Full_add]
  iintro ⟨H, G⟩
  isplitl [H]; · iapply (Has_full (mL b) four_pos k d _) $$ H
  iexact G

theorem ld_runs (b : Ar) (d : Dev nD) (k : ℕ) {h₁ : (aM b d k).view.WordExact} {h₂ : (mLd b k).view.WordExact}
    {h₃ : DmaTarget.Typed (nD := nD) .hbm (SemLoc.dma (semL b k)) (DmaTarget.here (p := Proc.tc) (mLd b k))} :
    iprop(LFree (F := F) b d k ∗ Rows m b d k) ⊢ Runs d (Prog.lift (.enqueueDma (aM b d k) (.here (mLd b k)) (.dma (semL b k)) h₁ h₂ h₃)) (LFly m b d k) := by
  unfold LFly LFree Rows Full Runs
  iintro ⟨⟨⟨%f, Hd⟩, Hv⟩, Hs⟩
  simp only [Prog.lift]
  iapply (Transfers.wp_dmaLocal EC 𝒱₀ (d : Thread nD τ) none (src := aM b d k) (dst := mLd b k) (sm := .dma (semL b k)) 0
    (mLd b k).view.dmaCredit rfl (View.dmaCredit_pos _ (numel_pos k)) (sub_subset (mL b) four_pos k)) $$ [Hd Hs Hv]
  · isplitl [Hs]; · iexact Hs
    isplitl [Hd]; · iexact Hd
    iexact Hv
  iintro H
  rw [wp_ret]; imodintro
  iapply (Transfers.Flight_mono EC (d : Thread nD τ) (D := _) (by
    iintro ⟨Hd, Hs⟩
    isplitr [Hs]; swap; · iexact Hs
    unfold Has
    iexists _
    isplitr; swap; · iexact Hd
    ipureintro
    refine (View.read_write_univ (v := (mLd b k).view) f _).trans ?_
    cases b <;> rfl)) $$ H

theorem ldw_runs (b : Ar) (d : Dev nD) (k t : ℕ) (ht : 0 < t) {h₁ : (aM b d k).view.WordExact} {h₂ : (mLd b k).view.WordExact} :
    iprop(Ctx (F := F) m K J ∗ LFly m b d k ∗ Ow d t)
      ⊢ Runs d (Prog.lift (.waitDma2 (semL b k) (aM b d k) (mLd b k) h₁ h₂)) iprop(LDone m b d k ∗ Rows m b d k ∗ Ow d t) := by
  iintro ⟨#HC, Hf, How⟩
  unfold LFly Ow Runs
  icases How with ⟨%W, How⟩
  simp only [Prog.lift]
  iapply (Transfers.wp_waitLocalO EC 𝒱₀ (d : Thread nD τ) none 0 (N := (mLd b k).view.dmaCredit) rfl) $$ [Hf How]
  · isplitl [Hf]; · iexact Hf
    isplitl [How]; · iexact How
    iapply (Ctx_owe (m := m) (K := K) (J := J) d t _ ht (fun p hp => by rw [Finset.mem_singleton.mp hp]; exact ⟨ht, (by decide : 0 < 100)⟩)); iexact HC
  iintro ⟨⟨Hd, Hs⟩, Hv, How⟩
  rw [wp_ret]; imodintro
  unfold LDone
  isplitl [Hd Hv]; · isplitl [Hd] <;> iassumption
  isplitl [Hs]; · iexact Hs
  iexists _; iexact How

/-! ## Stores -/

/-- The two halves of the result: the device's own rows, and the others. -/
inductive Ho
  | m
  | o
  deriving DecidableEq

abbrev oM : Ho → Dev nD → (k : ℕ) → Memref sig .tc .hbm (sh2 (sz k)) .f32
  | .m => omM
  | .o => ooM
abbrev mO : Ho → Memref sig .tc .vmem (shB 2) .f32
  | .m => Memref.whole cc0_scratch6
  | .o => Memref.whole cc0_scratch7
abbrev semO : Ho → ℕ → DmaSem sig
  | .m => semOM
  | .o => semOO

abbrev mSt (h : Ho) (k : ℕ) : Memref sig .tc .vmem (sh2 (sz k)) .f32 := sub (mO h) two_pos' k
abbrev oCell (h : Ho) (d : Dev nD) (k : ℕ) : GSem nD τ sig := ((d : Thread nD τ), .dma (semO h k))

theorem oCell_add (h : Ho) (d : Dev nD) (k : ℕ) : oCell h d (k + 2) = oCell h d k := by
  cases h
  · show ((d : Thread nD τ), SemLoc.dma (semOM (k + 2))) = _
    have : semOM (k + 2) = semOM k := Fin.ext (by show 9 + (k + 2) % 2 = 9 + k % 2; omega)
    rw [this]
  · show ((d : Thread nD τ), SemLoc.dma (semOO (k + 2))) = _
    have : semOO (k + 2) = semOO k := Fin.ext (by show 11 + (k + 2) % 2 = 11 + k % 2; omega)
    rw [this]

/-- The rows stored. -/
def hV (m : (ℓ : Loc nD τ sig) → Buf (Elt F) ℓ) : Ho → Dev nD → (k : ℕ) → Vec F (sh2 (sz k)) .f32
  | .m => nV m
  | .o => oV m

/-- Rows of the result to be written, -/
def Dst (h : Ho) (d : Dev nD) (k : ℕ) : sProp 𝕄 :=
  iprop(∃ f, (oM h d k).view.loc (d : Thread nD τ) ↦[(oM h d k).view.set]{fullShare} f)
/-- and written. -/
def Put (m : (ℓ : Loc nD τ sig) → Buf (Elt F) ℓ) (h : Ho) (d : Dev nD) (k : ℕ) : sProp 𝕄 :=
  iprop(∃ f, ⌜(oM h d k).view.read (Elt F) f = hV m h d k⌝ ∗ (oM h d k).view.loc (d : Thread nD τ) ↦[(oM h d k).view.set]{fullShare} f)

/-- A store slot, free, -/
def SFree (h : Ho) (d : Dev nD) (k : ℕ) : sProp 𝕄 := iprop(Full (F := F) (mO h) two_pos' k d ∗ semVal (oCell h d k) 0)
/-- filled, -/
def SHas (m : (ℓ : Loc nD τ sig) → Buf (Elt F) ℓ) (h : Ho) (d : Dev nD) (k : ℕ) : sProp 𝕄 :=
  iprop(Has (mO h) two_pos' k d (hV m h d k) ∗ semVal (oCell h d k) 0)
/-- and on its way. -/
def SFly (m : (ℓ : Loc nD τ sig) → Buf (Elt F) ℓ) (h : Ho) (d : Dev nD) (k : ℕ) : sProp 𝕄 :=
  iprop(Rest (F := F) (mO h) two_pos' k d
    ∗ Flight EC (d : Thread nD τ) (.dma (semO h k)) 0 (oM h d k).view.dmaCredit iprop(Put m h d k ∗ Sub (F := F) (mO h) two_pos' k d))

theorem st_runs (h : Ho) (d : Dev nD) (k : ℕ) {h₁ : (mSt h k).view.WordExact} {h₂ : (oM h d k).view.WordExact}
    {h₃ : DmaTarget.Typed (nD := nD) .vmem (SemLoc.dma (semO h k)) (DmaTarget.here (p := Proc.tc) (oM h d k))} :
    iprop(SHas m h d k ∗ Dst h d k) ⊢ Runs d (Prog.lift (.enqueueDma (mSt h k) (.here (oM h d k)) (.dma (semO h k)) h₁ h₂ h₃)) (SFly m h d k) := by
  unfold SHas Dst Has Runs SFly
  iintro ⟨⟨⟨%f, %hf, Hs⟩, Hv⟩, ⟨%g, Hd⟩⟩
  ihave Hs := (split_sub (mO h) two_pos' k d f) $$ Hs
  icases Hs with ⟨Hs, Hr⟩
  simp only [Prog.lift]
  iapply (Transfers.wp_dmaLocal EC 𝒱₀ (d : Thread nD τ) none (src := mSt h k) (dst := oM h d k) (sm := .dma (semO h k)) 0
    (oM h d k).view.dmaCredit rfl (View.dmaCredit_pos _ (numel_pos k)) (Finset.Subset.refl _)) $$ [Hd Hs Hv]
  · isplitl [Hs]; · iexact Hs
    isplitl [Hd]; · iexact Hd
    iexact Hv
  iintro H
  rw [wp_ret]; imodintro
  isplitl [Hr]; · iexact Hr
  iapply (Transfers.Flight_mono EC (d : Thread nD τ) (D := _) (by
    unfold Put Sub
    iintro ⟨Hd, Hs⟩
    isplitr [Hs]; swap; · iexists f; iexact Hs
    iexists _
    isplitr; swap; · iexact Hd
    ipureintro
    exact (View.read_write_univ (v := (oM h d k).view) g _).trans hf)) $$ H

theorem stw_runs (h : Ho) (d : Dev nD) (k t : ℕ) (ht : 0 < t) {h₁ : (mSt h k).view.WordExact} {h₂ : (oM h d k).view.WordExact} :
    iprop(Ctx (F := F) m K J ∗ SFly m h d k ∗ Ow d t)
      ⊢ Runs d (Prog.lift (.waitDma2 (semO h k) (mSt h k) (oM h d k) h₁ h₂)) iprop(SFree h d (k + 2) ∗ Put m h d k ∗ Ow d t) := by
  iintro ⟨#HC, Hf, How⟩
  unfold SFly Ow Runs SFree
  rw [oCell_add, Full_add]
  icases How with ⟨%W, How⟩
  icases Hf with ⟨Hr, Hf⟩
  simp only [Prog.lift]
  iapply (Transfers.wp_waitLocalO EC 𝒱₀ (d : Thread nD τ) none 0 (N := (oM h d k).view.dmaCredit) rfl) $$ [Hf How]
  · isplitl [Hf]; · iexact Hf
    isplitl [How]; · iexact How
    iapply (Ctx_owe (m := m) (K := K) (J := J) d t _ ht (fun p hp => by rw [Finset.mem_singleton.mp hp]; exact ⟨ht, (by decide : 0 < 100)⟩)); iexact HC
  iintro ⟨⟨Hd, Hs⟩, Hv, How⟩
  rw [wp_ret]; imodintro
  isplitl [Hr Hs Hv]
  · isplitl [Hr Hs]
    · iapply (Sub_rest (mO h) two_pos' k d)
      isplitl [Hs] <;> iassumption
    iexact Hv
  isplitl [Hd]; · iexact Hd
  iexists _; iexact How

end Cert.KernelIdeal.Body

end
-- ==== Proof.Phases.lean ====
/- The phases of an iteration. -/
module

public import proofs.«01_k».proof.Proof.Local

@[expose] public section

noncomputable section

namespace Cert.KernelIdeal.Body

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release Idealize.ShloMosaic.Transfers

variable {F : FTy → Type} [FloatOps F]

local notation "𝕄" => MT nD τ sig ℕ (Elt F) ℕ UU ℕ

variable {m : (ℓ : Loc nD τ sig) → Buf (Elt F) ℓ} {K : GSem nD τ sig → ℕ} {J : Key → ℕ}

/-- The last phase of a program. -/
theorem last {d : Dev nD} {P Q R : sProp 𝕄} {x : Prog (TpuEff nD τ sig (Elt F) Λ₀ .tc) PUnit} (h : P ⊢ Runs d x Q) :
    P ⊢ iprop((Q -∗ R) -∗ Runs d x R) := by
  unfold Runs
  iintro HP Hk
  iapply (wp_wand frame _ (Q := fun _ => Q)) $$ [HP]
  · iapply h; iexact HP
  iintro %u HQ
  iapply Hk; iexact HQ

/-! ## Loads -/

theorem ldStart_runs (d : Dev nD) (k : ℕ) :
    iprop(LFree (F := F) .p d k ∗ Rows m .p d k ∗ LFree (F := F) .r d k ∗ Rows m .r d k) ⊢ Runs d (ldStart d k) iprop(LFly m .p d k ∗ LFly m .r d k) := by
  unfold ldStart
  iintro ⟨H1, H2, H3, H4⟩
  iapply (seq (ld_runs (m := m) .p d k)) $$ [H1 H2]
  · isplitl [H1] <;> iassumption
  iintro H1
  iapply (last (ld_runs (m := m) .r d k)) $$ [H3 H4]
  · isplitl [H3] <;> iassumption
  iintro H2
  isplitl [H1] <;> iassumption

theorem ldWait_runs (d : Dev nD) (k t : ℕ) (ht : 0 < t) :
    iprop(Ctx (F := F) m K J ∗ LFly m .p d k ∗ LFly m .r d k ∗ Ow d t)
      ⊢ Runs d (ldWait d k) iprop(LDone m .p d k ∗ LDone m .r d k ∗ Rows m .p d k ∗ Rows m .r d k ∗ Ow d t) := by
  unfold ldWait
  iintro ⟨#HC, H1, H2, How⟩
  iapply (seq (ldw_runs (m := m) (K := K) (J := J) .p d k t ht)) $$ [H1 How]
  · isplitr; · iexact HC
    isplitl [H1] <;> iassumption
  iintro ⟨H1, H3, How⟩
  iapply (last (ldw_runs (m := m) (K := K) (J := J) .r d k t ht)) $$ [H2 How]
  · isplitr; · iexact HC
    isplitl [H2] <;> iassumption
  iintro ⟨H2, H4, How⟩
  isplitl [H1]; · iexact H1
  isplitl [H2]; · iexact H2
  isplitl [H3]; · iexact H3
  isplitl [H4] <;> iassumption

/-! ## Sends -/

theorem xSend_runs (d : Dev nD) (k : ℕ) (hk : k < 20) :
    iprop(Ctx (F := F) m K J ∗ LDone m .p d k ∗ Ready (F := F) .x d k ∗ Credit .x d k ∗ SndTok .x d k ∗ Ow d (datT .x k))
      ⊢ Runs d (xSend d k) iprop(LDone m .p d k ∗ Flying (F := F) .x d k ∗ Credit .x d (k + 1) ∗ Ow d (datT .x k + 1)) := by
  unfold xSend
  iintro ⟨#HC, HL, HR, Hcr, Htok, How⟩
  unfold LDone Ready SndTok
  icases HL with ⟨HL, Hlv⟩
  icases HR with ⟨HR, Hpos⟩
  icases Htok with ⟨Hwr, Hdv, Hds, Hct⟩
  iapply (rd_runs (mL .p) four_pos (k := k) (d := d) (lV m .p d k)) $$ HL
  iintro %w %hw HL
  have hn : narrow w = shapeCast (sh3 (sz k)) (msg m .x d k) (casts23 (sz k)) := by
    unfold narrow; rw [hw]; rfl
  rw [hn]
  iapply (seq (wrB_runs (mSW .x) (Ax.nS_pos .x) (k := k) (d := d) (msg m .x d k))) $$ HR
  iintro HR
  iapply (seq (credit_runs (m := m) (K := K) (J := J) .x d k (datT .x k) hk (crdT_lt .x k hk).1)) $$ [Hcr Hct How]
  · isplitr; · iexact HC
    isplitl [Hcr]; · iexact Hcr
    isplitl [Hct] <;> iassumption
  iintro ⟨Hcr, Hpr, How⟩
  imod (borrow (m := m) (K := K) (J := J) .x d k hk) $$ [Hwr Hpr] with Hl
  · isplitr; · iexact HC
    isplitl [Hwr] <;> iassumption
  iapply (last (send_runs (m := m) (K := K) (J := J) .x d k hk)) $$ [HR Hpos Hl Hdv Hds How]
  · isplitr; · iexact HC
    isplitl [HR]; · iexact HR
    isplitl [Hpos]; · iexact Hpos
    isplitl [Hl]; · iexact Hl
    isplitl [Hdv]; · iexact Hdv
    isplitl [Hds] <;> iassumption
  iintro ⟨Hf, How⟩
  isplitl [HL Hlv]; · isplitl [HL] <;> iassumption
  isplitl [Hf]; · iexact Hf
  isplitl [Hcr] <;> iassumption

theorem ySend_runs (d : Dev nD) (k : ℕ) (hk : k < 20) :
    iprop(Ctx (F := F) m K J ∗ Has (mSW .y) (Ax.nS_pos .y) k d (msg m .y d k) ∗ sPos .y d k ∗ Credit .y d k ∗ SndTok .y d k ∗ Ow d (datT .y k))
      ⊢ Runs d (ySend d k) iprop(Flying (F := F) .y d k ∗ Credit .y d (k + 1) ∗ Ow d (datT .y k + 1)) := by
  unfold ySend SndTok
  iintro ⟨#HC, HR, Hpos, Hcr, ⟨Hwr, Hdv, Hds, Hct⟩, How⟩
  iapply (seq (credit_runs (m := m) (K := K) (J := J) .y d k (datT .y k) hk (crdT_lt .y k hk).1)) $$ [Hcr Hct How]
  · isplitr; · iexact HC
    isplitl [Hcr]; · iexact Hcr
    isplitl [Hct] <;> iassumption
  iintro ⟨Hcr, Hpr, How⟩
  imod (borrow (m := m) (K := K) (J := J) .y d k hk) $$ [Hwr Hpr] with Hl
  · isplitr; · iexact HC
    isplitl [Hwr] <;> iassumption
  iapply (last (send_runs (m := m) (K := K) (J := J) .y d k hk)) $$ [HR Hpos Hl Hdv Hds How]
  · isplitr; · iexact HC
    isplitl [HR]; · iexact HR
    isplitl [Hpos]; · iexact Hpos
    isplitl [Hl]; · iexact Hl
    isplitl [Hdv]; · iexact Hdv
    isplitl [Hds] <;> iassumption
  iintro ⟨Hf, How⟩
  isplitl [Hf]; · iexact Hf
  isplitl [Hcr] <;> iassumption

/-- The sends' slots: slot of chunk `i` before it is used. -/
def SS (a : Ax) (d : Dev nD) (i : ℕ) : sProp 𝕄 := if i < a.nS then Ready (F := F) a d i else Flying (F := F) a d (i - a.nS)

/-- All sends before chunk `k` done. -/
def SG (a : Ax) (d : Dev nD) (k : ℕ) : sProp 𝕄 :=
  iprop(bigSep (Finset.Ico k (k + a.nS)) (SS (F := F) a d) ∗ Credit a d k ∗ bigSep (Finset.Ico k 20) (SndTok (F := F) a d))

/-! ## Receipts -/

/-- What the device needs to receive chunk `k`, and to hand its slot on. -/
def RcvTok (a : Ax) (d : Dev nD) (k : ℕ) : sProp 𝕄 :=
  iprop(cred (tallyAt (vCell a d k) (datT a k) (cnt a k)) ∗ (if k + a.nR < 20 then GrTok (F := F) a d (k + a.nR) else iprop(emp)))
/-- A slot that is not handed on. -/
def Kept (a : Ax) (d : Dev nD) (k : ℕ) : sProp 𝕄 := if k + a.nR < 20 then iprop(emp) else Full (F := F) (mRW a) a.nR_pos k d

/-- Chunks before `k` received and their slots handed on. -/
def RG (a : Ax) (d : Dev nD) (k : ℕ) : sProp 𝕄 :=
  iprop(bigSep (Finset.Ico k (k + a.nR)) (vPos (F := F) a d) ∗ bigSep (Finset.Ico k 20) (RcvTok (F := F) a d)
    ∗ Freed a d (min (k + a.nR) 20) ∗ bigSep (Finset.Ico 0 k) (Kept (F := F) a d))
/-- Chunk `k` received, its slot not handed on. -/
def RH (a : Ax) (d : Dev nD) (k : ℕ) : sProp 𝕄 :=
  iprop(bigSep (Finset.Ico (k + 1) (k + 1 + a.nR)) (vPos (F := F) a d) ∗ bigSep (Finset.Ico (k + 1) 20) (RcvTok (F := F) a d)
    ∗ Freed a d (min (k + a.nR) 20) ∗ bigSep (Finset.Ico 0 k) (Kept (F := F) a d)
    ∗ (if k + a.nR < 20 then GrTok (F := F) a d (k + a.nR) else iprop(emp)))

theorem recvG_runs (a : Ax) (d : Dev nD) (k t : ℕ) (hk : k < 20) (ht : datT a k < t) {h₁ : (mSnd a k).view.WordExact} {h₂ : (mRcv a k).view.WordExact} :
    iprop(Ctx (F := F) m K J ∗ RG a d k ∗ Ow d t)
      ⊢ Runs d (Prog.lift (.waitDma2 (semV a k) (mSnd a k) (mRcv a k) h₁ h₂)) iprop(RH a d k ∗ Got m a d k ∗ Ow d t) := by
  unfold RG RH
  rw [fam_first (RcvTok (F := F) a d) hk]
  unfold RcvTok
  iintro ⟨#HC, ⟨Hring, ⟨⟨Hc, Hg⟩, Htoks⟩, Hf, Hkept⟩, How⟩
  ihave Hring := (fam_turn (vPos (F := F) a d) a.nR k a.nR_pos) $$ Hring
  icases Hring with ⟨Hv, Hback⟩
  iapply (last (recv_runs (m := m) (K := K) (J := J) a d k t hk ht)) $$ [Hv Hc How]
  · isplitr; · iexact HC
    isplitl [Hv]; · iexact Hv
    isplitl [Hc] <;> iassumption
  iintro ⟨Hv, Hgot, How⟩
  isplitr [Hgot How]
  · isplitl [Hv Hback]; · iapply Hback; iexact Hv
    isplitl [Htoks]; · iexact Htoks
    isplitl [Hf]; · iexact Hf
    isplitl [Hkept]; · iexact Hkept
    iexact Hg
  isplitl [Hgot] <;> iassumption

/-- The chunk's slot, its contents used. -/
def Used (a : Ax) (d : Dev nD) (k : ℕ) : sProp 𝕄 :=
  iprop(Full (F := F) (mRW a) a.nR_pos k d ∗ reached ER (vCell a d (k + a.nR)) ((k + a.nR) / a.nR))

theorem Used_lend (a : Ax) (d : Dev nD) (k : ℕ) : Used (F := F) a d k ⊢ Lend a d (k + a.nR) := by
  unfold Used Lend; rw [Full_add]

theorem Used_full (a : Ax) (d : Dev nD) (k : ℕ) : Used (F := F) a d k ⊢ Full (F := F) (mRW a) a.nR_pos k d := by
  unfold Used; iintro ⟨H, -⟩; iexact H

theorem giveG_runs (a : Ax) (d : Dev nD) (k t n : ℕ) (hn : n + a.nR = 20) (hk : k < 20) (ht : k < n → time a .crd (k + a.nR) = t)
    (ht' : n ≤ k → O d t = O d (t + 1)) (ht0 : 0 < t) :
    iprop(Ctx (F := F) m K J ∗ RH a d k ∗ Used a d k ∗ Ow d t)
      ⊢ Runs d (only (k < n) (semSignalWord (nb a d) (semK a) 1#32)) iprop(RG a d (k + 1) ∗ Ow d (t + 1)) := by
  unfold RH RG
  refine only_runs (fun h => ?_) (fun h => ?_)
  · rw [if_pos (show k + a.nR < 20 by omega), show min (k + a.nR) 20 = k + a.nR by omega, show min (k + 1 + a.nR) 20 = k + a.nR + 1 by omega]
    iintro ⟨#HC, ⟨Hv, Htoks, Hf, Hkept, Hg⟩, Hu, How⟩
    ihave Hu := (Used_lend a d k) $$ Hu
    iapply (last (grant_runs (m := m) (K := K) (J := J) a d (k + a.nR) t (by omega) (by omega) (ht h) ht0)) $$ [Hf Hg Hu How]
    · isplitr; · iexact HC
      isplitl [Hu]; · iexact Hu
      isplitl [Hg]; · iexact Hg
      isplitl [Hf] <;> iassumption
    iintro ⟨Hf, How⟩
    isplitr [How]; swap; · iexact How
    isplitl [Hv]; · iexact Hv
    isplitl [Htoks]; · iexact Htoks
    isplitl [Hf]; · iexact Hf
    iapply (fam_put (Kept (F := F) a d) (Nat.zero_le k))
    isplitr; · unfold Kept; rw [if_pos (show k + a.nR < 20 by omega)]; iempintro
    iexact Hkept
  · rw [show min (k + a.nR) 20 = 20 by omega, show min (k + 1 + a.nR) 20 = 20 by omega]
    iintro ⟨-, ⟨Hv, Htoks, Hf, Hkept, -⟩, Hu, How⟩
    isplitr [How]; swap; · iapply (Ow_eq (ht' (by omega))); iexact How
    isplitl [Hv]; · iexact Hv
    isplitl [Htoks]; · iexact Htoks
    isplitl [Hf]; · iexact Hf
    iapply (fam_put (Kept (F := F) a d) (Nat.zero_le k))
    isplitr [Hkept]
    · unfold Kept; rw [if_neg (show ¬k + a.nR < 20 by omega)]
      iapply (Used_full a d k) $$ Hu
    iexact Hkept

/-! ## Stores -/

/-- The store slots: slot of chunk `i` before it is used. -/
def OM (m : (ℓ : Loc nD τ sig) → Buf (Elt F) ℓ) (h : Ho) (d : Dev nD) (i : ℕ) : sProp 𝕄 := if i < 2 then SFree (F := F) h d i else SFly m h d (i - 2)
/-- What the slot's earlier use left. -/
def Was (m : (ℓ : Loc nD τ sig) → Buf (Elt F) ℓ) (h : Ho) (d : Dev nD) (i : ℕ) : sProp 𝕄 := if i < 2 then iprop(emp) else Put m h d (i - 2)

/-- Stores before chunk `k` started. -/
def OG (m : (ℓ : Loc nD τ sig) → Buf (Elt F) ℓ) (h : Ho) (d : Dev nD) (k : ℕ) : sProp 𝕄 :=
  iprop(bigSep (Finset.Ico k (k + 2)) (OM m h d) ∗ bigSep (Finset.Ico k 20) (Dst (F := F) h d) ∗ bigSep (Finset.Ico 0 (k - 2)) (Put m h d))

theorem prev_runs (h : Ho) (d : Dev nD) (k t : ℕ) (ht : 0 < t) {h₁ : (mSt h (k - 2)).view.WordExact} {h₂ : (oM h d (k - 2)).view.WordExact} :
    iprop(Ctx (F := F) m K J ∗ OM m h d k ∗ Ow d t)
      ⊢ Runs d (only (2 ≤ k) (Prog.lift (.waitDma2 (semO h (k - 2)) (mSt h (k - 2)) (oM h d (k - 2)) h₁ h₂)))
          iprop(SFree h d k ∗ Was m h d k ∗ Ow d t) := by
  unfold OM Was
  refine only_runs (fun hk => ?_) (fun hk => ?_)
  · rw [if_neg (by omega), if_neg (by omega)]
    have := stw_runs (m := m) (K := K) (J := J) h d (k - 2) t ht (h₁ := h₁) (h₂ := h₂)
    rw [show k - 2 + 2 = k by omega] at this
    exact this
  · rw [if_pos (by omega), if_pos (by omega)]
    iintro ⟨-, H, How⟩
    isplitl [H]; · iexact H
    isplitr; · iempintro
    iexact How

theorem sprev_runs (a : Ax) (d : Dev nD) (k t : ℕ) (ht : 0 < t) (hk20 : k < 20) {h₁ : (mRcv a (k - a.nS)).view.WordExact} {h₂ : (mSnd a (k - a.nS)).view.WordExact} :
    iprop(Ctx (F := F) m K J ∗ SS a d k ∗ Ow d t)
      ⊢ Runs d (only (a.nS ≤ k) (Prog.lift (.waitDma2 (semS a (k - a.nS)) (mRcv a (k - a.nS)) (mSnd a (k - a.nS)) h₁ h₂)))
          iprop(Ready a d k ∗ Ow d t) := by
  unfold SS
  refine only_runs (fun hk => ?_) (fun hk => ?_)
  · rw [if_neg (by omega)]
    have := sent_runs (m := m) (K := K) (J := J) a d (k - a.nS) t (by omega) ht (h₁ := h₁) (h₂ := h₂)
    rw [show k - a.nS + a.nS = k by omega] at this
    exact this
  · rw [if_pos (by omega)]
    iintro ⟨-, H, How⟩
    isplitl [H] <;> iassumption

end Cert.KernelIdeal.Body

end
-- ==== Proof.Chunk.lean ====
/- The iterations. -/
module

public import proofs.«01_k».proof.Proof.Phases
public import Idealize.ShloMosaic.Lib.VecWindow

@[expose] public section

noncomputable section

namespace Cert.KernelIdeal.Body

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release Idealize.ShloMosaic.Transfers

variable {F : FTy → Type} [FloatOps F]

local notation "𝕄" => MT nD τ sig ℕ (Elt F) ℕ UU ℕ

variable {m : (ℓ : Loc nD τ sig) → Buf (Elt F) ℓ} {K : GSem nD τ sig → ℕ} {J : Key → ℕ}

/-! ## Rings opened at the slot in use -/

def SGopen (a : Ax) (d : Dev nD) (k : ℕ) : sProp 𝕄 :=
  iprop((SS (F := F) a d (k + a.nS) -∗ bigSep (Finset.Ico (k + 1) (k + 1 + a.nS)) (SS (F := F) a d))
    ∗ Credit a d k ∗ bigSep (Finset.Ico k 20) (SndTok (F := F) a d))

theorem SG_open (a : Ax) (d : Dev nD) (k : ℕ) : SG (F := F) a d k ⊢ iprop(SS a d k ∗ SGopen a d k) := by
  unfold SG SGopen
  iintro ⟨H, Hc, Ht⟩
  ihave H := (fam_turn (SS (F := F) a d) a.nS k a.nS_pos) $$ H
  icases H with ⟨H, G⟩
  isplitl [H]; · iexact H
  isplitl [G]; · iexact G
  isplitl [Hc] <;> iassumption

theorem SS_fly (a : Ax) (d : Dev nD) (k : ℕ) : SS (F := F) a d (k + a.nS) = Flying a d k := by
  unfold SS; rw [if_neg (by omega), Nat.add_sub_cancel]

theorem xSendG_runs (d : Dev nD) (k : ℕ) (hk : k < 20) :
    iprop(Ctx (F := F) m K J ∗ LDone m .p d k ∗ Ready (F := F) .x d k ∗ SGopen .x d k ∗ Ow d (datT .x k))
      ⊢ Runs d (xSend d k) iprop(LDone m .p d k ∗ SG (F := F) .x d (k + 1) ∗ Ow d (datT .x k + 1)) := by
  unfold SGopen SG
  rw [SS_fly, fam_first (SndTok (F := F) .x d) hk]
  iintro ⟨#HC, HL, HR, ⟨Hback, Hcr, ⟨Htok, Htoks⟩⟩, How⟩
  iapply (last (xSend_runs (m := m) (K := K) (J := J) d k hk)) $$ [HL HR Hcr Htok How]
  · isplitr; · iexact HC
    isplitl [HL]; · iexact HL
    isplitl [HR]; · iexact HR
    isplitl [Hcr]; · iexact Hcr
    isplitl [Htok] <;> iassumption
  iintro ⟨HL, HF, Hcr, How⟩
  isplitl [HL]; · iexact HL
  isplitr [How]; swap; · iexact How
  isplitl [Hback HF]; · iapply Hback; iexact HF
  isplitl [Hcr] <;> iassumption

theorem ySendG_runs (d : Dev nD) (k : ℕ) (hk : k < 20) :
    iprop(Ctx (F := F) m K J ∗ Has (mSW .y) (Ax.nS_pos .y) k d (msg m .y d k) ∗ sPos .y d k ∗ SGopen .y d k ∗ Ow d (datT .y k))
      ⊢ Runs d (ySend d k) iprop(SG (F := F) .y d (k + 1) ∗ Ow d (datT .y k + 1)) := by
  unfold SGopen SG
  rw [SS_fly, fam_first (SndTok (F := F) .y d) hk]
  iintro ⟨#HC, HR, Hpos, ⟨Hback, Hcr, ⟨Htok, Htoks⟩⟩, How⟩
  iapply (last (ySend_runs (m := m) (K := K) (J := J) d k hk)) $$ [HR Hpos Hcr Htok How]
  · isplitr; · iexact HC
    isplitl [HR]; · iexact HR
    isplitl [Hpos]; · iexact Hpos
    isplitl [Hcr]; · iexact Hcr
    isplitl [Htok] <;> iassumption
  iintro ⟨HF, Hcr, How⟩
  isplitr [How]; swap; · iexact How
  isplitl [Hback HF]; · iapply Hback; iexact HF
  isplitl [Hcr] <;> iassumption

def OGopen (m : (ℓ : Loc nD τ sig) → Buf (Elt F) ℓ) (h : Ho) (d : Dev nD) (k : ℕ) : sProp 𝕄 :=
  iprop((OM m h d (k + 2) -∗ bigSep (Finset.Ico (k + 1) (k + 1 + 2)) (OM m h d))
    ∗ bigSep (Finset.Ico k 20) (Dst (F := F) h d) ∗ bigSep (Finset.Ico 0 (k - 2)) (Put m h d))

theorem OG_open (h : Ho) (d : Dev nD) (k : ℕ) : OG m h d k ⊢ iprop(OM m h d k ∗ OGopen m h d k) := by
  unfold OG OGopen
  iintro ⟨H, Hc, Ht⟩
  ihave H := (fam_turn (OM m h d) 2 k two_pos') $$ H
  icases H with ⟨H, G⟩
  isplitl [H]; · iexact H
  isplitl [G]; · iexact G
  isplitl [Hc] <;> iassumption

theorem OM_fly (h : Ho) (d : Dev nD) (k : ℕ) : OM m h d (k + 2) = SFly m h d k := by
  unfold OM; rw [if_neg (by omega), Nat.add_sub_cancel]

theorem was_put (h : Ho) (d : Dev nD) (k : ℕ) :
    iprop(Was m h d k ∗ bigSep (Finset.Ico 0 (k - 2)) (Put m h d)) ⊢ bigSep (Finset.Ico 0 (k + 1 - 2)) (Put m h d) := by
  unfold Was
  by_cases hk : k < 2
  · rw [if_pos hk, show k + 1 - 2 = k - 2 by omega]
    iintro ⟨-, H⟩; iexact H
  · rw [if_neg hk, show k + 1 - 2 = k - 2 + 1 by omega]
    exact fam_put (Put m h d) (Nat.zero_le _)

theorem start_runs (h : Ho) (d : Dev nD) (k : ℕ) (hk : k < 20) {h₁ : (mSt h k).view.WordExact} {h₂ : (oM h d k).view.WordExact}
    {h₃ : DmaTarget.Typed (nD := nD) .vmem (SemLoc.dma (semO h k)) (DmaTarget.here (p := Proc.tc) (oM h d k))} :
    iprop(SHas m h d k ∗ Was m h d k ∗ OGopen m h d k)
      ⊢ Runs d (Prog.lift (.enqueueDma (mSt h k) (.here (oM h d k)) (.dma (semO h k)) h₁ h₂ h₃)) (OG m h d (k + 1)) := by
  unfold OGopen OG
  rw [OM_fly, fam_first (Dst (F := F) h d) hk]
  iintro ⟨HS, HW, Hback, ⟨HD, HDs⟩, HP⟩
  iapply (last (st_runs (m := m) h d k)) $$ [HS HD]
  · isplitl [HS] <;> iassumption
  iintro HF
  isplitl [Hback HF]; · iapply Hback; iexact HF
  isplitl [HDs]; · iexact HDs
  iapply (was_put h d k)
  isplitl [HW] <;> iassumption

/-! ## One chunk -/

/-- The staged weights. -/
def Gam (m : (ℓ : Loc nD τ sig) → Buf (Elt F) ℓ) (gM : Memref sig .tc .vmem S1x2048 .f32) (d : Dev nD) : sProp 𝕄 :=
  iprop(∃ f, ⌜gM.view.read (Elt F) f = gV m d⌝ ∗ gM.view.loc (d : Thread nD τ) ↦[gM.view.set]{fullShare} f)

variable (gM : Memref sig .tc .vmem S1x2048 .f32)

theorem gam_runs (d : Dev nD) {R : sProp 𝕄} {hl} {k : Vec F S1x2048 .f32 → Prog (TpuEff nD τ sig (Elt F) Λ₀ .tc) PUnit} :
    Gam m gM d ⊢ iprop((Gam m gM d -∗ Runs d (k (gV m d)) R)
      -∗ Runs d (Prog.lift (.load gM (Rect.unit (s := S1x2048) ![0, 0] S1x2048.size inb_S1x2048_S1x2048_0_0).toLoadRect hl) >>= k) R) := by
  unfold Gam Runs
  simp only [Prog.lift, Prog.bind_op, Prog.bind_ret]
  iintro ⟨%f, %hf, H⟩ Hk
  iapply (wp_load 𝒱₀ (d : Thread nD τ) none Set.univ (m := gM) (S := gM.view.set) (View.setOn_subset_set _ _)) $$ H
  iintro H
  have e : gM.view.readAt (Elt F) (Rect.unit (s := S1x2048) ![0, 0] ![1, 2048] inb_S1x2048_S1x2048_0_0).toLoadRect f = gV m d :=
    (View.readAt_full gM.view f inb_S1x2048_S1x2048_0_0).trans hf
  rw [e]
  iapply Hk
  iexists f
  isplitr; · ipureintro; exact hf
  iexact H

theorem compute_runs (d : Dev nD) (c : ℕ) (hc : c < 20) :
    iprop(Ctx (F := F) m K J ∗ LDone m .p d c ∗ LDone m .r d c ∗ Gam m gM d ∗ Got m .x d c ∗ RH (F := F) .x d c ∗ OM m .m d c ∗ SS (F := F) .y d c
        ∗ Ow d (4 * c + 8))
      ⊢ Runs d (compute gM d c) iprop(LFree (F := F) .p d (c + 4) ∗ LFree (F := F) .r d (c + 4) ∗ Gam m gM d ∗ RG (F := F) .x d (c + 1) ∗ SHas m .m d c
          ∗ Was m .m d c ∗ Has (mSW .y) (Ax.nS_pos .y) c d (msg m .y d c) ∗ sPos .y d c ∗ Ow d (4 * c + 9)) := by
  unfold compute
  iintro ⟨#HC, HP, HR, HG, Hx, HRH, HO, HS, How⟩
  unfold LDone Got
  icases HP with ⟨HP, HPv⟩
  icases HR with ⟨HR, HRv⟩
  icases Hx with ⟨Hx, Hxr⟩
  iapply (rd_runs (mL .p) four_pos (k := c) (d := d) (lV m .p d c)) $$ HP
  iintro %p %hp HP
  iapply (rd_runs (mRW .x) (Ax.nR_pos .x) (k := c) (d := d) (msg m .x (nb .x d) c)) $$ Hx
  iintro %x %hx Hx
  iapply (rd_runs (mL .r) four_pos (k := c) (d := d) (lV m .r d c)) $$ HR
  iintro %r %hr HR
  iapply (gam_runs (m := m) gM d) $$ HG
  iintro HG
  have hN : norm p x r (gV m d) = nV m d c := by rw [norm_eq, hp, hx, hr]; rfl
  have hF : normF p x r (gV m d) = shapeCast (sh3 (sz c)) (hV m .m d c) (casts23 (sz c)) := by unfold normF; rw [hN]; rfl
  have hB : normB p x r (gV m d) = shapeCast (sh3 (sz c)) (msg m .y d c) (casts23 (sz c)) := by unfold normB; rw [hN]; rfl
  rw [hF, hB]
  iapply (seq (prev_runs (m := m) (K := K) (J := J) .m d c (4 * c + 8) (by omega))) $$ [HO How]
  · isplitr; · iexact HC
    isplitl [HO] <;> iassumption
  unfold SFree
  iintro ⟨⟨HO, HOv⟩, HW, How⟩
  iapply (seq (wrF_runs (mO .m) two_pos' (k := c) (d := d) (hV m .m d c))) $$ HO
  iintro HO
  iapply (seq (giveG_runs (m := m) (K := K) (J := J) .x d c (4 * c + 8) 16 rfl hc (fun h => by
      show (if c + 4 < 3 then 0 else if c + 4 = 3 then 3 else 4 * (c + 4) - 8) = _
      split_ifs <;> omega) (fun h => skip_crdx d c h) (by omega))) $$ [HRH Hx Hxr How]
  · isplitr; · iexact HC
    isplitl [HRH]; · iexact HRH
    isplitr [How]; swap; · iexact How
    unfold Used
    isplitl [Hx]; · iapply (Has_full (mRW .x) (Ax.nR_pos .x) c d _) $$ Hx
    iexact Hxr
  iintro ⟨HRG, How⟩
  iapply (seq (sprev_runs (m := m) (K := K) (J := J) .y d c (4 * c + 9) (by omega) hc)) $$ [HS How]
  · isplitr; · iexact HC
    isplitl [HS] <;> iassumption
  unfold Ready
  iintro ⟨⟨HS, Hpos⟩, How⟩
  iapply (last (wrB_runs (mSW .y) (Ax.nS_pos .y) (k := c) (d := d) (msg m .y d c))) $$ HS
  iintro HS
  isplitl [HP HPv]
  · iapply (LDone_free (m := m) .p d c)
    unfold LDone
    isplitl [HP] <;> iassumption
  isplitl [HR HRv]
  · iapply (LDone_free (m := m) .r d c)
    unfold LDone
    isplitl [HR] <;> iassumption
  isplitl [HG]; · iexact HG
  isplitl [HRG]; · iexact HRG
  isplitl [HO HOv]
  · unfold SHas
    isplitl [HO] <;> iassumption
  isplitl [HW]; · iexact HW
  isplitl [HS]; · iexact HS
  isplitl [Hpos] <;> iassumption

end Cert.KernelIdeal.Body

end
-- ==== Proof.Steps.lean ====
/- The iterations, one after another. -/
module

public import proofs.«01_k».proof.Proof.Chunk

@[expose] public section

noncomputable section

namespace Cert.KernelIdeal.Body

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release Idealize.ShloMosaic.Transfers

variable {F : FTy → Type} [FloatOps F]

local notation "𝕄" => MT nD τ sig ℕ (Elt F) ℕ UU ℕ

variable {m : (ℓ : Loc nD τ sig) → Buf (Elt F) ℓ} {K : GSem nD τ sig → ℕ} {J : Key → ℕ}
variable (gM : Memref sig .tc .vmem S1x2048 .f32)

/-! ## Loading -/

/-- Both load slots of chunk `k`: free, -/
def LFr (d : Dev nD) (k : ℕ) : sProp 𝕄 := iprop(LFree (F := F) .p d k ∗ LFree (F := F) .r d k)
/-- filled, if there is such a chunk; -/
def LDn (m : (ℓ : Loc nD τ sig) → Buf (Elt F) ℓ) (d : Dev nD) (k : ℕ) : sProp 𝕄 :=
  if k < 20 then iprop(LDone m .p d k ∗ LDone m .r d k) else LFr (F := F) d k
/-- being filled, if there is such a chunk. -/
def LFl (m : (ℓ : Loc nD τ sig) → Buf (Elt F) ℓ) (d : Dev nD) (k : ℕ) : sProp 𝕄 :=
  if k < 20 then iprop(LFly m .p d k ∗ LFly m .r d k) else LFr (F := F) d k
/-- Both arguments' rows of chunk `k`. -/
def RowsK (m : (ℓ : Loc nD τ sig) → Buf (Elt F) ℓ) (d : Dev nD) (k : ℕ) : sProp 𝕄 :=
  if k < 20 then iprop(Rows m .p d k ∗ Rows m .r d k) else iprop(emp)

/-- The loads as iteration `c` finds them. -/
def LG (m : (ℓ : Loc nD τ sig) → Buf (Elt F) ℓ) (d : Dev nD) (c : ℕ) : sProp 𝕄 :=
  iprop(LDn m d c ∗ LDn m d (c + 1) ∗ LFl m d (c + 2) ∗ LFr (F := F) d (c + 3)
    ∗ bigSep (Finset.Ico (c + 3) 24) (RowsK m d) ∗ bigSep (Finset.Ico 0 (c + 2)) (RowsK m d))

theorem startLd_runs (d : Dev nD) (k : ℕ) (hk : k < 20) : iprop(LFr (F := F) d k ∗ RowsK m d k) ⊢ Runs d (ldStart d k) (LFl m d k) := by
  unfold LFr RowsK LFl
  rw [if_pos hk, if_pos hk]
  iintro ⟨⟨H1, H2⟩, H3, H4⟩
  iapply (ldStart_runs (m := m) d k)
  isplitl [H1]; · iexact H1
  isplitl [H3]; · iexact H3
  isplitl [H2] <;> iassumption

theorem startLd_only (d : Dev nD) (c : ℕ) :
    iprop(LFr (F := F) d (c + 3) ∗ RowsK m d (c + 3)) ⊢ Runs d (only (c < 17) (ldStart d (c + 3))) (LFl m d (c + 3)) := by
  refine only_runs (fun h => startLd_runs d (c + 3) (by omega)) (fun h => ?_)
  unfold LFl
  rw [if_neg (show ¬ c + 3 < 20 by omega)]
  iintro ⟨H, -⟩; iexact H

theorem waitLd_runs (d : Dev nD) (k t : ℕ) (hk : k < 20) (ht : 0 < t) :
    iprop(Ctx (F := F) m K J ∗ LFl m d k ∗ Ow d t) ⊢ Runs d (ldWait d k) iprop(LDone m .p d k ∗ LDone m .r d k ∗ RowsK m d k ∗ Ow d t) := by
  unfold LFl RowsK
  rw [if_pos hk, if_pos hk]
  iintro ⟨#HC, ⟨H1, H2⟩, How⟩
  iapply (last (ldWait_runs (m := m) (K := K) (J := J) d k t ht)) $$ [H1 H2 How]
  · isplitr; · iexact HC
    isplitl [H1]; · iexact H1
    isplitl [H2] <;> iassumption
  iintro ⟨H1, H2, H3, H4, How⟩
  isplitl [H1]; · iexact H1
  isplitl [H2]; · iexact H2
  isplitr [How]; swap; · iexact How
  isplitl [H3] <;> iassumption

/-- Load a chunk and send it. -/
theorem feed_runs (d : Dev nD) (k t : ℕ) (hk : k < 20) (ht : datT .x k = t) (ht0 : 0 < t) (hS : SS (F := F) .x d k = Ready .x d k) :
    iprop(Ctx (F := F) m K J ∗ LFl m d k ∗ SG (F := F) .x d k ∗ Ow d t)
      ⊢ Runs d (ldWait d k >>= fun _ => xSend d k) iprop(LDn m d k ∗ RowsK m d k ∗ SG (F := F) .x d (k + 1) ∗ Ow d (t + 1)) := by
  subst ht
  unfold LDn
  rw [if_pos hk]
  iintro ⟨#HC, HL, HS, How⟩
  ihave HS := (SG_open (F := F) .x d k) $$ HS
  rw [hS]
  icases HS with ⟨HS, HSo⟩
  iapply (seq (waitLd_runs (m := m) (K := K) (J := J) d k _ hk ht0)) $$ [HL How]
  · isplitr; · iexact HC
    isplitl [HL] <;> iassumption
  iintro ⟨H1, H2, H3, How⟩
  iapply (last (xSendG_runs (m := m) (K := K) (J := J) d k hk)) $$ [H1 HS HSo How]
  · isplitr; · iexact HC
    isplitl [H1]; · iexact H1
    isplitl [HS]; · iexact HS
    isplitl [HSo] <;> iassumption
  iintro ⟨H1, HS, How⟩
  isplitl [H1 H2]; · isplitl [H1] <;> iassumption
  isplitl [H3]; · iexact H3
  isplitl [HS] <;> iassumption

/-- The same where the send slot is still in use. -/
theorem feed_sent_runs (d : Dev nD) (c : ℕ) (hc1 : 1 ≤ c) (hc : c < 18) :
    iprop(Ctx (F := F) m K J ∗ LFl m d (c + 2) ∗ SG (F := F) .x d (c + 2) ∗ Ow d (4 * c + 7))
      ⊢ Runs d (ldWait d (c + 2) >>= fun _ => xSent (c - 1) >>= fun _ => xSend d (c + 2))
          iprop(LDn m d (c + 2) ∗ RowsK m d (c + 2) ∗ SG (F := F) .x d (c + 3) ∗ Ow d (4 * c + 8)) := by
  have hS : SS (F := F) .x d (c + 2) = Flying .x d (c - 1) := by rw [show c + 2 = c - 1 + Ax.nS .x by show _ = c - 1 + 3; omega, SS_fly]
  have hR : Ready (F := F) .x d (c - 1 + Ax.nS .x) = Ready .x d (c + 2) := by rw [show c - 1 + Ax.nS .x = c + 2 by show c - 1 + 3 = _; omega]
  have hT : datT .x (c + 2) = 4 * c + 7 := by
    show (if c + 2 < 2 then 5 + (c + 2) else 4 * (c + 2) - 1) = _
    rw [if_neg (by omega)]; omega
  unfold LDn
  rw [if_pos (show c + 2 < 20 by omega)]
  iintro ⟨#HC, HL, HS, How⟩
  ihave HS := (SG_open (F := F) .x d (c + 2)) $$ HS
  rw [hS]
  icases HS with ⟨HS, HSo⟩
  iapply (seq (waitLd_runs (m := m) (K := K) (J := J) d (c + 2) (4 * c + 7) (by omega) (by omega))) $$ [HL How]
  · isplitr; · iexact HC
    isplitl [HL] <;> iassumption
  iintro ⟨H1, H2, H3, How⟩
  iapply (seq (sent_runs (m := m) (K := K) (J := J) .x d (c - 1) (4 * c + 7) (by omega) (by omega))) $$ [HS How]
  · isplitr; · iexact HC
    isplitl [HS] <;> iassumption
  rw [hR, ← hT]
  iintro ⟨HS, How⟩
  iapply (last (xSendG_runs (m := m) (K := K) (J := J) d (c + 2) (by omega))) $$ [H1 HS HSo How]
  · isplitr; · iexact HC
    isplitl [H1]; · iexact H1
    isplitl [HS]; · iexact HS
    isplitl [HSo] <;> iassumption
  rw [hT]
  iintro ⟨H1, HS, How⟩
  isplitl [H1 H2]; · isplitl [H1] <;> iassumption
  isplitl [H3]; · iexact H3
  isplitl [HS] <;> iassumption

/-- Before and after the first two lines of iteration `c`. -/
def Pre (m : (ℓ : Loc nD τ sig) → Buf (Elt F) ℓ) (d : Dev nD) (c : ℕ) : sProp 𝕄 :=
  iprop(LFl m d (c + 2) ∗ SG (F := F) .x d (min (c + 2) 20) ∗ Ow d (4 * c + 7))
def Post (m : (ℓ : Loc nD τ sig) → Buf (Elt F) ℓ) (d : Dev nD) (c : ℕ) : sProp 𝕄 :=
  iprop(LDn m d (c + 2) ∗ RowsK m d (c + 2) ∗ SG (F := F) .x d (min (c + 1 + 2) 20) ∗ Ow d (4 * c + 8))

theorem front1_runs (d : Dev nD) (c : ℕ) :
    iprop(Ctx (F := F) m K J ∗ Pre m d c)
      ⊢ Runs d (only (1 ≤ c ∧ c < 18) (ldWait d (c + 2) >>= fun _ => xSent (c - 1) >>= fun _ => xSend d (c + 2)))
          (if c = 0 then Pre m d c else Post m d c) := by
  refine only_runs (fun h => ?_) (fun h => ?_)
  · rw [if_neg (show ¬ c = 0 by omega)]
    unfold Pre Post
    rw [show min (c + 2) 20 = c + 2 by omega, show min (c + 1 + 2) 20 = c + 3 by omega]
    exact feed_sent_runs d c h.1 h.2
  · by_cases h0 : c = 0
    · rw [if_pos h0]; iintro ⟨-, H⟩; iexact H
    · rw [if_neg h0]
      unfold Pre Post LFl LDn RowsK
      rw [if_neg (show ¬ c + 2 < 20 by omega), if_neg (show ¬ c + 2 < 20 by omega), if_neg (show ¬ c + 2 < 20 by omega),
        show min (c + 2) 20 = 20 by omega, show min (c + 1 + 2) 20 = 20 by omega]
      iintro ⟨-, HL, HS, How⟩
      ihave How := (Ow_eq (skip_dat d c (by omega))) $$ How
      isplitl [HL]; · iexact HL
      isplitr; · iempintro
      isplitl [HS] <;> iassumption

theorem front2_runs (d : Dev nD) (c : ℕ) :
    iprop(Ctx (F := F) m K J ∗ (if c = 0 then Pre m d c else Post m d c))
      ⊢ Runs d (only (c = 0) (ldWait d (c + 2) >>= fun _ => xSend d (c + 2))) (Post m d c) := by
  refine only_runs (fun h => ?_) (fun h => ?_)
  · rw [if_pos h]
    subst h
    exact feed_runs d 2 7 (by omega) rfl (by omega) rfl
  · rw [if_neg h]; iintro ⟨-, H⟩; iexact H

/-! ## An iteration -/

/-- The own half of the rows, as iteration `c` finds it. -/
def PartA (m : (ℓ : Loc nD τ sig) → Buf (Elt F) ℓ) (d : Dev nD) (c : ℕ) : sProp 𝕄 :=
  iprop(LG m d c ∗ Gam m gM d ∗ SG (F := F) .x d (min (c + 2) 20) ∗ RG (F := F) .x d c ∗ OG m .m d c ∗ SG (F := F) .y d c)
/-- The other half, with chunks before `e` done. -/
def PartB (m : (ℓ : Loc nD τ sig) → Buf (Elt F) ℓ) (d : Dev nD) (e : ℕ) : sProp 𝕄 := iprop(RG (F := F) .y d e ∗ OG m .o d e)

theorem stepA_runs (d : Dev nD) (c : ℕ) (hc : c < 20) :
    iprop(Ctx (F := F) m K J ∗ PartA gM m d c ∗ Ow d (4 * c + 7))
      ⊢ Runs d (stepA gM d c) iprop(PartA gM m d (c + 1) ∗ Ow d (4 * c + 10)) := by
  have hL : LDn m d c = iprop(LDone m .p d c ∗ LDone m .r d c) := by unfold LDn; rw [if_pos hc]
  unfold stepA PartA LG
  rw [fam_first (RowsK m d) (show c + 3 < 24 by omega), hL]
  iintro ⟨#HC, ⟨⟨⟨HP, HR⟩, HL1, HL2, HL3, ⟨Hrow, Hrows⟩, Hret⟩, HG, HX, HRG, HO, HY⟩, How⟩
  iapply (seq (front1_runs (m := m) (K := K) (J := J) d c)) $$ [HL2 HX How]
  · isplitr; · iexact HC
    unfold Pre
    isplitl [HL2]; · iexact HL2
    isplitl [HX] <;> iassumption
  iintro H
  iapply (seq (front2_runs (m := m) (K := K) (J := J) d c)) $$ [H]
  · isplitr; · iexact HC
    iexact H
  unfold Post
  iintro ⟨HL2, Hr2, HX, How⟩
  iapply (seq (recvG_runs (m := m) (K := K) (J := J) .x d c (4 * c + 8) hc (by
    show (if c < 2 then 5 + c else 4 * c - 1) < _
    split_ifs <;> omega))) $$ [HRG How]
  · isplitr; · iexact HC
    isplitl [HRG] <;> iassumption
  iintro ⟨HRH, Hgot, How⟩
  ihave HO := (OG_open (m := m) .m d c) $$ HO
  icases HO with ⟨HO, HOo⟩
  ihave HY := (SG_open (F := F) .y d c) $$ HY
  icases HY with ⟨HY, HYo⟩
  iapply (seq (compute_runs (m := m) (K := K) (J := J) gM d c hc)) $$ [HP HR HG Hgot HRH HO HY How]
  · isplitr; · iexact HC
    isplitl [HP]; · iexact HP
    isplitl [HR]; · iexact HR
    isplitl [HG]; · iexact HG
    isplitl [Hgot]; · iexact Hgot
    isplitl [HRH]; · iexact HRH
    isplitl [HO]; · iexact HO
    isplitl [HY] <;> iassumption
  iintro ⟨HP, HR, HG, HRG, HS, HW, HY, Hpos, How⟩
  iapply (seq (start_runs (m := m) .m d c hc)) $$ [HS HW HOo]
  · isplitl [HS]; · iexact HS
    isplitl [HW] <;> iassumption
  iintro HO
  iapply (seq (startLd_only (m := m) d c)) $$ [HL3 Hrow]
  · isplitl [HL3] <;> iassumption
  iintro HL3
  iapply (last (ySendG_runs (m := m) (K := K) (J := J) d c hc)) $$ [HY Hpos HYo How]
  · isplitr; · iexact HC
    isplitl [HY]; · iexact HY
    isplitl [Hpos]; · iexact Hpos
    isplitl [HYo]; · iexact HYo
    iexact How
  iintro ⟨HY, How⟩
  isplitr [How]; swap; · iexact How
  isplitl [HP HR HL1 HL2 HL3 Hrows Hret Hr2]
  · isplitl [HL1]; · iexact HL1
    isplitl [HL2]; · iexact HL2
    isplitl [HL3]; · iexact HL3
    isplitl [HP HR]
    · unfold LFr
      isplitl [HP] <;> iassumption
    isplitl [Hrows]; · iexact Hrows
    iapply (fam_put (RowsK m d) (Nat.zero_le (c + 2)))
    isplitl [Hr2] <;> iassumption
  isplitl [HG]; · iexact HG
  isplitl [HX]; · iexact HX
  isplitl [HRG]; · iexact HRG
  isplitl [HO] <;> iassumption

theorem stepB_runs (d : Dev nD) (e : ℕ) (he : e < 20) :
    iprop(Ctx (F := F) m K J ∗ PartB m d e ∗ Ow d (4 * e + 14)) ⊢ Runs d (stepB d e) iprop(PartB m d (e + 1) ∗ Ow d (4 * e + 15)) := by
  unfold stepB PartB
  iintro ⟨#HC, ⟨HRG, HO⟩, How⟩
  iapply (seq (recvG_runs (m := m) (K := K) (J := J) .y d e (4 * e + 14) he (show 4 * e + 9 < _ by omega))) $$ [HRG How]
  · isplitr; · iexact HC
    isplitl [HRG] <;> iassumption
  iintro ⟨HRH, Hgot, How⟩
  ihave HO := (OG_open (m := m) .o d e) $$ HO
  icases HO with ⟨HO, HOo⟩
  iapply (seq (prev_runs (m := m) (K := K) (J := J) .o d e (4 * e + 14) (by omega))) $$ [HO How]
  · isplitr; · iexact HC
    isplitl [HO] <;> iassumption
  unfold SFree Got
  iintro ⟨⟨HO, HOv⟩, HW, How⟩
  icases Hgot with ⟨Hx, Hxr⟩
  iapply (rd_runs (mRW .y) (Ax.nR_pos .y) (k := e) (d := d) (msg m .y (nb .y d) e)) $$ Hx
  iintro %x %hx Hx
  have hw : widen x = shapeCast (sh3 (sz e)) (hV m .o d e) (casts23 (sz e)) := by unfold widen; rw [hx]; rfl
  rw [hw]
  iapply (seq (wrF_runs (mO .o) two_pos' (k := e) (d := d) (hV m .o d e))) $$ HO
  iintro HO
  iapply (seq (giveG_runs (m := m) (K := K) (J := J) .y d e (4 * e + 14) 17 rfl he (fun h => by
      show (if e + 3 < 2 then 0 else if e + 3 = 2 then 4 else 4 * (e + 3) + 2) = _
      split_ifs <;> omega) (fun h => skip_crdy d (e + 1) (Or.inr (by omega))) (by omega))) $$ [HRH Hx Hxr How]
  · isplitr; · iexact HC
    isplitl [HRH]; · iexact HRH
    isplitr [How]; swap; · iexact How
    unfold Used
    isplitl [Hx]; · iapply (Has_full (mRW .y) (Ax.nR_pos .y) e d _) $$ Hx
    iexact Hxr
  iintro ⟨HRG, How⟩
  iapply (last (start_runs (m := m) .o d e he)) $$ [HO HOv HW HOo]
  · unfold SHas
    isplitl [HO HOv]; · isplitl [HO] <;> iassumption
    isplitl [HW] <;> iassumption
  iintro HO
  isplitr [How]; swap; · iexact How
  isplitl [HRG] <;> iassumption

theorem steps_runs (d : Dev nD) (R : sProp 𝕄) (k : Prog (TpuEff nD τ sig (Elt F) Λ₀ .tc) PUnit) :
    ∀ (n c : ℕ), 1 ≤ c → c + n = 20 →
      iprop(Ctx (F := F) m K J ∗ PartA gM m d c ∗ PartB m d (c - 1) ∗ Ow d (4 * c + 7) ∗ (PartA gM m d 20 ∗ PartB m d 19 ∗ Ow d 87 -∗ Runs d k R))
        ⊢ Runs d (steps gM d c n k) R
  | 0, c, h1, h2 => by
    obtain rfl : c = 20 := by omega
    unfold steps
    iintro ⟨-, HA, HB, How, Hk⟩
    iapply Hk
    isplitl [HA]; · iexact HA
    isplitl [HB] <;> iassumption
  | n + 1, c, h1, h2 => by
    obtain ⟨e, rfl⟩ : ∃ e, c = e + 1 := ⟨c - 1, by omega⟩
    unfold steps
    rw [Nat.add_sub_cancel]
    iintro ⟨#HC, HA, HB, How, Hk⟩
    iapply (seq (stepA_runs (m := m) (K := K) (J := J) gM d (e + 1) (by omega))) $$ [HA How]
    · isplitr; · iexact HC
      isplitl [HA] <;> iassumption
    iintro ⟨HA, How⟩
    iapply (seq (stepB_runs (m := m) (K := K) (J := J) d e (by omega))) $$ [HB How]
    · isplitr; · iexact HC
      isplitl [HB] <;> iassumption
    iintro ⟨HB, How⟩
    iapply (steps_runs d R k n (e + 1 + 1) (by omega) (by omega))
    isplitr; · iexact HC
    isplitl [HA]; · iexact HA
    isplitl [HB]; · iexact HB
    isplitl [How] <;> iassumption

end Cert.KernelIdeal.Body

end
-- ==== Proof.Ends.lean ====
/- What precedes and what follows the iterations. -/
module

public import proofs.«01_k».proof.Proof.Steps

@[expose] public section

noncomputable section

namespace Cert.KernelIdeal.Body

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release Idealize.ShloMosaic.Transfers

variable {F : FTy → Type} [FloatOps F]

local notation "𝕄" => MT nD τ sig ℕ (Elt F) ℕ UU ℕ

variable {m : (ℓ : Loc nD τ sig) → Buf (Elt F) ℓ} {K : GSem nD τ sig → ℕ} {J : Key → ℕ}
variable (gM : Memref sig .tc .vmem S1x2048 .f32)

/-! ## The first signals -/

/-- Every receive slot, lent to the neighbour. -/
theorem lend_all (a : Ax) (d : Dev nD) : ∀ n, n ≤ a.nR →
    iprop(Ctx (F := F) m K J ∗ bigSep (Finset.Ico 0 n) (fun k => Full (F := F) (mRW a) a.nR_pos k d))
      ⊢ bigSep (Finset.Ico 0 n) (fun k => Lend (F := F) a d k)
  | 0, _ => by rw [fam_nil _ (le_refl 0), fam_nil _ (le_refl 0)]; iintro ⟨-, H⟩; iexact H
  | n + 1, h => by
    rw [fam_last _ (Nat.zero_le n), fam_last _ (Nat.zero_le n)]
    iintro ⟨#HC, H, G⟩
    ihave G := (lend_all a d n (by omega)) $$ [G]
    · isplitr; · iexact HC
      iexact G
    isplitr [G]; swap; · iexact G
    unfold Lend
    isplitl [H]; · iexact H
    rw [Nat.div_eq_of_lt (show n < a.nR by omega)]
    iapply (Ctx_reached (mem_v a d n)); iexact HC

theorem bar_runs (a : Ax) (d : Dev nD) (i t : ℕ) (hi : i = if a = .x then 0 else 1) (ht : time a .bar 0 = t) (h0 : 0 < t) :
    iprop(Ctx (F := F) m K J ∗ bigSep (Finset.Ico 0 a.nR) (fun k => Full (F := F) (mRW a) a.nR_pos k d) ∗ dutyTok ER (bCell (nb a d)) 0 i ∗ Ow d t)
      ⊢ Runs d (semSignalWord (nb a d) semB 1#32) (Ow d (t + 1)) := by
  iintro ⟨#HC, Hl, Htok, How⟩
  ihave Hl := (lend_all (m := m) (K := K) (J := J) a d a.nR (le_refl _)) $$ [Hl]
  · isplitr; · iexact HC
    iexact Hl
  unfold Ow Runs
  icases How with ⟨%W, How⟩
  simp only [semSignalWord, Prog.lift]
  iapply (Rounds.wp_signal 𝒱₀ ER (Rd m) (d : Thread nD τ) none (κ := K (bCell (nb a d))) (r := 0) (d := i)
    (by rw [duties_b]; subst hi; cases a <;> decide) (k' := 1) (amount_b m (nb a d) i) t (O₀ := O d t) (O d (t + 1))
    (step_at d a .bar 0 (by decide) t ht h0)) $$ [Hl Htok How]
  · isplitr; · iapply (Ctx_cell (mem_b (nb a d))); iexact HC
    isplitl [How]; · iexact How
    isplitl [Htok]; · iexact Htok
    isplitl [Hl]
    · rw [payload_b m a (nb a d) i hi, nb_nb, Finset.range_eq_Ico]; iexact Hl
    iapply (Ctx_reached (mem_b (nb a d))); iexact HC
  iintro How
  rw [wp_ret]; imodintro
  iexists W; iexact How

theorem bar_wait (d : Dev nD) :
    iprop(Ctx (F := F) m K J ∗ atPos ER (bCell d) 0 ∅ 0 ∗ cred (tallyAt (bCell d) 1 1) ∗ cred (tallyAt (bCell d) 2 1) ∗ Ow d 3)
      ⊢ Runs d (semWaitWord semB 2#32) iprop(atPos ER (bCell d) 1 ∅ 0
          ∗ bigSep (Finset.Ico 0 (Ax.nR .x)) (fun k => Lend (F := F) .x (nb .x d) k)
          ∗ bigSep (Finset.Ico 0 (Ax.nR .y)) (fun k => Lend (F := F) .y (nb .y d) k) ∗ Ow d 3) := by
  have hcr : (tallyOn (bCell d) (Finsupp.single 1 1 + Finsupp.single 2 1) : CellTallies nD τ sig ℕ) = tallyAt (bCell d) 1 1 + tallyAt (bCell d) 2 1 :=
    Pi.single_add _ _ _
  have hpay : bigSep ((Rd m).duties (bCell d) 0 \ ∅) (fun i => (Rd m).payload (bCell d) 0 i)
      ⊢ iprop(bigSep (Finset.Ico 0 (Ax.nR .x)) (fun k => Lend (F := F) .x (nb .x d) k)
          ∗ bigSep (Finset.Ico 0 (Ax.nR .y)) (fun k => Lend (F := F) .y (nb .y d) k)) := by
    rw [Finset.sdiff_empty, duties_b, ← Finset.range_eq_Ico, ← Finset.range_eq_Ico, ← payload_b m .x d 0 rfl, ← payload_b m .y d 1 rfl]
    refine Entails.of_eq ?_
    rw [bigSep_insert (by decide), bigSep_singleton]
    rfl
  iintro ⟨#HC, Hat, H1, H2, How⟩
  ihave Hcr := (cred_add (tallyAt (bCell d) 1 1) (tallyAt (bCell d) 2 1)).2 $$ [H1 H2]
  · isplitl [H1] <;> iassumption
  rw [← hcr]
  unfold Ow Runs
  icases How with ⟨%W, How⟩
  simp only [semWaitWord, Prog.lift]
  iapply (Rounds.wp_wait_rest 𝒱₀ ER (Rd m) (d : Thread nD τ) none (wpE_semWait_eq 𝒱₀ (d : Thread nD τ) none Set.univ) (Set.mem_univ (K (bCell d)))
    (k' := 2) (cr := Finsupp.single 1 1 + Finsupp.single 2 1) (R := 0) (m := 0) (T := ∅) {(SemLoc.reg semB, 1), (SemLoc.reg semB, 2)} (by rw [expect_b])
    (by rw [Util.total_add, Util.total_single, Util.total_single])
    (fun p hp => by
      obtain ⟨i, hi, rfl⟩ := Finset.mem_image.mp hp
      have := Finsupp.support_add hi
      simp only [Finset.mem_union] at this
      rcases this with h | h
      · rw [Finset.mem_singleton.mp (Finsupp.support_single_subset h)]; simp
      · rw [Finset.mem_singleton.mp (Finsupp.support_single_subset h)]; simp)) $$ [Hat Hcr How]
  · isplitr; · iapply (Ctx_cell (mem_b d)); iexact HC
    isplitl [Hcr]; · iexact Hcr
    isplitl [How]; · iexact How
    isplitr [Hat]
    · iapply (Ctx_owe (m := m) (K := K) (J := J) d 3 _ (by omega) (fun p hp => by
        simp only [Finset.mem_insert, Finset.mem_singleton] at hp
        rcases hp with rfl | rfl <;> exact ⟨by decide, by decide⟩)); iexact HC
    · iexact Hat
  iintro ⟨How, Hat, -, Hp⟩
  ihave Hp := hpay $$ Hp
  icases Hp with ⟨H1, H2⟩
  rw [wp_ret]; imodintro
  isplitl [Hat]; · iexact Hat
  isplitl [H1]; · iexact H1
  isplitl [H2]; · iexact H2
  iexists _; iexact How

/-- The credit for the slots nobody has used. -/
theorem first_runs (a : Ax) (d : Dev nD) (t : ℕ) (w : BitVec 32) (hw : w.toInt = (a.nR : ℕ)) (ht : time a .crd (a.nR - 1) = t) (h0 : 0 < t) :
    iprop(Ctx (F := F) m K J ∗ dutyTok ER (kCell a (nb a d)) 0 (a.nR - 1) ∗ Ow d t)
      ⊢ Runs d (semSignalWord (nb a d) (semK a) w) iprop(Freed (F := F) a d a.nR ∗ Ow d (t + 1)) := by
  have hR : a.nR - 1 + 1 = a.nR := by have := a.nR_pos; omega
  have hlt : a.nR - 1 < 20 := by cases a <;> decide
  have hamt : camt a (a.nR - 1) = a.nR := by unfold camt; rw [if_pos hR]
  iintro ⟨#HC, Htok, How⟩
  unfold Ow Runs
  icases How with ⟨%W, How⟩
  simp only [semSignalWord, Prog.lift]
  rw [hw]
  iapply (Rounds.wp_signal 𝒱₀ ER (Rd m) (d : Thread nD τ) none (κ := K (kCell a (nb a d))) (r := 0) (d := a.nR - 1)
    (by rw [duties_k]; exact Finset.mem_Ico.mpr ⟨le_refl _, hlt⟩) (k' := a.nR) (by rw [amount_k, hamt]) t (O₀ := O d t) (O d (t + 1))
    (by
      have := step_at d a .crd (a.nR - 1) hlt t ht h0
      rw [this]; congr 1
      show tallyAt (kCell a (nb a d)) t (camt a (a.nR - 1)) = _
      rw [hamt])) $$ [Htok How]
  · isplitr; · iapply (Ctx_cell (mem_k a (nb a d))); iexact HC
    isplitl [How]; · iexact How
    isplitl [Htok]; · iexact Htok
    isplitr
    · rw [payload_k, nb_nb, hR]; unfold Freed; rw [fam_nil _ (le_refl _)]; iempintro
    iapply (Ctx_reached (mem_k a (nb a d))); iexact HC
  iintro How
  rw [wp_ret]; imodintro
  isplitr
  · unfold Freed; rw [fam_nil _ (le_refl _)]; iempintro
  iexists W; iexact How

/-! ## What a device starts with -/

/-- For one exchange. -/
def Init (a : Ax) (d : Dev nD) : sProp 𝕄 :=
  iprop(dutyTok ER (kCell a (nb a d)) 0 (a.nR - 1) ∗ bigSep (Finset.Ico 0 a.nS) (Ready (F := F) a d) ∗ atPos ER (kCell a d) 0 ∅ 0
    ∗ bigSep (Finset.Ico a.nR 20) (fun k => writeTok ES (key a (nb a d) k) 1)
    ∗ bigSep (Finset.Ico 0 20) (fun k => iprop(dutyTok ER (vCell a (nb a d) k) (k / a.nR) 0 ∗ dutyTok ER (sCell a d k) (k / a.nS) 0 ∗ credTok a d k))
    ∗ bigSep (Finset.Ico 0 a.nR) (vPos (F := F) a d) ∗ bigSep (Finset.Ico 0 20) (RcvTok (F := F) a d))

/-- For the first signals. -/
def InitB (d : Dev nD) : sProp 𝕄 :=
  iprop(dutyTok ER (bCell (nb .x d)) 0 0 ∗ dutyTok ER (bCell (nb .y d)) 0 1 ∗ atPos ER (bCell d) 0 ∅ 0
    ∗ cred (tallyAt (bCell d) 1 1) ∗ cred (tallyAt (bCell d) 2 1)
    ∗ bigSep (Finset.Ico 0 (Ax.nR .x)) (fun k => Full (F := F) (mRW .x) (Ax.nR_pos .x) k d)
    ∗ bigSep (Finset.Ico 0 (Ax.nR .y)) (fun k => Full (F := F) (mRW .y) (Ax.nR_pos .y) k d))

theorem SG_init (a : Ax) (d : Dev nD) :
    iprop(bigSep (Finset.Ico 0 a.nR) (fun k => Lend (F := F) a (nb a d) k) ∗ bigSep (Finset.Ico 0 a.nS) (Ready (F := F) a d) ∗ atPos ER (kCell a d) 0 ∅ 0
        ∗ bigSep (Finset.Ico a.nR 20) (fun k => writeTok ES (key a (nb a d) k) 1)
        ∗ bigSep (Finset.Ico 0 20) (fun k => iprop(dutyTok ER (vCell a (nb a d) k) (k / a.nR) 0 ∗ dutyTok ER (sCell a d k) (k / a.nS) 0 ∗ credTok a d k)))
      ⊢ SG (F := F) a d 0 := by
  have hR : a.nR ≤ 20 := by cases a <;> decide
  have h1 : bigSep (Finset.Ico 0 a.nR) (fun k => Lend (F := F) a (nb a d) k) = bigSep (Finset.Ico 0 a.nR) (Wr (F := F) a d) :=
    bigSep_congr fun k hk => by unfold Wr; rw [if_pos (Finset.mem_Ico.mp hk).2]
  have h2 : bigSep (Finset.Ico a.nR 20) (fun k => (writeTok ES (key a (nb a d) k) 1 : sProp 𝕄)) = bigSep (Finset.Ico a.nR 20) (Wr (F := F) a d) :=
    bigSep_congr fun k hk => by unfold Wr; rw [if_neg (by have := (Finset.mem_Ico.mp hk).1; omega)]
  have h3 : iprop(bigSep (Finset.Ico 0 a.nR) (Wr (F := F) a d) ∗ bigSep (Finset.Ico a.nR 20) (Wr (F := F) a d)) ⊢ bigSep (Finset.Ico 0 20) (Wr (F := F) a d) := by
    refine Entails.of_eq ?_
    rw [← Finset.Ico_union_Ico_eq_Ico (Nat.zero_le a.nR) hR]
    exact (bigSep_union (Finset.Ico_disjoint_Ico_consecutive 0 a.nR 20)).symm
  have h4 : bigSep (Finset.Ico 0 a.nS) (Ready (F := F) a d) = bigSep (Finset.Ico 0 (0 + a.nS)) (SS (F := F) a d) := by
    rw [Nat.zero_add]
    exact bigSep_congr fun k hk => by unfold SS; rw [if_pos (Finset.mem_Ico.mp hk).2]
  have h5 : iprop(bigSep (Finset.Ico 0 20) (Wr (F := F) a d)
        ∗ bigSep (Finset.Ico 0 20) (fun k => iprop(dutyTok ER (vCell a (nb a d) k) (k / a.nR) 0 ∗ dutyTok ER (sCell a d k) (k / a.nS) 0 ∗ credTok a d k)))
      ⊢ bigSep (Finset.Ico 0 20) (SndTok (F := F) a d) := by
    refine Entails.of_eq ?_
    unfold SndTok
    exact (bigSep_sep _ _ _).symm
  rw [h1, h2, h4]
  unfold SG Credit
  iintro ⟨HL, HS, Hat, HW, HD⟩
  isplitl [HS]; · iexact HS
  isplitl [Hat]
  · iexists ∅
    isplitr; · ipureintro; intro h; exact absurd h (by decide)
    isplitl [Hat]; · iexact Hat
    rw [bigSep_empty]; iempintro
  iapply h5
  isplitr [HD]; swap; · iexact HD
  iapply h3
  isplitl [HL] <;> iassumption

theorem RG_init (a : Ax) (d : Dev nD) :
    iprop(bigSep (Finset.Ico 0 a.nR) (vPos (F := F) a d) ∗ bigSep (Finset.Ico 0 20) (RcvTok (F := F) a d) ∗ Freed (F := F) a d a.nR) ⊢ RG (F := F) a d 0 := by
  have hR : min (0 + a.nR) 20 = a.nR := by cases a <;> decide
  unfold RG
  rw [hR, fam_nil _ (le_refl 0), Nat.zero_add]
  iintro ⟨H1, H2, H3⟩
  isplitl [H1]; · iexact H1
  isplitl [H2]; · iexact H2
  isplitl [H3]; · iexact H3
  iempintro

/-- The loads before the first. -/
def LInit (m : (ℓ : Loc nD τ sig) → Buf (Elt F) ℓ) (d : Dev nD) : sProp 𝕄 :=
  iprop(bigSep (Finset.Ico 0 4) (LFr (F := F) d) ∗ bigSep (Finset.Ico 0 24) (RowsK m d))

theorem SS_ready (a : Ax) (d : Dev nD) (k : ℕ) (h : k < a.nS) : SS (F := F) a d k ⊢ Ready a d k := by
  unfold SS; rw [if_pos h]

theorem begin_runs (d : Dev nD) :
    iprop(Ctx (F := F) m K J ∗ InitB (F := F) d ∗ Init (F := F) .x d ∗ Init (F := F) .y d ∗ LInit m d ∗ Ow d 1)
      ⊢ Runs d (begin d) iprop(atPos ER (bCell d) 1 ∅ 0 ∗ LG m d 0 ∗ SG (F := F) .x d 2 ∗ RG (F := F) .x d 0 ∗ SG (F := F) .y d 0 ∗ RG (F := F) .y d 0 ∗ Ow d 7) := by
  unfold begin InitB Init LInit LG
  rw [fam_first (LFr (F := F) d) (show 0 < 4 by decide), fam_first (LFr (F := F) d) (show 0 + 1 < 4 by decide), fam_first (LFr (F := F) d) (show 0 + 1 + 1 < 4 by decide),
    fam_first (LFr (F := F) d) (show 0 + 1 + 1 + 1 < 4 by decide), fam_nil (LFr (F := F) d) (show 4 ≤ 0 + 1 + 1 + 1 + 1 by decide),
    fam_first (RowsK m d) (show 0 < 24 by decide), fam_first (RowsK m d) (show 0 + 1 < 24 by decide), fam_first (RowsK m d) (show 0 + 1 + 1 < 24 by decide),
    fam_last (RowsK m d) (show 0 ≤ 0 + 1 by decide), fam_last (RowsK m d) (show 0 ≤ 0 by decide), fam_nil (RowsK m d) (le_refl 0)]
  iintro ⟨#HC, ⟨Hb0, Hb1, Hbat, Hbc1, Hbc2, HFx, HFy⟩, ⟨Hkx, HRx, Hkatx, HWx, HDx, Hvx, Hrx⟩, ⟨Hky, HRy, Hkaty, HWy, HDy, Hvy, Hry⟩, ⟨⟨HL0, HL1, HL2, HL3, -⟩, ⟨HA0, HA1, HA2, HA⟩⟩, How⟩
  iapply (seq (bar_runs (m := m) (K := K) (J := J) .x d 0 1 rfl rfl (by decide))) $$ [HFx Hb0 How]
  · isplitr; · iexact HC
    isplitl [HFx]; · iexact HFx
    isplitl [Hb0] <;> iassumption
  iintro How
  iapply (seq (bar_runs (m := m) (K := K) (J := J) .y d 1 2 rfl rfl (by decide))) $$ [HFy Hb1 How]
  · isplitr; · iexact HC
    isplitl [HFy]; · iexact HFy
    isplitl [Hb1] <;> iassumption
  iintro How
  iapply (seq (bar_wait (m := m) (K := K) (J := J) d)) $$ [Hbat Hbc1 Hbc2 How]
  · isplitr; · iexact HC
    isplitl [Hbat]; · iexact Hbat
    isplitl [Hbc1]; · iexact Hbc1
    isplitl [Hbc2] <;> iassumption
  iintro ⟨Hbat, Hlx, Hly, How⟩
  iapply (seq (first_runs (m := m) (K := K) (J := J) .x d 3 4#32 (by decide) rfl (by decide))) $$ [Hkx How]
  · isplitr; · iexact HC
    isplitl [Hkx] <;> iassumption
  iintro ⟨Hfx, How⟩
  iapply (seq (first_runs (m := m) (K := K) (J := J) .y d 4 3#32 (by decide) rfl (by decide))) $$ [Hky How]
  · isplitr; · iexact HC
    isplitl [Hky] <;> iassumption
  iintro ⟨Hfy, How⟩
  iapply (seq (startLd_runs (m := m) d 0 (by decide))) $$ [HL0 HA0]
  · isplitl [HL0] <;> iassumption
  iintro HL0
  iapply (seq (startLd_runs (m := m) d 1 (by decide))) $$ [HL1 HA1]
  · isplitl [HL1] <;> iassumption
  iintro HL1
  iapply (seq (startLd_runs (m := m) d 2 (by decide))) $$ [HL2 HA2]
  · isplitl [HL2] <;> iassumption
  iintro HL2
  ihave HX := (SG_init (F := F) .x d) $$ [Hlx HRx Hkatx HWx HDx]
  · isplitl [Hlx]; · iexact Hlx
    isplitl [HRx]; · iexact HRx
    isplitl [Hkatx]; · iexact Hkatx
    isplitl [HWx] <;> iassumption
  ihave HY := (SG_init (F := F) .y d) $$ [Hly HRy Hkaty HWy HDy]
  · isplitl [Hly]; · iexact Hly
    isplitl [HRy]; · iexact HRy
    isplitl [Hkaty]; · iexact Hkaty
    isplitl [HWy] <;> iassumption
  ihave HVx := (RG_init (F := F) .x d) $$ [Hvx Hrx Hfx]
  · isplitl [Hvx]; · iexact Hvx
    isplitl [Hrx] <;> iassumption
  ihave HVy := (RG_init (F := F) .y d) $$ [Hvy Hry Hfy]
  · isplitl [Hvy]; · iexact Hvy
    isplitl [Hry] <;> iassumption
  iapply (seq (waitLd_runs (m := m) (K := K) (J := J) d 0 5 (by decide) (by decide))) $$ [HL0 How]
  · isplitr; · iexact HC
    isplitl [HL0] <;> iassumption
  iintro ⟨HL0, HM0, HA0, How⟩
  ihave HX := (SG_open (F := F) .x d 0) $$ HX
  icases HX with ⟨HX, HXo⟩
  ihave HX := (SS_ready (F := F) .x d 0 (by decide)) $$ HX
  iapply (seq (xSendG_runs (m := m) (K := K) (J := J) d 0 (by decide))) $$ [HL0 HX HXo How]
  · isplitr; · iexact HC
    isplitl [HL0]; · iexact HL0
    isplitl [HX]; · iexact HX
    isplitl [HXo]; · iexact HXo
    iexact How
  iintro ⟨HL0, HX, How⟩
  iapply (seq (waitLd_runs (m := m) (K := K) (J := J) d 1 6 (by decide) (by decide))) $$ [HL1 How]
  · isplitr; · iexact HC
    isplitl [HL1]; · iexact HL1
    iexact How
  iintro ⟨HL1, HM1, HA1, How⟩
  ihave HX := (SG_open (F := F) .x d 1) $$ HX
  icases HX with ⟨HX, HXo⟩
  ihave HX := (SS_ready (F := F) .x d 1 (by decide)) $$ HX
  iapply (last (xSendG_runs (m := m) (K := K) (J := J) d 1 (by decide))) $$ [HL1 HX HXo How]
  · isplitr; · iexact HC
    isplitl [HL1]; · iexact HL1
    isplitl [HX]; · iexact HX
    isplitl [HXo]; · iexact HXo
    iexact How
  iintro ⟨HL1, HX, How⟩
  isplitl [Hbat]; · iexact Hbat
  isplitl [HL0 HM0 HL1 HM1 HL2 HL3 HA0 HA1 HA]
  · isplitl [HL0 HM0]
    · unfold LDn; rw [if_pos (by decide : 0 < 20)]
      isplitl [HL0] <;> iassumption
    isplitl [HL1 HM1]
    · unfold LDn; rw [if_pos (by decide : 0 + 1 < 20)]
      isplitl [HL1] <;> iassumption
    isplitl [HL2]; · iexact HL2
    isplitl [HL3]; · iexact HL3
    isplitl [HA]; · iexact HA
    isplitl [HA1]; · iexact HA1
    isplitl [HA0]; · iexact HA0
    iempintro
  isplitl [HX]; · iexact HX
  isplitl [HVx]; · iexact HVx
  isplitl [HY]; · iexact HY
  isplitl [HVy]; · iexact HVy
  iexact How

/-! ## The last waits -/

theorem sentS_runs (a : Ax) (d : Dev nD) (k t : ℕ) (hk : k < 20) (ht : 0 < t) {h₁ : (mRcv a k).view.WordExact} {h₂ : (mSnd a k).view.WordExact} :
    iprop(Ctx (F := F) m K J ∗ SS (F := F) a d (k + a.nS) ∗ Ow d t)
      ⊢ Runs d (Prog.lift (.waitDma2 (semS a k) (mRcv a k) (mSnd a k) h₁ h₂)) iprop(Ready (F := F) a d (k + a.nS) ∗ Ow d t) := by
  rw [SS_fly]; exact sent_runs a d k t hk ht

theorem stO_runs (h : Ho) (d : Dev nD) (k t : ℕ) (ht : 0 < t) {h₁ : (mSt h k).view.WordExact} {h₂ : (oM h d k).view.WordExact} :
    iprop(Ctx (F := F) m K J ∗ OM m h d (k + 2) ∗ Ow d t)
      ⊢ Runs d (Prog.lift (.waitDma2 (semO h k) (mSt h k) (oM h d k) h₁ h₂)) iprop(SFree (F := F) h d (k + 2) ∗ Put m h d k ∗ Ow d t) := by
  rw [OM_fly]; exact stw_runs h d k t ht

/-- The sends at the end. -/
def SEnd (a : Ax) (d : Dev nD) : sProp 𝕄 := iprop(bigSep (Finset.Ico 20 (20 + a.nS)) (Ready (F := F) a d) ∗ Credit (F := F) a d 20)
/-- The stores at the end. -/
def OEnd (m : (ℓ : Loc nD τ sig) → Buf (Elt F) ℓ) (h : Ho) (d : Dev nD) : sProp 𝕄 :=
  iprop(bigSep (Finset.Ico 20 22) (SFree (F := F) h d) ∗ bigSep (Finset.Ico 0 20) (Put m h d))

theorem finish_runs (d : Dev nD) :
    iprop(Ctx (F := F) m K J ∗ PartA gM m d 20 ∗ PartB m d 19 ∗ Ow d 87)
      ⊢ Runs d (finish d) iprop(LG m d 20 ∗ Gam m gM d ∗ SEnd (F := F) .x d ∗ RG (F := F) .x d 20 ∗ OEnd m .m d ∗ SEnd (F := F) .y d
          ∗ RG (F := F) .y d 20 ∗ OEnd m .o d ∗ Ow d 91) := by
  have hO : Ow (F := F) d 87 ⊢ Ow d 90 := Ow_eq (by rw [O_end d 87 (by decide), O_end d 90 (by decide)])
  have hX : bigSep (Finset.Ico 20 (20 + Ax.nS .x)) (SS (F := F) .x d) = iprop(SS .x d 20 ∗ SS .x d 21 ∗ SS .x d 22 ∗ emp) := by
    rw [fam_first _ (show 20 < 20 + Ax.nS .x by decide), fam_first _ (show 21 < 20 + Ax.nS .x by decide), fam_first _ (show 22 < 20 + Ax.nS .x by decide),
      fam_nil _ (show 20 + Ax.nS .x ≤ 23 by decide)]
  have hXr : bigSep (Finset.Ico 20 (20 + Ax.nS .x)) (Ready (F := F) .x d) = iprop(Ready .x d 20 ∗ Ready .x d 21 ∗ Ready .x d 22 ∗ emp) := by
    rw [fam_first _ (show 20 < 20 + Ax.nS .x by decide), fam_first _ (show 21 < 20 + Ax.nS .x by decide), fam_first _ (show 22 < 20 + Ax.nS .x by decide),
      fam_nil _ (show 20 + Ax.nS .x ≤ 23 by decide)]
  have hY : bigSep (Finset.Ico 20 (20 + Ax.nS .y)) (SS (F := F) .y d) = iprop(SS .y d 20 ∗ SS .y d 21 ∗ emp) := by
    rw [fam_first _ (show 20 < 20 + Ax.nS .y by decide), fam_first _ (show 21 < 20 + Ax.nS .y by decide), fam_nil _ (show 20 + Ax.nS .y ≤ 22 by decide)]
  have hYr : bigSep (Finset.Ico 20 (20 + Ax.nS .y)) (Ready (F := F) .y d) = iprop(Ready .y d 20 ∗ Ready .y d 21 ∗ emp) := by
    rw [fam_first _ (show 20 < 20 + Ax.nS .y by decide), fam_first _ (show 21 < 20 + Ax.nS .y by decide), fam_nil _ (show 20 + Ax.nS .y ≤ 22 by decide)]
  have hM (h : Ho) : bigSep (Finset.Ico 20 (20 + 2)) (OM m h d) = iprop(OM m h d 20 ∗ OM m h d 21 ∗ emp) := by
    rw [fam_first _ (show 20 < 20 + 2 by decide), fam_first _ (show 21 < 20 + 2 by decide), fam_nil _ (show 20 + 2 ≤ 22 by decide)]
  have hMe (h : Ho) : iprop(SFree (F := F) h d 20 ∗ SFree (F := F) h d 21 ∗ Put m h d 18 ∗ Put m h d 19 ∗ bigSep (Finset.Ico 0 (20 - 2)) (Put m h d)) ⊢ OEnd m h d := by
    unfold OEnd
    rw [fam_first (SFree (F := F) h d) (show 20 < 22 by decide), fam_first (SFree (F := F) h d) (show 21 < 22 by decide), fam_nil (SFree (F := F) h d) (show 22 ≤ 22 by decide),
      fam_last (Put m h d) (show 0 ≤ 19 by decide), fam_last (Put m h d) (show 0 ≤ 18 by decide)]
    iintro ⟨H1, H2, H3, H4, H5⟩
    isplitl [H1 H2]
    · isplitl [H1]; · iexact H1
      isplitl [H2]; · iexact H2
      iempintro
    isplitl [H4]; · iexact H4
    isplitl [H3]; · iexact H3
    iexact H5
  unfold finish
  iintro ⟨#HC, HA, HB, How⟩
  ihave How := hO $$ How
  iapply (seq (stepB_runs (m := m) (K := K) (J := J) d 19 (by decide))) $$ [HB How]
  · isplitr; · iexact HC
    isplitl [HB]; · iexact HB
    iexact How
  unfold PartA PartB
  rw [show min (20 + 2) 20 = 20 by decide]
  unfold SG OG SEnd
  rw [hX, hY, hM, hM, hXr, hYr]
  iintro ⟨⟨HRy, ⟨HO0, HO1, -⟩, -, HOp⟩, How⟩
  icases HA with ⟨HL, HG, ⟨⟨HX0, HX1, HX2, -⟩, HXc, -⟩, HRx, ⟨⟨HM0, HM1, -⟩, -, HMp⟩, ⟨⟨HY0, HY1, -⟩, HYc, -⟩⟩
  iapply (seq (sentS_runs (m := m) (K := K) (J := J) .x d 17 91 (by decide) (by decide))) $$ [HX0 How]
  · isplitr; · iexact HC
    isplitl [HX0]; · iexact HX0
    iexact How
  iintro ⟨HX0, How⟩
  iapply (seq (sentS_runs (m := m) (K := K) (J := J) .x d 18 91 (by decide) (by decide))) $$ [HX1 How]
  · isplitr; · iexact HC
    isplitl [HX1]; · iexact HX1
    iexact How
  iintro ⟨HX1, How⟩
  iapply (seq (sentS_runs (m := m) (K := K) (J := J) .x d 19 91 (by decide) (by decide))) $$ [HX2 How]
  · isplitr; · iexact HC
    isplitl [HX2]; · iexact HX2
    iexact How
  iintro ⟨HX2, How⟩
  iapply (seq (sentS_runs (m := m) (K := K) (J := J) .y d 18 91 (by decide) (by decide))) $$ [HY0 How]
  · isplitr; · iexact HC
    isplitl [HY0]; · iexact HY0
    iexact How
  iintro ⟨HY0, How⟩
  iapply (seq (sentS_runs (m := m) (K := K) (J := J) .y d 19 91 (by decide) (by decide))) $$ [HY1 How]
  · isplitr; · iexact HC
    isplitl [HY1]; · iexact HY1
    iexact How
  iintro ⟨HY1, How⟩
  iapply (seq (stO_runs (m := m) (K := K) (J := J) .m d 18 91 (by decide))) $$ [HM0 How]
  · isplitr; · iexact HC
    isplitl [HM0] <;> iassumption
  iintro ⟨HM0, HMq0, How⟩
  iapply (seq (stO_runs (m := m) (K := K) (J := J) .m d 19 91 (by decide))) $$ [HM1 How]
  · isplitr; · iexact HC
    isplitl [HM1] <;> iassumption
  iintro ⟨HM1, HMq1, How⟩
  iapply (seq (stO_runs (m := m) (K := K) (J := J) .o d 18 91 (by decide))) $$ [HO0 How]
  · isplitr; · iexact HC
    isplitl [HO0] <;> iassumption
  iintro ⟨HO0, HOq0, How⟩
  iapply (last (stO_runs (m := m) (K := K) (J := J) .o d 19 91 (by decide))) $$ [HO1 How]
  · isplitr; · iexact HC
    isplitl [HO1] <;> iassumption
  iintro ⟨HO1, HOq1, How⟩
  isplitl [HL]; · iexact HL
  isplitl [HG]; · iexact HG
  isplitl [HX0 HX1 HX2 HXc]
  · isplitr [HXc]; swap; · iexact HXc
    isplitl [HX0]; · iexact HX0
    isplitl [HX1]; · iexact HX1
    isplitl [HX2]; · iexact HX2
    iempintro
  isplitl [HRx]; · iexact HRx
  isplitl [HM0 HM1 HMq0 HMq1 HMp]
  · iapply (hMe .m)
    isplitl [HM0]; · iexact HM0
    isplitl [HM1]; · iexact HM1
    isplitl [HMq0]; · iexact HMq0
    isplitl [HMq1] <;> iassumption
  isplitl [HY0 HY1 HYc]
  · isplitr [HYc]; swap; · iexact HYc
    isplitl [HY0]; · iexact HY0
    isplitl [HY1]; · iexact HY1
    iempintro
  isplitl [HRy]; · iexact HRy
  isplitr [How]; swap; · iexact How
  iapply (hMe .o)
  isplitl [HO0]; · iexact HO0
  isplitl [HO1]; · iexact HO1
  isplitl [HOq0]; · iexact HOq0
  isplitl [HOq1] <;> iassumption

end Cert.KernelIdeal.Body

end
-- ==== Proof.Deal.lean ====
/- The tokens of the exchanges, as they are first made and as they are dealt to the devices. -/
module

public import proofs.«01_k».proof.Proof.Ends
public import Idealize.ShloMosaic.Lib.Pipeline

@[expose] public section

noncomputable section

namespace Cert.KernelIdeal.Body

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release Idealize.ShloMosaic.Transfers

variable {F : FTy → Type} [FloatOps F]

local notation "𝕄" => MT nD τ sig ℕ (Elt F) ℕ UU ℕ

variable {m : (ℓ : Loc nD τ sig) → Buf (Elt F) ℓ} {K : GSem nD τ sig → ℕ} {J : Key → ℕ}

theorem fam_split {M : Type} [URA M] (Φ : ℕ → sProp M) {a b c : ℕ} (h : a ≤ b) (h' : b ≤ c) :
    bigSep (Finset.Ico a c) Φ = iprop(bigSep (Finset.Ico a b) Φ ∗ bigSep (Finset.Ico b c) Φ) := by
  rw [← Finset.Ico_union_Ico_eq_Ico h h']
  exact BI.bigSep_union (Finset.Ico_disjoint_Ico_consecutive a b c)

/-! ## The tokens of payments -/

/-- The payments: the first signals, the slots freed, and a chunk at its receiver and at its sender. -/
inductive Pay
  | bar
  | crd
  | rcv
  | snd
  deriving DecidableEq

instance : Fintype Pay := ⟨{.bar, .crd, .rcv, .snd}, fun a => by cases a <;> decide⟩

abbrev PayIx := Dev nD × Ax × Pay × Fin 20

/-- The number of a device's first signal. -/
abbrev barNo (a : Ax) : ℕ := if a = .x then 0 else 1

/-- The payment as the schedule names it. -/
def tokOf (i : PayIx) : GSem nD τ sig × ℕ × ℕ :=
  match i.2.2.1 with
  | .bar => (bCell (nb i.2.1 i.1), 0, 2 * i.2.2.2.val + barNo i.2.1)
  | .crd => (kCell i.2.1 (nb i.2.1 i.1), 0, i.2.2.2.val)
  | .rcv => (vCell i.2.1 (nb i.2.1 i.1) i.2.2.2.val, i.2.2.2.val / i.2.1.nR, 0)
  | .snd => (sCell i.2.1 i.1 i.2.2.2.val, i.2.2.2.val / i.2.1.nS, 0)

/-- The payment read back. -/
def payOf (x : GSem nD τ sig × ℕ × ℕ) : Dev nD × Ax × Pay × ℕ :=
  match x.1.2 with
  | .reg s =>
      if s.val = 2 then (nb (if x.2.2 % 2 = 0 then .x else .y) x.1.1.1, (if x.2.2 % 2 = 0 then .x else .y), .bar, x.2.2 / 2)
      else (nb (axK s.val) x.1.1.1, axK s.val, .crd, x.2.2)
  | .dma s =>
      if isSnd s.val then (x.1.1.1, axOf s.val, .snd, chk s.val x.2.1)
      else (nb (axOf s.val) x.1.1.1, axOf s.val, .rcv, chk s.val x.2.1)

theorem payOf_tokOf (i : PayIx) : payOf (tokOf i) = (i.1, i.2.1, i.2.2.1, i.2.2.2.val) := by
  obtain ⟨d, a, f, k⟩ := i
  cases f
  · show (nb (if (2 * k.val + barNo a) % 2 = 0 then Ax.x else .y) (nb a d), (if (2 * k.val + barNo a) % 2 = 0 then Ax.x else .y), Pay.bar, (2 * k.val + barNo a) / 2) = _
    have h : (if (2 * k.val + barNo a) % 2 = 0 then Ax.x else .y) = a := by
      cases a
      · exact if_pos (show (2 * k.val + 0) % 2 = 0 by omega)
      · exact if_neg (show ¬(2 * k.val + 1) % 2 = 0 by omega)
    have h' : (2 * k.val + barNo a) / 2 = k.val := by
      cases a
      · show (2 * k.val + 0) / 2 = _; omega
      · show (2 * k.val + 1) / 2 = _; omega
    rw [h, h', nb_nb]
  · show (if (semK a).val = 2 then _ else (nb (axK (semK a).val) (nb a d), axK (semK a).val, Pay.crd, k.val)) = _
    rw [if_neg (k_ne a), axK_k, nb_nb]
  · show (if isSnd (semV a k.val).val then _ else (nb (axOf (semV a k.val).val) (nb a d), axOf (semV a k.val).val, Pay.rcv, chk (semV a k.val).val (k.val / a.nR))) = _
    rw [isSnd_v, if_neg (by decide), axOf_v, chk_v, Nat.div_add_mod, nb_nb]
  · show (if isSnd (semS a k.val).val then (d, axOf (semS a k.val).val, Pay.snd, chk (semS a k.val).val (k.val / a.nS)) else _) = _
    rw [isSnd_s, if_pos rfl, axOf_s, chk_s, Nat.div_add_mod]

theorem tokOf_injective : Function.Injective tokOf := by
  rintro ⟨d, a, f, k⟩ ⟨d', a', f', k'⟩ h
  have h' := congrArg payOf h
  rw [payOf_tokOf, payOf_tokOf] at h'
  simp only [Prod.mk.injEq] at h'
  obtain ⟨h1, h2, h3, h4⟩ := h'
  simp only [Prod.mk.injEq]
  exact ⟨h1, h2, h3, Fin.ext h4⟩

def toks : Finset (GSem nD τ sig × ℕ × ℕ) := Finset.univ.image tokOf

/-- The tokens of what device `d` pays along one axis. -/
def Toks (a : Ax) (d : Dev nD) : sProp 𝕄 :=
  iprop(bigSep (Finset.Ico 0 20) (fun k => dutyTok ER (bCell (nb a d)) 0 (2 * k + barNo a))
    ∗ bigSep (Finset.Ico 0 20) (fun k => dutyTok ER (kCell a (nb a d)) 0 k)
    ∗ bigSep (Finset.Ico 0 20) (fun k => dutyTok ER (vCell a (nb a d) k) (k / a.nR) 0)
    ∗ bigSep (Finset.Ico 0 20) (fun k => dutyTok ER (sCell a d k) (k / a.nS) 0))

theorem over_pay (Φ : Pay → sProp 𝕄) : bigSep Finset.univ Φ = iprop(Φ .bar ∗ Φ .crd ∗ Φ .rcv ∗ Φ .snd) :=
  bigSep_univ_eq_bigSepL [Pay.bar, Pay.crd, Pay.rcv, Pay.snd] (by decide) (by decide) Φ
theorem over_ax (Φ : Ax → sProp 𝕄) : bigSep Finset.univ Φ = iprop(Φ .x ∗ Φ .y) :=
  bigSep_univ_eq_bigSepL [Ax.x, Ax.y] (by decide) (by decide) Φ
theorem over_fam (Φ : Fam → sProp 𝕄) : bigSep Finset.univ Φ = iprop(Φ .bar ∗ Φ .dat ∗ Φ .crd) :=
  bigSep_univ_eq_bigSepL [Fam.bar, Fam.dat, Fam.crd] (by decide) (by decide) Φ
theorem over_2 (Φ : ℕ → sProp 𝕄) : bigSep (Finset.Ico 0 2) Φ = iprop(Φ 0 ∗ Φ 1) := bigSep_eq_bigSepL_of_eq [0, 1] (by decide) (by decide) Φ
theorem over_3 (Φ : ℕ → sProp 𝕄) : bigSep (Finset.Ico 0 3) Φ = iprop(Φ 0 ∗ Φ 1 ∗ Φ 2) := bigSep_eq_bigSepL_of_eq [0, 1, 2] (by decide) (by decide) Φ
theorem over_4 (Φ : ℕ → sProp 𝕄) : bigSep (Finset.Ico 0 4) Φ = iprop(Φ 0 ∗ Φ 1 ∗ Φ 2 ∗ Φ 3) := bigSep_eq_bigSepL_of_eq [0, 1, 2, 3] (by decide) (by decide) Φ

theorem toks_deal : bigSep toks (fun x => (dutyTok ER x.1 x.2.1 x.2.2 : sProp 𝕄))
    = bigSep Finset.univ (fun d : Dev nD => iprop(Toks (F := F) .x d ∗ Toks .y d)) := by
  unfold toks
  rw [fam_image (fun i _ j _ h => tokOf_injective h), bigSep_univ_prod]
  refine bigSep_congr fun d _ => ?_
  rw [bigSep_univ_prod, over_ax]
  have h (a : Ax) : bigSep Finset.univ (fun b : Pay × Fin 20 => (dutyTok ER (tokOf (d, a, b)).1 (tokOf (d, a, b)).2.1 (tokOf (d, a, b)).2.2 : sProp 𝕄)) = Toks a d := by
    rw [bigSep_univ_prod, over_pay]
    unfold Toks
    rw [← fam_fin, ← fam_fin, ← fam_fin, ← fam_fin]
    rfl
  rw [h, h]

/-! ## The keys of slots -/

theorem key_injective {a a' : Ax} {d d' : Dev nD} {k k' : ℕ} (h : key a d k = key a' d' k') : d = d' ∧ a = a' ∧ k = k' := by
  simp only [Prod.mk.injEq] at h
  refine ⟨h.1, ?_, h.2.2⟩
  have := congrArg Ax.ofX h.2.1
  rwa [Ax.ofX_isX, Ax.ofX_isX] at this

theorem over_keys (Φ : Key → sProp 𝕄) :
    bigSep keys Φ = bigSep Finset.univ (fun d : Dev nD => bigSep Finset.univ (fun a : Ax => bigSep (Finset.Ico a.nR 20) (fun k => Φ (key a d k)))) := by
  unfold keys
  rw [BI.bigSep_biUnion_eq _ _ _ (fun d _ d' _ hne => by
    rw [Finset.disjoint_left]
    intro κ h h'
    obtain ⟨a, -, h⟩ := Finset.mem_biUnion.mp h
    obtain ⟨a', -, h'⟩ := Finset.mem_biUnion.mp h'
    obtain ⟨k, -, h⟩ := Finset.mem_image.mp h
    obtain ⟨k', -, h'⟩ := Finset.mem_image.mp h'
    exact hne (key_injective (h.trans h'.symm)).1)]
  refine bigSep_congr fun d _ => ?_
  rw [BI.bigSep_biUnion_eq _ _ _ (fun a _ a' _ hne => by
    rw [Finset.disjoint_left]
    intro κ h h'
    obtain ⟨k, -, h⟩ := Finset.mem_image.mp h
    obtain ⟨k', -, h'⟩ := Finset.mem_image.mp h'
    exact hne (key_injective (h.trans h'.symm)).2.1)]
  exact bigSep_congr fun a _ => fam_image (fun k _ k' _ h => (key_injective h).2.2) Φ

def nbE (a : Ax) : Dev nD ≃ Dev nD := ⟨nb a, nb a, nb_nb a, nb_nb a⟩

/-- Dealt to the neighbours. -/
theorem over_keys_nb (Φ : Key → sProp 𝕄) :
    bigSep keys Φ = bigSep Finset.univ (fun d : Dev nD => bigSep Finset.univ (fun a : Ax => bigSep (Finset.Ico a.nR 20) (fun k => Φ (key a (nb a d) k)))) := by
  rw [over_keys, BI.bigSep_univ_comm, BI.bigSep_univ_comm (fun (d : Dev nD) (a : Ax) => bigSep (Finset.Ico a.nR 20) (fun k => Φ (key a (nb a d) k)))]
  exact bigSep_congr fun a _ => bigSep_univ_equiv (nbE a) _

theorem over_writes (Φ : Key → ℕ → sProp 𝕄) : bigSep (keys ×ˢ Finset.range 1) (fun x => Φ x.1 x.2) = bigSep keys (fun κ => Φ κ 0) := by
  have h : keys ×ˢ Finset.range 1 = keys.image (fun κ => (κ, 0)) := by
    ext ⟨κ, n⟩
    simp only [Finset.mem_product, Finset.mem_range, Finset.mem_image, Prod.mk.injEq, Nat.lt_one_iff]
    exact ⟨fun h => ⟨κ, h.1, rfl, h.2.symm⟩, fun ⟨κ', h, h', h''⟩ => ⟨h' ▸ h, h''.symm⟩⟩
  rw [h, fam_image (fun a _ b _ h => by simpa using h)]

/-! ## The cells -/

/-- One fact for every semaphore of an exchange. -/
def Pack (Φ : GSem nD τ sig → sProp 𝕄) (a : Ax) (d : Dev nD) : sProp 𝕄 :=
  iprop(Φ (kCell a d) ∗ bigSep (Finset.Ico 0 a.nS) (fun k => Φ (sCell a d k)) ∗ bigSep (Finset.Ico 0 a.nR) (fun k => Φ (vCell a d k)))

instance : Std.Associative (α := sProp 𝕄) BIBase.sep := ⟨fun a b c => equiv_iff.mp ⟨Idealize.SL.BI.sep_assoc, Idealize.SL.BI.sep_assoc'⟩⟩
instance : Std.Commutative (α := sProp 𝕄) BIBase.sep := ⟨fun a b => equiv_iff.mp ⟨Idealize.SL.BI.sep_comm, Idealize.SL.BI.sep_comm⟩⟩

theorem over_locs (Φ : GSem nD τ sig → sProp 𝕄) (d : Dev nD) :
    bigSep Finset.univ (fun j => Φ (cellOf (d, j))) = iprop(Φ (bCell d) ∗ Pack Φ .x d ∗ Pack Φ .y d) := by
  unfold Pack
  rw [show bigSep (Finset.Ico 0 (Ax.nS .x)) (fun k => Φ (sCell .x d k)) = iprop(Φ (sCell .x d 0) ∗ Φ (sCell .x d 1) ∗ Φ (sCell .x d 2)) from over_3 _,
    show bigSep (Finset.Ico 0 (Ax.nR .x)) (fun k => Φ (vCell .x d k)) = iprop(Φ (vCell .x d 0) ∗ Φ (vCell .x d 1) ∗ Φ (vCell .x d 2) ∗ Φ (vCell .x d 3)) from over_4 _,
    show bigSep (Finset.Ico 0 (Ax.nS .y)) (fun k => Φ (sCell .y d k)) = iprop(Φ (sCell .y d 0) ∗ Φ (sCell .y d 1)) from over_2 _,
    show bigSep (Finset.Ico 0 (Ax.nR .y)) (fun k => Φ (vCell .y d k)) = iprop(Φ (vCell .y d 0) ∗ Φ (vCell .y d 1) ∗ Φ (vCell .y d 2)) from over_3 _]
  have h : bigSep Finset.univ (fun j => Φ (cellOf (d, j)))
      = iprop(Φ (kCell .x d) ∗ Φ (kCell .y d) ∗ Φ (bCell d) ∗ Φ (sCell .x d 0) ∗ Φ (sCell .x d 1) ∗ Φ (sCell .x d 2)
        ∗ Φ (vCell .x d 0) ∗ Φ (vCell .x d 1) ∗ Φ (vCell .x d 2) ∗ Φ (vCell .x d 3) ∗ Φ (sCell .y d 0) ∗ Φ (sCell .y d 1)
        ∗ Φ (vCell .y d 0) ∗ Φ (vCell .y d 1) ∗ Φ (vCell .y d 2)) :=
    bigSep_univ_eq_bigSepL [0, 1, 2, 3, 4, 5, 6, 7, 8, 9, 10, 11, 12, 13, 14] (by decide) (by decide) _
  rw [h]
  ac_rfl

theorem over_cells (Φ : GSem nD τ sig → sProp 𝕄) :
    bigSep cells Φ = bigSep Finset.univ (fun d : Dev nD => iprop(Φ (bCell d) ∗ Pack Φ .x d ∗ Pack Φ .y d)) := by
  unfold cells
  rw [fam_image (fun i _ j _ h => cellOf_injective h), bigSep_univ_prod]
  exact bigSep_congr fun d _ => over_locs Φ d

/-! ## The credits -/

theorem cred_split (g : GSem nD τ sig) (t n : ℕ) : (cred (tallyAt g t n) : sProp 𝕄) ⊢ bigSep (Finset.Ico 0 n) (fun _ => cred (tallyAt g t 1)) := by
  induction n with
  | zero =>
    rw [fam_nil _ (le_refl 0)]
    iintro -; iempintro
  | succ n ih =>
    rw [fam_last _ (Nat.zero_le n), show tallyAt g t (n + 1) = tallyAt g t 1 + tallyAt g t n by rw [← tallyAt_add, add_comm]]
    iintro H
    ihave H := (cred_add _ _).1 $$ H
    icases H with ⟨H, G⟩
    isplitl [H]; · iexact H
    iapply ih $$ G

/-- What a device may wait for along one axis. -/
def Creds (a : Ax) (d : Dev nD) : sProp 𝕄 :=
  iprop(cred (tallyAt (bCell d) (time a .bar 0) 1) ∗ bigSep (Finset.Ico 0 20) (fun k => cred (tallyAt (vCell a d k) (datT a k) (cnt a k)))
    ∗ bigSep (Finset.Ico 0 20) (credTok (F := F) a d))

theorem owed_to (c : Dev nD) (e : Ev) :
    (Pipeline.launchCred (fun d => if 1 ≤ tm e then due d e else 0) c : sProp 𝕄)
      ⊢ if 1 ≤ tm e then cred (tallyAt (evCell e.1 e.2.1 e.2.2.val c) (tm e) (evAmt e.1 e.2.1 e.2.2.val)) else iprop(emp) := by
  by_cases h : 1 ≤ tm e
  · simp only [if_pos h]
    obtain ⟨a, f, k⟩ := e
    cases f
    · exact Pipeline.launchCred_tallyAt (SemLoc.reg semB) (nb a) (nb a) (nb_nb a) (nb_nb a) _ _ c
    · exact Pipeline.launchCred_tallyAt (SemLoc.dma (semV a k.val)) (nb a) (nb a) (nb_nb a) (nb_nb a) _ _ c
    · exact Pipeline.launchCred_tallyAt (SemLoc.reg (semK a)) (nb a) (nb a) (nb_nb a) (nb_nb a) _ _ c
  · simp only [if_neg h]
    exact Entails.of_eq (Pipeline.launchCred_zero c)

/-- The credits of the slots freed, one by one. -/
theorem crd_deal (a : Ax) (d : Dev nD) :
    bigSep (Finset.Ico 0 20) (fun k => if 1 ≤ time a .crd k then cred (tallyAt (kCell a d) (time a .crd k) (camt a k)) else iprop(emp))
      ⊢ bigSep (Finset.Ico 0 20) (credTok (F := F) a d) := by
  have hn := a.nR_pos
  have hR : a.nR - 1 < 20 := by cases a <;> decide
  have hp (k : ℕ) (h : a.nR - 1 ≤ k) : 1 ≤ time a .crd k := by
    cases a
    · have h : 3 ≤ k := h
      show 1 ≤ if k < 3 then 0 else if k = 3 then 3 else 4 * k - 8
      split_ifs <;> omega
    · have h : 2 ≤ k := h
      show 1 ≤ if k < 2 then 0 else if k = 2 then 4 else 4 * k + 2
      split_ifs <;> omega
  rw [fam_split _ (Nat.zero_le (a.nR - 1)) (le_of_lt hR), fam_first _ hR, show a.nR - 1 + 1 = a.nR by omega,
    fam_split (credTok (F := F) a d) (Nat.zero_le a.nR) (show a.nR ≤ 20 by omega), if_pos (hp _ (le_refl _)),
    show camt a (a.nR - 1) = a.nR by unfold camt; rw [if_pos (by omega)]]
  have h1 : bigSep (Finset.Ico 0 a.nR) (fun _ => (cred (tallyAt (kCell a d) (time a .crd (a.nR - 1)) 1) : sProp 𝕄)) = bigSep (Finset.Ico 0 a.nR) (credTok a d) :=
    bigSep_congr fun k hk => by
      have := (Finset.mem_Ico.mp hk).2
      show _ = cred (tallyAt (kCell a d) (time a .crd (max k (a.nR - 1))) 1)
      rw [max_eq_right (show k ≤ a.nR - 1 by omega)]
  have h2 : bigSep (Finset.Ico a.nR 20) (fun k => (if 1 ≤ time a .crd k then cred (tallyAt (kCell a d) (time a .crd k) (camt a k)) else iprop(emp) : sProp 𝕄))
      = bigSep (Finset.Ico a.nR 20) (credTok a d) :=
    bigSep_congr fun k hk => by
      have := (Finset.mem_Ico.mp hk).1
      show _ = cred (tallyAt (kCell a d) (time a .crd (max k (a.nR - 1))) 1)
      rw [if_pos (hp k (by omega)), max_eq_left (show a.nR - 1 ≤ k by omega)]
      unfold camt; rw [if_neg (by omega)]
  rw [h2, ← h1]
  iintro ⟨-, H, G⟩
  isplitl [H]; · iapply (cred_split _ _ _) $$ H
  iexact G

theorem fst_of (P Q : sProp 𝕄) : iprop(P ∗ Q) ⊢ P := by iintro ⟨H, -⟩; iexact H

theorem creds_deal (c : Dev nD) : (Pipeline.launchCred (fun d => O d 1) c : sProp 𝕄) ⊢ iprop(Creds .x c ∗ Creds .y c) := by
  unfold O
  rw [Pipeline.launchCred_sum]
  refine (bigSep_mono fun e _ => owed_to c e).trans ?_
  rw [bigSep_univ_prod, over_ax]
  have h (a : Ax) : bigSep Finset.univ (fun b : Fam × Fin 20 =>
      (if 1 ≤ tm (a, b) then cred (tallyAt (evCell a b.1 b.2.val c) (tm (a, b)) (evAmt a b.1 b.2.val)) else iprop(emp) : sProp 𝕄)) ⊢ Creds a c := by
    rw [bigSep_univ_prod, over_fam]
    have hb := fam_fin (fun k => (if 1 ≤ time a .bar k then cred (tallyAt (evCell a .bar k c) (time a .bar k) (evAmt a .bar k)) else iprop(emp) : sProp 𝕄)) 20
    have hd := fam_fin (fun k => (if 1 ≤ time a .dat k then cred (tallyAt (evCell a .dat k c) (time a .dat k) (evAmt a .dat k)) else iprop(emp) : sProp 𝕄)) 20
    have hc := fam_fin (fun k => (if 1 ≤ time a .crd k then cred (tallyAt (evCell a .crd k c) (time a .crd k) (evAmt a .crd k)) else iprop(emp) : sProp 𝕄)) 20
    refine (BI.sep_mono (Entails.of_eq hb) (BI.sep_mono (Entails.of_eq hd) (Entails.of_eq hc))).trans ?_
    unfold Creds
    rw [fam_first _ (show 0 < 20 by decide), if_pos (show 1 ≤ time a .bar 0 by cases a <;> decide)]
    have h1 : bigSep (Finset.Ico 0 20) (fun k => (if 1 ≤ time a .dat k then cred (tallyAt (evCell a .dat k c) (time a .dat k) (evAmt a .dat k)) else iprop(emp) : sProp 𝕄))
        = bigSep (Finset.Ico 0 20) (fun k => cred (tallyAt (vCell a c k) (datT a k) (cnt a k))) :=
      bigSep_congr fun k _ => if_pos (datT_pos a k)
    rw [h1]
    exact BI.sep_mono (fst_of _ _) (BI.sep_mono (Entails.refl _) (crd_deal a c))
  exact BI.sep_mono (h .x) (h .y)

end Cert.KernelIdeal.Body

end
-- ==== Proof.Supply.lean ====
/- What a device starts an exchange with. -/
module

public import proofs.«01_k».proof.Proof.Deal

@[expose] public section

noncomputable section

namespace Cert.KernelIdeal.Body

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release Idealize.ShloMosaic.Transfers

variable {F : FTy → Type} [FloatOps F]

local notation "𝕄" => MT nD τ sig ℕ (Elt F) ℕ UU ℕ

variable {m : (ℓ : Loc nD τ sig) → Buf (Elt F) ℓ} {K : GSem nD τ sig → ℕ} {J : Key → ℕ}

/-- The tokens, counts and positions of device `d` along one axis. -/
def Lin (a : Ax) (d : Dev nD) : sProp 𝕄 :=
  iprop(Toks (F := F) a d ∗ bigSep (Finset.Ico a.nR 20) (fun k => readerAt ES (key a d k) 0)
    ∗ bigSep (Finset.Ico a.nR 20) (fun k => writeTok ES (key a (nb a d) k) 1) ∗ Pack (fun g => atPos ER g 0 ∅ 0) a d)

theorem ready_intro (a : Ax) (d : Dev nD) :
    iprop(Ctx (F := F) m K J ∗ bigSep (Finset.Ico 0 a.nS) (fun k => iprop(Full (F := F) (mSW a) a.nS_pos k d ∗ atPos ER (sCell a d k) 0 ∅ 0)))
      ⊢ bigSep (Finset.Ico 0 a.nS) (Ready (F := F) a d) := by
  refine fam_share fun k hk => ?_
  have h0 : k / a.nS = 0 := Nat.div_eq_of_lt (Finset.mem_Ico.mp hk).2
  unfold Ready sPos
  rw [h0]
  iintro ⟨#HC, HF, Hat⟩
  isplitl [HF]; · iexact HF
  isplitl [Hat]; · iexact Hat
  iapply (Ctx_reached (mem_s a d k)); iexact HC

theorem grants_intro (a : Ax) (d : Dev nD) :
    iprop(bigSep (Finset.Ico 0 20) (fun k => cred (tallyAt (vCell a d k) (datT a k) (cnt a k)))
        ∗ bigSep (Finset.Ico a.nR 20) (fun k => dutyTok ER (kCell a (nb a d)) 0 k) ∗ bigSep (Finset.Ico a.nR 20) (fun k => readerAt ES (key a d k) 0))
      ⊢ bigSep (Finset.Ico 0 20) (RcvTok (F := F) a d) := by
  have h1 : iprop(bigSep (Finset.Ico a.nR 20) (fun k => dutyTok ER (kCell a (nb a d)) 0 k) ∗ bigSep (Finset.Ico a.nR 20) (fun k => readerAt ES (key a d k) 0))
      = bigSep (Finset.Ico 0 20) (fun k => if k + a.nR < 20 then GrTok (F := F) a d (k + a.nR) else iprop(emp)) := by
    rw [← fam_shift (GrTok (F := F) a d) a.nR 20 (by cases a <;> decide)]
    exact (bigSep_sep _ _ _).symm
  rw [h1]
  exact Entails.of_eq (bigSep_sep _ _ _).symm

theorem init_intro (a : Ax) (d : Dev nD) :
    iprop(Ctx (F := F) m K J ∗ Lin a d ∗ Creds a d ∗ bigSep (Finset.Ico 0 a.nS) (fun k => Full (F := F) (mSW a) a.nS_pos k d))
      ⊢ iprop(dutyTok ER (bCell (nb a d)) 0 (barNo a) ∗ cred (tallyAt (bCell d) (time a .bar 0) 1) ∗ Init (F := F) a d) := by
  have hn := a.nR_pos
  have hR : a.nR - 1 < 20 := by cases a <;> decide
  have h1 : bigSep (Finset.Ico 0 20) (fun k => (dutyTok ER (kCell a (nb a d)) 0 k : sProp 𝕄))
      = iprop(bigSep (Finset.Ico 0 (a.nR - 1)) (fun k => dutyTok ER (kCell a (nb a d)) 0 k) ∗ dutyTok ER (kCell a (nb a d)) 0 (a.nR - 1)
        ∗ bigSep (Finset.Ico a.nR 20) (fun k => dutyTok ER (kCell a (nb a d)) 0 k)) := by
    rw [fam_split _ (Nat.zero_le (a.nR - 1)) (le_of_lt hR), fam_first _ hR, show a.nR - 1 + 1 = a.nR by omega]
  have h2 : iprop(bigSep (Finset.Ico 0 20) (fun k => (dutyTok ER (vCell a (nb a d) k) (k / a.nR) 0 : sProp 𝕄))
        ∗ bigSep (Finset.Ico 0 20) (fun k => dutyTok ER (sCell a d k) (k / a.nS) 0) ∗ bigSep (Finset.Ico 0 20) (credTok (F := F) a d))
      ⊢ bigSep (Finset.Ico 0 20) (fun k => iprop(dutyTok ER (vCell a (nb a d) k) (k / a.nR) 0 ∗ dutyTok ER (sCell a d k) (k / a.nS) 0 ∗ credTok a d k)) := by
    rw [bigSep_sep', bigSep_sep']
  have h3 : bigSep (Finset.Ico 0 a.nR) (fun k => (atPos ER (vCell a d k) 0 ∅ 0 : sProp 𝕄)) ⊢ bigSep (Finset.Ico 0 a.nR) (vPos (F := F) a d) :=
    Entails.of_eq (bigSep_congr fun k hk => by unfold vPos; rw [Nat.div_eq_of_lt (Finset.mem_Ico.mp hk).2])
  have h4 : iprop(bigSep (Finset.Ico 0 a.nS) (fun k => Full (F := F) (mSW a) a.nS_pos k d) ∗ bigSep (Finset.Ico 0 a.nS) (fun k => (atPos ER (sCell a d k) 0 ∅ 0 : sProp 𝕄)))
      ⊢ bigSep (Finset.Ico 0 a.nS) (fun k => iprop(Full (F := F) (mSW a) a.nS_pos k d ∗ atPos ER (sCell a d k) 0 ∅ 0)) := by
    rw [bigSep_sep']
  unfold Lin Toks Pack Creds Init
  rw [h1, fam_first (fun k => (dutyTok ER (bCell (nb a d)) 0 (2 * k + barNo a) : sProp 𝕄)) (show 0 < 20 by decide),
    show 2 * 0 + barNo a = barNo a by omega]
  iintro ⟨#HC, ⟨⟨⟨Hb, -⟩, ⟨-, Hk, Hks⟩, Hv, Hs⟩, Hr, Hw, Hak, Has, Hav⟩, ⟨Hcb, Hcd, Hcc⟩, HF⟩
  isplitl [Hb]; · iexact Hb
  isplitl [Hcb]; · iexact Hcb
  isplitl [Hk]; · iexact Hk
  isplitl [HF Has]
  · iapply (ready_intro (m := m) (K := K) (J := J) a d)
    isplitr; · iexact HC
    iapply h4
    isplitl [HF] <;> iassumption
  isplitl [Hak]; · iexact Hak
  isplitl [Hw]; · iexact Hw
  isplitl [Hv Hs Hcc]
  · iapply h2
    isplitl [Hv]; · iexact Hv
    isplitl [Hs] <;> iassumption
  isplitl [Hav]; · iapply h3 $$ Hav
  iapply (grants_intro a d)
  isplitl [Hcd]; · iexact Hcd
  isplitl [Hks] <;> iassumption

end Cert.KernelIdeal.Body

end
-- ==== Proof.Whole.lean ====
/- The whole body on one device. -/
module

public import proofs.«01_k».proof.Proof.Supply

@[expose] public section

noncomputable section

namespace Cert.KernelIdeal.Body

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release Idealize.ShloMosaic.Transfers

variable {F : FTy → Type} [FloatOps F]

local notation "𝕄" => MT nD τ sig ℕ (Elt F) ℕ UU ℕ

variable {m : (ℓ : Loc nD τ sig) → Buf (Elt F) ℓ} {K : GSem nD τ sig → ℕ} {J : Key → ℕ}
variable (gM : Memref sig .tc .vmem S1x2048 .f32)

/-- The stores before the first. -/
def OInit (h : Ho) (d : Dev nD) : sProp 𝕄 :=
  iprop(bigSep (Finset.Ico 0 2) (SFree (F := F) h d) ∗ bigSep (Finset.Ico 0 20) (Dst (F := F) h d))

theorem OG_init (h : Ho) (d : Dev nD) : OInit (F := F) h d ⊢ OG m h d 0 := by
  unfold OInit OG
  rw [fam_nil (Put m h d) (show 0 - 2 ≤ 0 by decide),
    show bigSep (Finset.Ico 0 2) (SFree (F := F) h d) = bigSep (Finset.Ico 0 (0 + 2)) (OM m h d) from
      bigSep_congr fun k hk => by unfold OM; rw [if_pos (Finset.mem_Ico.mp hk).2]]
  iintro ⟨H, G⟩
  isplitl [H]; · iexact H
  isplitl [G]; · iexact G
  iempintro

/-- What the body ends with. -/
def Done (m : (ℓ : Loc nD τ sig) → Buf (Elt F) ℓ) (d : Dev nD) : sProp 𝕄 :=
  iprop(atPos ER (bCell d) 1 ∅ 0 ∗ LG m d 20 ∗ Gam m gM d ∗ SEnd (F := F) .x d ∗ RG (F := F) .x d 20 ∗ OEnd m .m d ∗ SEnd (F := F) .y d
    ∗ RG (F := F) .y d 20 ∗ OEnd m .o d ∗ Ow d 91)

theorem dev_runs {d : Dev nD} {P Q : sProp 𝕄} {k : Dev nD → Prog (TpuEff nD τ sig (Elt F) Λ₀ .tc) PUnit} (h : P ⊢ Runs d (k d) Q) :
    P ⊢ Runs d (Prog.lift .deviceId >>= k) Q := by
  unfold Runs
  simp only [Prog.lift, Prog.bind_op, Prog.bind_ret, wp_deviceId]
  exact h

theorem body_runs (d : Dev nD) :
    iprop(Ctx (F := F) m K J ∗ InitB (F := F) d ∗ Init (F := F) .x d ∗ Init (F := F) .y d ∗ LInit m d ∗ OInit .m d ∗ OInit .o d ∗ Gam m gM d ∗ Ow d 1)
      ⊢ Runs d (body gM) (Done gM m d) := by
  unfold body
  refine dev_runs ?_
  iintro ⟨#HC, HB, HX, HY, HL, HM, HO, HG, How⟩
  iapply (seq (begin_runs (m := m) (K := K) (J := J) d)) $$ [HB HX HY HL How]
  · isplitr; · iexact HC
    isplitl [HB]; · iexact HB
    isplitl [HX]; · iexact HX
    isplitl [HY]; · iexact HY
    isplitl [HL] <;> iassumption
  iintro ⟨Hb, HL, HSx, HRx, HSy, HRy, How⟩
  iapply (seq (stepA_runs (m := m) (K := K) (J := J) gM d 0 (by decide))) $$ [HL HG HSx HRx HM HSy How]
  · isplitr; · iexact HC
    isplitr [How]; swap; · iexact How
    unfold PartA
    isplitl [HL]; · iexact HL
    isplitl [HG]; · iexact HG
    isplitl [HSx]; · iexact HSx
    isplitl [HRx]; · iexact HRx
    isplitl [HM]; · iapply (OG_init .m d) $$ HM
    iexact HSy
  iintro ⟨HA, How⟩
  ihave How := (Ow_eq (skip_crdy d 0 (Or.inl rfl))) $$ How
  iapply (steps_runs (m := m) (K := K) (J := J) gM d _ (finish d) 19 1 (le_refl 1) rfl)
  isplitr; · iexact HC
  isplitl [HA]; · iexact HA
  isplitl [HRy HO]
  · unfold PartB
    isplitl [HRy]; · iexact HRy
    iapply (OG_init .o d) $$ HO
  isplitl [How]; · iexact How
  iintro ⟨HA, HB, How⟩
  iapply (wp_wand frame _ (Q := fun _ => iprop(LG m d 20 ∗ Gam m gM d ∗ SEnd (F := F) .x d ∗ RG (F := F) .x d 20 ∗ OEnd m .m d ∗ SEnd (F := F) .y d
          ∗ RG (F := F) .y d 20 ∗ OEnd m .o d ∗ Ow d 91))) $$ [HA HB How]
  · iapply (finish_runs (m := m) (K := K) (J := J) gM d)
    isplitr; · iexact HC
    isplitl [HA]; · iexact HA
    isplitl [HB] <;> iassumption
  iintro %u HQ
  unfold Done
  isplitl [Hb]; · iexact Hb
  iexact HQ

/-! ## Closing -/

/-- Everything is back and every semaphore of the body is settled. -/
def Back (m : (ℓ : Loc nD τ sig) → Buf (Elt F) ℓ) (d : Dev nD) : sProp 𝕄 :=
  iprop(semVal (bCell d) 0 ∗ Pack (fun g => semVal g 0) .x d ∗ Pack (fun g => semVal g 0) .y d
    ∗ (bigSep (Finset.Ico 0 (Ax.nS .x)) (fun k => Full (F := F) (mSW .x) (Ax.nS_pos .x) k d) ∗ bigSep (Finset.Ico 0 (Ax.nR .x)) (fun k => Full (F := F) (mRW .x) (Ax.nR_pos .x) k d))
    ∗ (bigSep (Finset.Ico 0 (Ax.nS .y)) (fun k => Full (F := F) (mSW .y) (Ax.nS_pos .y) k d) ∗ bigSep (Finset.Ico 0 (Ax.nR .y)) (fun k => Full (F := F) (mRW .y) (Ax.nR_pos .y) k d))
    ∗ LInit m d
    ∗ (bigSep (Finset.Ico 0 2) (SFree (F := F) .m d) ∗ bigSep (Finset.Ico 0 20) (Put m .m d))
    ∗ (bigSep (Finset.Ico 0 2) (SFree (F := F) .o d) ∗ bigSep (Finset.Ico 0 20) (Put m .o d))
    ∗ Gam m gM d ∗ Ow d 91)

theorem sCell_add (a : Ax) (d : Dev nD) (k : ℕ) : sCell a d (k + a.nS) = sCell a d k := by
  cases a
  · show ((d : Thread nD τ), SemLoc.dma (semXS (k + 3))) = _
    have : (semXS (k + 3)) = semXS k := Fin.ext (by show 13 + (k + 3) % 3 = 13 + k % 3; omega)
    rw [this]
  · show ((d : Thread nD τ), SemLoc.dma (semYS (k + 2))) = _
    have : (semYS (k + 2)) = semYS k := Fin.ext (by show 20 + (k + 2) % 2 = 20 + k % 2; omega)
    rw [this]

/-- Every member may be settled. -/
theorem fam_settle {I : Type} [DecidableEq I] {S : Finset I} {R : sProp 𝕄} [BI.Persistent R] {Ψ Ψ' : I → sProp 𝕄}
    (h : ∀ i ∈ S, iprop(R ∗ Ψ i) ⊢ |={Set.univ}=> Ψ' i) : iprop(R ∗ bigSep S Ψ) ⊢ |={Set.univ}=> bigSep S Ψ' :=
  (fam_share h).trans (bigSep_fupd _ _)

theorem sends_close (a : Ax) (d : Dev nD) :
    iprop(Ctx (F := F) m K J ∗ bigSep (Finset.Ico 20 (20 + a.nS)) (Ready (F := F) a d))
      ⊢ |={Set.univ}=> iprop(bigSep (Finset.Ico 0 a.nS) (fun k => Full (F := F) (mSW a) a.nS_pos k d) ∗ bigSep (Finset.Ico 0 a.nS) (fun k => semVal (sCell a d k) 0)) := by
  have h : iprop(bigSep (Finset.Ico 0 a.nS) (fun k => Full (F := F) (mSW a) a.nS_pos k d) ∗ bigSep (Finset.Ico 0 a.nS) (fun k => semVal (sCell a d k) 0))
      = bigSep (Finset.Ico 20 (20 + a.nS)) (fun k => iprop(Full (F := F) (mSW a) a.nS_pos k d ∗ semVal (sCell a d k) 0)) := by
    rw [fam_period _ a.nS a.nS_pos (fun k => by rw [Full_add, sCell_add])]
    exact (bigSep_sep _ _ _).symm
  rw [h]
  refine fam_settle fun k hk => ?_
  unfold Ready sPos
  iintro ⟨#HC, HF, Hat, -⟩
  imod (send_close (m := m) (K := K) (J := J) a d k (Finset.mem_Ico.mp hk).1) $$ [Hat] with Hv
  · isplitr; · iexact HC
    iexact Hat
  imodintro
  isplitl [HF] <;> iassumption

theorem recvs_close (a : Ax) (d : Dev nD) :
    iprop(Ctx (F := F) m K J ∗ RG (F := F) a d 20)
      ⊢ |={Set.univ}=> iprop(bigSep (Finset.Ico 0 a.nR) (fun k => Full (F := F) (mRW a) a.nR_pos k d) ∗ bigSep (Finset.Ico 0 a.nR) (fun k => semVal (vCell a d k) 0)) := by
  have hR : a.nR ≤ 20 := by cases a <;> decide
  have h : bigSep (Finset.Ico 0 a.nR) (fun k => (semVal (vCell a d k) 0 : sProp 𝕄)) = bigSep (Finset.Ico 20 (20 + a.nR)) (fun k => semVal (vCell a d k) 0) :=
    (fam_period _ a.nR a.nR_pos (fun k => by rw [vCell_add]) 20).symm
  have h' : bigSep (Finset.Ico 0 20) (Kept (F := F) a d)
      = iprop(bigSep (Finset.Ico 0 (20 - a.nR)) (Kept (F := F) a d) ∗ bigSep (Finset.Ico 0 a.nR) (fun k => Full (F := F) (mRW a) a.nR_pos k d)) := by
    rw [fam_split _ (Nat.zero_le (20 - a.nR)) (Nat.sub_le 20 a.nR)]
    congr 1
    rw [← fam_period (fun k => Full (F := F) (mRW a) a.nR_pos k d) a.nR a.nR_pos (fun k => Full_add (mRW a) a.nR_pos k d) (20 - a.nR), Nat.sub_add_cancel hR]
    exact bigSep_congr fun k hk => by unfold Kept; rw [if_neg (by have := (Finset.mem_Ico.mp hk).1; omega)]
  rw [h]
  unfold RG
  rw [h']
  iintro ⟨#HC, Hv, -, -, -, HK⟩
  imod (fam_settle (R := Ctx (F := F) m K J) (Ψ := vPos (F := F) a d) (Ψ' := fun k => semVal (vCell a d k) 0)
    (fun k hk => recv_close (m := m) (K := K) (J := J) a d k (Finset.mem_Ico.mp hk).1)) $$ [Hv] with Hv
  · isplitr; · iexact HC
    iexact Hv
  imodintro
  isplitl [HK] <;> iassumption

theorem axis_close (a : Ax) (d : Dev nD) :
    iprop(Ctx (F := F) m K J ∗ SEnd (F := F) a d ∗ RG (F := F) a d 20)
      ⊢ |={Set.univ}=> iprop(Pack (fun g => semVal g 0) a d ∗ bigSep (Finset.Ico 0 a.nS) (fun k => Full (F := F) (mSW a) a.nS_pos k d)
          ∗ bigSep (Finset.Ico 0 a.nR) (fun k => Full (F := F) (mRW a) a.nR_pos k d)) := by
  unfold SEnd Pack
  iintro ⟨#HC, ⟨HS, Hc⟩, HR⟩
  imod (sends_close (m := m) (K := K) (J := J) a d) $$ [HS] with ⟨HF, Hs⟩
  · isplitr; · iexact HC
    iexact HS
  imod (recvs_close (m := m) (K := K) (J := J) a d) $$ [HR] with ⟨HG, Hv⟩
  · isplitr; · iexact HC
    iexact HR
  imod (credit_close (m := m) (K := K) (J := J) a d) $$ [Hc] with Hc
  · isplitr; · iexact HC
    iexact Hc
  imodintro
  isplitl [Hc Hs Hv]
  · isplitl [Hc]; · iexact Hc
    isplitl [Hs] <;> iassumption
  isplitl [HF] <;> iassumption

theorem bar_close (d : Dev nD) : iprop(Ctx (F := F) m K J ∗ atPos ER (bCell d) 1 ∅ 0) ⊢ |={Set.univ}=> semVal (bCell d) 0 := by
  iintro ⟨#HC, Hat⟩
  iapply (Rounds.cell_close ER (Rd m) (κ := K (bCell d)) (Set.mem_univ _) (fun h => h) (fun r hr => duties_b_end m d r hr))
  isplitr; · iapply (Ctx_cell (mem_b d)); iexact HC
  iexact Hat

theorem LG_back (d : Dev nD) : LG m d 20 ⊢ LInit m d := by
  unfold LG LInit LDn LFl
  rw [if_neg (by decide), if_neg (by decide), if_neg (by decide),
    ← fam_period (LFr (F := F) d) 4 (by decide) (fun k => by unfold LFr LFree; rw [lCell_add, lCell_add, Full_add, Full_add]) 20,
    fam_split (RowsK m d) (show 0 ≤ 22 by decide) (show 22 ≤ 24 by decide)]
  have h : bigSep (Finset.Ico 22 24) (RowsK m d) = iprop(emp) := by
    rw [bigSep_congr (Ψ := fun _ => iprop(emp)) fun k hk => by unfold RowsK; rw [if_neg (by have := (Finset.mem_Ico.mp hk).1; omega)]]
    exact BI.bigSep_emp_const _
  have h4 : iprop(LFr (F := F) d 20 ∗ LFr d (20 + 1) ∗ LFr d (20 + 2) ∗ LFr d (20 + 3)) ⊢ bigSep (Finset.Ico 20 (20 + 4)) (LFr (F := F) d) := by
    rw [fam_first _ (show 20 < 20 + 4 by decide), fam_first _ (show 20 + 1 < 20 + 4 by decide), fam_first _ (show 20 + 1 + 1 < 20 + 4 by decide),
      fam_first _ (show 20 + 1 + 1 + 1 < 20 + 4 by decide), fam_nil _ (show 20 + 4 ≤ 20 + 1 + 1 + 1 + 1 by decide)]
    iintro ⟨H1, H2, H3, H4⟩
    isplitl [H1]; · iexact H1
    isplitl [H2]; · iexact H2
    isplitl [H3]; · iexact H3
    isplitl [H4]; · iexact H4
    iempintro
  rw [h]
  iintro ⟨H1, H2, H3, H4, -, HR⟩
  isplitl [H1 H2 H3 H4]
  · iapply h4
    isplitl [H1]; · iexact H1
    isplitl [H2]; · iexact H2
    isplitl [H3] <;> iassumption
  isplitl [HR]; · iexact HR
  iempintro

theorem OEnd_back (h : Ho) (d : Dev nD) : OEnd m h d ⊢ iprop(bigSep (Finset.Ico 0 2) (SFree (F := F) h d) ∗ bigSep (Finset.Ico 0 20) (Put m h d)) := by
  unfold OEnd
  rw [← fam_period (SFree (F := F) h d) 2 (by decide) (fun k => by unfold SFree; rw [oCell_add, Full_add]) 20]

theorem close (d : Dev nD) : iprop(Ctx (F := F) m K J ∗ Done gM m d) ⊢ |={Set.univ}=> Back gM m d := by
  unfold Done Back
  iintro ⟨#HC, Hb, HL, HG, HSx, HRx, HM, HSy, HRy, HO, How⟩
  imod (bar_close (m := m) (K := K) (J := J) d) $$ [Hb] with Hb
  · isplitr; · iexact HC
    iexact Hb
  imod (axis_close (m := m) (K := K) (J := J) .x d) $$ [HSx HRx] with ⟨Hx, HFx⟩
  · isplitr; · iexact HC
    isplitl [HSx] <;> iassumption
  imod (axis_close (m := m) (K := K) (J := J) .y d) $$ [HSy HRy] with ⟨Hy, HFy⟩
  · isplitr; · iexact HC
    isplitl [HSy] <;> iassumption
  imodintro
  isplitl [Hb]; · iexact Hb
  isplitl [Hx]; · iexact Hx
  isplitl [Hy]; · iexact Hy
  isplitl [HFx]; · iexact HFx
  isplitl [HFy]; · iexact HFy
  isplitl [HL]; · iapply (LG_back d) $$ HL
  isplitl [HM]; · iapply (OEnd_back .m d) $$ HM
  isplitl [HO]; · iapply (OEnd_back .o d) $$ HO
  isplitl [HG] <;> iassumption

/-- The body, from what a device is dealt to what it gives back. -/
theorem body_back (d : Dev nD) :
    iprop(Ctx (F := F) m K J ∗ InitB (F := F) d ∗ Init (F := F) .x d ∗ Init (F := F) .y d ∗ LInit m d ∗ OInit .m d ∗ OInit .o d ∗ Gam m gM d ∗ Ow d 1)
      ⊢ Runs d (body gM) (Back gM m d) := by
  iintro ⟨#HC, H⟩
  iapply (wp_fupd frame _)
  iapply (wp_wand frame _ (Q := fun _ => Done gM m d)) $$ [H]
  · iapply (body_runs (m := m) (K := K) (J := J) gM d)
    isplitr; · iexact HC
    iexact H
  iintro %u HQ
  iapply (close (m := m) (K := K) (J := J) gM d)
  isplitr; · iexact HC
  iexact HQ

end Cert.KernelIdeal.Body

end
-- ==== Proof.Arrays.lean ====
/- The arrays and the scratch buffers, cut into the pieces the body works on and put together again. -/
module

public import proofs.«01_k».proof.Proof.Whole

@[expose] public section

noncomputable section

namespace Cert.KernelIdeal.Body

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release Idealize.ShloMosaic.Transfers

variable {F : FTy → Type} [FloatOps F]

local notation "𝕄" => MT nD τ sig ℕ (Elt F) ℕ UU ℕ

variable {m : (ℓ : Loc nD τ sig) → Buf (Elt F) ℓ} {K : GSem nD τ sig → ℕ} {J : Key → ℕ}

/-! ## An array in pieces -/

theorem cut {T : Type} [Fintype T] [DecidableEq T] (ℓ : Loc nD τ sig) (I : T → Finset (Idx ℓ)) (h : ∀ t t', t ≠ t' → Disjoint (I t) (I t')) (f : Buf (Elt F) ℓ) :
    (ℓ ↦{fullShare} f : sProp 𝕄) = iprop(bigSep Finset.univ (fun t => (ℓ ↦[I t]{fullShare} f)) ∗ ℓ ↦[Finset.univ \ Finset.univ.biUnion I]{fullShare} f) := by
  rw [← pointsTo_biUnion Finset.univ I fun t _ t' _ => h t t']
  have h : (ℓ ↦{fullShare} f : sProp 𝕄) ⊣⊢ iprop((ℓ ↦[Finset.univ.biUnion I]{fullShare} f) ∗ ℓ ↦[Finset.univ \ Finset.univ.biUnion I]{fullShare} f) := pointsTo_split_subset (Finset.subset_univ _)
  exact equiv_iff.mp ⟨h.1, h.2⟩

/-- Pieces with contents of their own. -/
theorem glue {T : Type} [Fintype T] [DecidableEq T] (ℓ : Loc nD τ sig) (I : T → Finset (Idx ℓ)) (h : ∀ t t', t ≠ t' → Disjoint (I t) (I t'))
    (P : T → Buf (Elt F) ℓ → Prop) (hP : ∀ t f g, (∀ i ∈ I t, g i = f i) → P t f → P t g) (f₀ : Buf (Elt F) ℓ) :
    iprop(bigSep Finset.univ (fun t => iprop(∃ f, ⌜P t f⌝ ∗ ℓ ↦[I t]{fullShare} f)) ∗ ℓ ↦[Finset.univ \ Finset.univ.biUnion I]{fullShare} f₀)
      ⊢ (iprop(∃ g, ⌜∀ t, P t g⌝ ∗ ℓ ↦{fullShare} g) : sProp 𝕄) := by
  haveI : Nonempty (Buf (Elt F) ℓ) := ⟨f₀⟩
  iintro ⟨H, HR⟩
  ihave H := (BI.bigSep_exists_pi Finset.univ (fun (t : T) (f : Buf (Elt F) ℓ) => (iprop(⌜P t f⌝ ∗ ℓ ↦[I t]{fullShare} f) : sProp 𝕄))) $$ H
  icases H with ⟨%fs, H⟩
  ihave H := (BI.bigSep_pure_sep Finset.univ (fun t : T => P t (fs t)) (fun t => (ℓ ↦[I t]{fullShare} fs t : sProp 𝕄))) $$ H
  icases H with ⟨%hp, H⟩
  ihave H := (pointsTo_biUnion_join Finset.univ I fs f₀ fun t _ t' _ => h t t') $$ H
  icases H with ⟨%g, %hg, H⟩
  ihave H := (pointsTo_join_subset (Finset.subset_univ (Finset.univ.biUnion I))) $$ [H HR]
  · isplitl [H] <;> iassumption
  iexists _
  isplitr; swap; · iexact H
  ipureintro
  intro t
  refine hP t (fs t) _ (fun i hi => ?_) (hp t (Finset.mem_univ t))
  rw [Finset.piecewise_eq_of_mem _ _ _ (Finset.mem_biUnion.mpr ⟨t, Finset.mem_univ t, hi⟩)]
  exact hg t (Finset.mem_univ t) i hi

theorem off_apart (k k' : Fin 20) (h : k ≠ k') : off k.val + sz k.val ≤ off k'.val ∨ off k'.val + sz k'.val ≤ off k.val := by
  revert k k'; decide

theorem own_apart (d : Dev nD) (k k' : Fin 20) (h : k ≠ k') :
    rowM d k.val + sz k.val ≤ rowM d k'.val ∨ rowM d k'.val + sz k'.val ≤ rowM d k.val := by
  rw [rowM_eq, rowM_eq]
  rcases off_apart k k' h with h | h <;> omega

/-! ## The arguments -/

abbrev pI (d : Dev nD) (k : Fin 20) : Finset (Idx ((d : Thread nD τ).loc main_arg0)) := (pM d k.val).view.set
abbrev rI (d : Dev nD) (k : Fin 20) : Finset (Idx ((d : Thread nD τ).loc main_arg1)) := (rM d k.val).view.set

theorem pI_apart (d : Dev nD) (k k' : Fin 20) (h : k ≠ k') : Disjoint (pI d k) (pI d k') := by
  unfold pI
  rw [View.set_reshape, View.set_reshape]
  exact View.disjoint_slice (Rect.unit_disjoint (s := S1x8192x2048) 1 (own_apart d k k' h))
theorem rI_apart (d : Dev nD) (k k' : Fin 20) (h : k ≠ k') : Disjoint (rI d k) (rI d k') :=
  View.disjoint_slice (Rect.unit_disjoint (s := S8192x2048) 0 (own_apart d k k' h))

/-- The arguments as they are given. -/
def Args (m : (ℓ : Loc nD τ sig) → Buf (Elt F) ℓ) (d : Dev nD) : sProp 𝕄 :=
  iprop(((d : Thread nD τ).loc main_arg0 ↦{fullShare} m ((d : Thread nD τ).loc main_arg0))
    ∗ ((d : Thread nD τ).loc main_arg1 ↦{fullShare} m ((d : Thread nD τ).loc main_arg1)))
/-- The rows of them a device does not use. -/
def ArgsRest (m : (ℓ : Loc nD τ sig) → Buf (Elt F) ℓ) (d : Dev nD) : sProp 𝕄 :=
  iprop(((d : Thread nD τ).loc main_arg0 ↦[Finset.univ \ Finset.univ.biUnion (pI d)]{fullShare} m ((d : Thread nD τ).loc main_arg0))
    ∗ ((d : Thread nD τ).loc main_arg1 ↦[Finset.univ \ Finset.univ.biUnion (rI d)]{fullShare} m ((d : Thread nD τ).loc main_arg1)))

theorem RowsK_eq (d : Dev nD) : bigSep (Finset.Ico 0 24) (RowsK m d)
    = iprop(bigSep (Finset.Ico 0 20) (Rows m .p d) ∗ bigSep (Finset.Ico 0 20) (Rows m .r d)) := by
  have h : bigSep (Finset.Ico 20 24) (RowsK m d) = iprop(emp) := by
    rw [bigSep_congr (Ψ := fun _ => iprop(emp)) fun k hk => by unfold RowsK; rw [if_neg (by have := (Finset.mem_Ico.mp hk).1; omega)]]
    exact BI.bigSep_emp_const _
  have h' : bigSep (Finset.Ico 0 20) (RowsK m d) = bigSep (Finset.Ico 0 20) (fun k => iprop(Rows m .p d k ∗ Rows m .r d k)) :=
    bigSep_congr fun k hk => by unfold RowsK; rw [if_pos (Finset.mem_Ico.mp hk).2]
  rw [fam_split (RowsK m d) (show 0 ≤ 20 by decide) (show 20 ≤ 24 by decide), h, h', bigSep_sep']
  exact equiv_iff.mp Idealize.SL.BI.sep_emp

theorem args_eq (d : Dev nD) : Args m d = iprop(bigSep (Finset.Ico 0 24) (RowsK m d) ∗ ArgsRest m d) := by
  unfold Args ArgsRest
  rw [cut _ (pI d) (pI_apart d), cut _ (rI d) (rI_apart d), RowsK_eq, ← fam_fin, ← fam_fin]
  show iprop((bigSep Finset.univ (fun k : Fin 20 => Rows m .p d k.val) ∗ _) ∗ (bigSep Finset.univ (fun k : Fin 20 => Rows m .r d k.val) ∗ _)) = _
  ac_rfl

/-! ## The result -/

instance : Fintype Ho := ⟨{.m, .o}, fun h => by cases h <;> decide⟩

abbrev oI (d : Dev nD) (t : Ho × Fin 20) : Finset (Idx ((d : Thread nD τ).loc main_v1)) :=
  match t.1 with
  | .m => (omM d t.2.val).view.set
  | .o => (ooM d t.2.val).view.set

theorem oI_apart (d : Dev nD) (t t' : Ho × Fin 20) (h : t ≠ t') : Disjoint (oI d t) (oI d t') := by
  obtain ⟨h1, k⟩ := t
  obtain ⟨h2, k'⟩ := t'
  have hk := off_sz k.val
  have hk' := off_sz k'.val
  have hd : d.val % 2 < 2 := Nat.mod_lt _ (by decide)
  cases h1 <;> cases h2
  · exact View.disjoint_slice (Rect.unit_disjoint (s := S8192x2048) 0 (own_apart d k k' fun e => h (by rw [e])))
  · refine View.disjoint_slice (Rect.unit_disjoint (s := S8192x2048) 0 ?_)
    show rowM d k.val + sz k.val ≤ rowO d k'.val ∨ rowO d k'.val + sz k'.val ≤ rowM d k.val
    rw [rowM_eq, rowO_eq]
    omega
  · refine View.disjoint_slice (Rect.unit_disjoint (s := S8192x2048) 0 ?_)
    show rowO d k.val + sz k.val ≤ rowM d k'.val ∨ rowM d k'.val + sz k'.val ≤ rowO d k.val
    rw [rowM_eq, rowO_eq]
    omega
  · refine View.disjoint_slice (Rect.unit_disjoint (s := S8192x2048) 0 ?_)
    show rowO d k.val + sz k.val ≤ rowO d k'.val ∨ rowO d k'.val + sz k'.val ≤ rowO d k.val
    rw [rowO_eq, rowO_eq]
    rcases off_apart k k' (fun e => h (by rw [e])) with h | h <;> omega

/-- The result holds the normalised rows of both halves. -/
def Stored (m : (ℓ : Loc nD τ sig) → Buf (Elt F) ℓ) (d : Dev nD) (G : Buf (Elt F) ((d : Thread nD τ).loc main_v1)) : Prop :=
  (∀ k : Fin 20, (omM d k.val).view.read (Elt F) G = nV m d k.val) ∧ ∀ k : Fin 20, (ooM d k.val).view.read (Elt F) G = oV m d k.val

theorem over_ho (Φ : Ho → sProp 𝕄) : bigSep Finset.univ Φ = iprop(Φ .m ∗ Φ .o) :=
  bigSep_univ_eq_bigSepL [Ho.m, Ho.o] (by decide) (by decide) Φ

abbrev ResRest (m : (ℓ : Loc nD τ sig) → Buf (Elt F) ℓ) (d : Dev nD) : sProp 𝕄 :=
  (d : Thread nD τ).loc main_v1 ↦[Finset.univ \ Finset.univ.biUnion (oI d)]{fullShare} m ((d : Thread nD τ).loc main_v1)

theorem res_out (d : Dev nD) : ((d : Thread nD τ).loc main_v1 ↦{fullShare} m ((d : Thread nD τ).loc main_v1) : sProp 𝕄)
    ⊢ iprop(bigSep (Finset.Ico 0 20) (Dst (F := F) .m d) ∗ bigSep (Finset.Ico 0 20) (Dst (F := F) .o d) ∗ ResRest m d) := by
  rw [cut _ (oI d) (oI_apart d), bigSep_univ_prod, over_ho, ← fam_fin, ← fam_fin]
  have h (k : Fin 20) : ((d : Thread nD τ).loc main_v1 ↦[oI d (.m, k)]{fullShare} m ((d : Thread nD τ).loc main_v1) : sProp 𝕄) ⊢ Dst (F := F) .m d k.val := by
    unfold Dst; iintro H; iexists _; iexact H
  have h' (k : Fin 20) : ((d : Thread nD τ).loc main_v1 ↦[oI d (.o, k)]{fullShare} m ((d : Thread nD τ).loc main_v1) : sProp 𝕄) ⊢ Dst (F := F) .o d k.val := by
    unfold Dst; iintro H; iexists _; iexact H
  iintro ⟨⟨H, G⟩, HR⟩
  isplitl [H]; · iapply (show bigSep Finset.univ (fun k : Fin 20 => _) ⊢ bigSep Finset.univ (fun k : Fin 20 => Dst (F := F) .m d k.val) from bigSep_mono fun k _ => h k) $$ H
  isplitl [G]; · iapply (show bigSep Finset.univ (fun k : Fin 20 => _) ⊢ bigSep Finset.univ (fun k : Fin 20 => Dst (F := F) .o d k.val) from bigSep_mono fun k _ => h' k) $$ G
  iexact HR

theorem res_in (d : Dev nD) : iprop(bigSep (Finset.Ico 0 20) (Put m .m d) ∗ bigSep (Finset.Ico 0 20) (Put m .o d) ∗ ResRest m d)
    ⊢ (iprop(∃ G, ⌜Stored m d G⌝ ∗ (d : Thread nD τ).loc main_v1 ↦{fullShare} G) : sProp 𝕄) := by
  have hg := glue ((d : Thread nD τ).loc main_v1) (oI d) (oI_apart d)
    (fun t f => match t.1 with
      | .m => (omM d t.2.val).view.read (Elt F) f = nV m d t.2.val
      | .o => (ooM d t.2.val).view.read (Elt F) f = oV m d t.2.val)
    (by
      rintro ⟨h, k⟩ f g hfg hf
      cases h
      · exact (View.read_congr fun i hi => hfg i hi).trans hf
      · exact (View.read_congr fun i hi => hfg i hi).trans hf)
    (m ((d : Thread nD τ).loc main_v1))
  rw [bigSep_univ_prod, over_ho] at hg
  rw [← fam_fin, ← fam_fin]
  iintro ⟨H, G, HR⟩
  ihave H := hg $$ [H G HR]
  · isplitr [HR]; swap; · iexact HR
    isplitl [H]; · iexact H
    iexact G
  icases H with ⟨%G, %hG, H⟩
  iexists G
  isplitr; swap; · iexact H
  ipureintro
  exact ⟨fun k => hG (.m, k), fun k => hG (.o, k)⟩

/-! ## The scratch buffers -/

section
variable {n : ℕ} {e : EltTy} (M : Memref sig .tc .vmem (shB n) e) (h0 : 0 < n) (d : Dev nD)

theorem slots_out (hM : M.view.set = Finset.univ) :
    (iprop(∃ f, M.view.loc (d : Thread nD τ) ↦{fullShare} f) : sProp 𝕄) ⊢ bigSep (Finset.Ico 0 n) (fun k => Full (F := F) M h0 k d) := by
  iintro ⟨%f, H⟩
  ihave H := (show (M.view.loc (d : Thread nD τ) ↦{fullShare} f : sProp 𝕄) ⊢ bigSep (Finset.range n) (fun k => Full (F := F) M h0 k d) from by
    have h := slots_of M h0 d f
    rwa [hM] at h) $$ H
  rw [← Finset.range_eq_Ico]
  iexact H

theorem slots_in (hM : M.view.set = Finset.univ) :
    bigSep (Finset.Ico 0 n) (fun k => Full (F := F) M h0 k d) ⊢ (iprop(∃ f, M.view.loc (d : Thread nD τ) ↦{fullShare} f) : sProp 𝕄) := by
  have h := slots_join M h0 d (Classical.arbitrary (M.view.ty.Contents (Elt F)))
  rwa [hM, Finset.range_eq_Ico] at h
end

theorem whole_set (b : Ref sig .tc) : (Memref.whole b).view.set = Finset.univ := by rw [Memref.view_whole, View.set_whole]

/-- The scratch buffers with anything in them. -/
def Scr (d : Dev nD) : sProp 𝕄 :=
  iprop((∃ f : Buf (Elt F) ((d : Thread nD τ).loc cc0_scratch0), ((d : Thread nD τ).loc cc0_scratch0) ↦{fullShare} f)
    ∗ (∃ f : Buf (Elt F) ((d : Thread nD τ).loc cc0_scratch1), ((d : Thread nD τ).loc cc0_scratch1) ↦{fullShare} f)
    ∗ (∃ f : Buf (Elt F) ((d : Thread nD τ).loc cc0_scratch2), ((d : Thread nD τ).loc cc0_scratch2) ↦{fullShare} f)
    ∗ (∃ f : Buf (Elt F) ((d : Thread nD τ).loc cc0_scratch3), ((d : Thread nD τ).loc cc0_scratch3) ↦{fullShare} f)
    ∗ (∃ f : Buf (Elt F) ((d : Thread nD τ).loc cc0_scratch4), ((d : Thread nD τ).loc cc0_scratch4) ↦{fullShare} f)
    ∗ (∃ f : Buf (Elt F) ((d : Thread nD τ).loc cc0_scratch5), ((d : Thread nD τ).loc cc0_scratch5) ↦{fullShare} f)
    ∗ (∃ f : Buf (Elt F) ((d : Thread nD τ).loc cc0_scratch6), ((d : Thread nD τ).loc cc0_scratch6) ↦{fullShare} f)
    ∗ (∃ f : Buf (Elt F) ((d : Thread nD τ).loc cc0_scratch7), ((d : Thread nD τ).loc cc0_scratch7) ↦{fullShare} f))

/-- The same, slot by slot. -/
def Slots (d : Dev nD) : sProp 𝕄 :=
  iprop(bigSep (Finset.Ico 0 4) (fun k => Full (F := F) (mL .p) four_pos k d)
    ∗ bigSep (Finset.Ico 0 (Ax.nS .x)) (fun k => Full (F := F) (mSW .x) (Ax.nS_pos .x) k d)
    ∗ bigSep (Finset.Ico 0 (Ax.nR .x)) (fun k => Full (F := F) (mRW .x) (Ax.nR_pos .x) k d)
    ∗ bigSep (Finset.Ico 0 4) (fun k => Full (F := F) (mL .r) four_pos k d)
    ∗ bigSep (Finset.Ico 0 (Ax.nS .y)) (fun k => Full (F := F) (mSW .y) (Ax.nS_pos .y) k d)
    ∗ bigSep (Finset.Ico 0 (Ax.nR .y)) (fun k => Full (F := F) (mRW .y) (Ax.nR_pos .y) k d)
    ∗ bigSep (Finset.Ico 0 2) (fun k => Full (F := F) (mO .m) two_pos' k d)
    ∗ bigSep (Finset.Ico 0 2) (fun k => Full (F := F) (mO .o) two_pos' k d))

theorem scr_out (d : Dev nD) : Scr (F := F) d ⊢ Slots d := by
  unfold Scr Slots
  exact BI.sep_mono (slots_out (mL .p) four_pos d (whole_set cc0_scratch0))
    (BI.sep_mono (slots_out (mSW .x) (Ax.nS_pos .x) d (whole_set cc0_scratch1))
    (BI.sep_mono (slots_out (mRW .x) (Ax.nR_pos .x) d (whole_set cc0_scratch2))
    (BI.sep_mono (slots_out (mL .r) four_pos d (whole_set cc0_scratch3))
    (BI.sep_mono (slots_out (mSW .y) (Ax.nS_pos .y) d (whole_set cc0_scratch4))
    (BI.sep_mono (slots_out (mRW .y) (Ax.nR_pos .y) d (whole_set cc0_scratch5))
    (BI.sep_mono (slots_out (mO .m) two_pos' d (whole_set cc0_scratch6))
    (slots_out (mO .o) two_pos' d (whole_set cc0_scratch7))))))))
theorem scr_in (d : Dev nD) : Slots (F := F) d ⊢ Scr d := by
  unfold Scr Slots
  exact BI.sep_mono (slots_in (mL .p) four_pos d (whole_set cc0_scratch0))
    (BI.sep_mono (slots_in (mSW .x) (Ax.nS_pos .x) d (whole_set cc0_scratch1))
    (BI.sep_mono (slots_in (mRW .x) (Ax.nR_pos .x) d (whole_set cc0_scratch2))
    (BI.sep_mono (slots_in (mL .r) four_pos d (whole_set cc0_scratch3))
    (BI.sep_mono (slots_in (mSW .y) (Ax.nS_pos .y) d (whole_set cc0_scratch4))
    (BI.sep_mono (slots_in (mRW .y) (Ax.nR_pos .y) d (whole_set cc0_scratch5))
    (BI.sep_mono (slots_in (mO .m) two_pos' d (whole_set cc0_scratch6))
    (slots_in (mO .o) two_pos' d (whole_set cc0_scratch7))))))))

end Cert.KernelIdeal.Body

end
-- ==== Proof.Start.lean ====
/- What each device has when the kernel starts, and what it gives back when it ends. -/
module

public import proofs.«01_k».proof.Proof.Arrays

@[expose] public section

noncomputable section

namespace Cert.KernelIdeal.Body

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release Idealize.ShloMosaic.Transfers

variable {F : FTy → Type} [FloatOps F]

local notation "𝕄" => MT nD τ sig ℕ (Elt F) ℕ UU ℕ

variable {m : (ℓ : Loc nD τ sig) → Buf (Elt F) ℓ} {K : GSem nD τ sig → ℕ} {J : Key → ℕ}

/-! ## The semaphores -/

/-- The kernel's own semaphores. -/
abbrev osem (k : Fin 26) : SemLoc sig :=
  if h : k.val < 2 then .reg ⟨k.val, Nat.lt_succ_of_lt h⟩ else .dma ⟨k.val - 1, by have := k.isLt; show k.val - 1 < 25; omega⟩

theorem ownSemFacts : Pipeline.OwnSemFacts cfg0.spec osem := by decide

/-- Those of a device's own copies, at rest. -/
def Local (d : Dev nD) : sProp 𝕄 :=
  iprop(bigSep (Finset.Ico 0 4) (fun k => semVal (lCell .p d k) 0) ∗ bigSep (Finset.Ico 0 4) (fun k => semVal (lCell .r d k) 0)
    ∗ bigSep (Finset.Ico 0 2) (fun k => semVal (oCell .m d k) 0) ∗ bigSep (Finset.Ico 0 2) (fun k => semVal (oCell .o d k) 0))

abbrev Sems (d : Dev nD) : sProp 𝕄 := Pipeline.ownSems0 (Ix := ℕ) (Name := ℕ) (U := UU) (Lvl := ℕ) (Val := Elt F) (τ := τ) osem d

theorem sems_eq (d : Dev nD) : Sems (F := F) d = iprop(Pack (fun g => semVal g 0) .x d ∗ Pack (fun g => semVal g 0) .y d ∗ Local d) := by
  unfold Sems Pack Local
  rw [Pipeline.ownSems0_eq_of_list d osem [0, 1, 2, 3, 4, 5, 6, 7, 8, 9, 10, 11, 12, 13, 14, 15, 16, 17, 18, 19, 20, 21, 22, 23, 24, 25] (by decide) (by decide),
    show bigSep (Finset.Ico 0 (Ax.nS .x)) (fun k => (semVal (sCell .x d k) 0 : sProp 𝕄)) = iprop(semVal (sCell .x d 0) 0 ∗ semVal (sCell .x d 1) 0 ∗ semVal (sCell .x d 2) 0) from over_3 _,
    show bigSep (Finset.Ico 0 (Ax.nR .x)) (fun k => (semVal (vCell .x d k) 0 : sProp 𝕄)) = iprop(semVal (vCell .x d 0) 0 ∗ semVal (vCell .x d 1) 0 ∗ semVal (vCell .x d 2) 0 ∗ semVal (vCell .x d 3) 0) from over_4 _,
    show bigSep (Finset.Ico 0 (Ax.nS .y)) (fun k => (semVal (sCell .y d k) 0 : sProp 𝕄)) = iprop(semVal (sCell .y d 0) 0 ∗ semVal (sCell .y d 1) 0) from over_2 _,
    show bigSep (Finset.Ico 0 (Ax.nR .y)) (fun k => (semVal (vCell .y d k) 0 : sProp 𝕄)) = iprop(semVal (vCell .y d 0) 0 ∗ semVal (vCell .y d 1) 0 ∗ semVal (vCell .y d 2) 0) from over_3 _,
    over_4, over_4, over_2, over_2]
  show iprop(semVal (kCell .x d) 0 ∗ semVal (kCell .y d) 0
      ∗ semVal (lCell .p d 0) 0 ∗ semVal (lCell .r d 0) 0 ∗ semVal (lCell .p d 1) 0 ∗ semVal (lCell .r d 1) 0
      ∗ semVal (lCell .p d 2) 0 ∗ semVal (lCell .r d 2) 0 ∗ semVal (lCell .p d 3) 0 ∗ semVal (lCell .r d 3) 0
      ∗ semVal (oCell .m d 0) 0 ∗ semVal (oCell .m d 1) 0 ∗ semVal (oCell .o d 0) 0 ∗ semVal (oCell .o d 1) 0
      ∗ semVal (sCell .x d 0) 0 ∗ semVal (sCell .x d 1) 0 ∗ semVal (sCell .x d 2) 0
      ∗ semVal (vCell .x d 0) 0 ∗ semVal (vCell .x d 1) 0 ∗ semVal (vCell .x d 2) 0 ∗ semVal (vCell .x d 3) 0
      ∗ semVal (sCell .y d 0) 0 ∗ semVal (sCell .y d 1) 0
      ∗ semVal (vCell .y d 0) 0 ∗ semVal (vCell .y d 1) 0 ∗ semVal (vCell .y d 2) 0) = _
  beta_reduce
  ac_rfl

theorem unscoped_eq (d : Dev nD) : (unscopedSems0 d : sProp 𝕄) = semVal (bCell d) 0 := by
  unfold unscopedSems0; rw [bigSep_eq_bigSepL_of_eq [SemLoc.reg semB] (by decide) (by decide)]; rfl

/-! ## What is dealt out before any device starts -/

/-- What a device keeps for itself. -/
def Mine (d : Dev nD) : sProp 𝕄 := iprop(atPos ER (bCell d) 0 ∅ 0 ∗ Lin (F := F) .x d ∗ Lin (F := F) .y d)

/-- What every device may read. -/
def Shared (J : Key → ℕ) : sProp 𝕄 :=
  iprop(bigSep cells (fun g => reached ER g 0) ∗ bigSep keys (fun κ => slotInv (E := ES) (J κ) κ (Sl (F := F) κ)))
instance Shared_persistent (J : Key → ℕ) : BI.Persistent (Shared (F := F) J) := by unfold Shared; infer_instance

def Dealt (m : (ℓ : Loc nD τ sig) → Buf (Elt F) ℓ) (d : Dev nD) : sProp 𝕄 :=
  iprop((∃ J, Shared (F := F) J) ∗ bigSep Finset.univ (fun j => roundState ER (Rd m) (cellOf (d, j)) 0) ∗ Mine d)

theorem mine_sort (b x y tx ty rx ry wx wy : sProp 𝕄) :
    iprop((b ∗ x ∗ y) ∗ (tx ∗ ty) ∗ (rx ∗ ry) ∗ wx ∗ wy) ⊢ iprop(b ∗ (tx ∗ rx ∗ wx ∗ x) ∗ ty ∗ ry ∗ wy ∗ y) :=
  Entails.of_eq (by ac_rfl)

theorem mine_eq : iprop(bigSep cells (fun g => atPos ER g 0 ∅ 0) ∗ bigSep toks (fun x => (dutyTok ER x.1 x.2.1 x.2.2 : sProp 𝕄))
      ∗ bigSep keys (fun κ => readerAt ES κ 0) ∗ bigSep (keys ×ˢ Finset.range 1) (fun x => writeTok ES x.1 (x.2 + 1)))
    ⊢ bigSep Finset.univ (fun d : Dev nD => Mine (F := F) d) := by
  rw [over_cells, toks_deal, over_keys, over_writes (fun κ n => writeTok ES κ (n + 1)), over_keys_nb, ← bigSep_sep', ← bigSep_sep', ← bigSep_sep']
  refine bigSep_mono fun d _ => ?_
  rw [over_ax, over_ax]
  unfold Mine Lin
  exact mine_sort _ _ _ _ _ _ _ _ _

def u₁ : URounds (GSem nD τ sig) ℕ × (USlots Key × Counters) := (initOf cells toks, (initSlots keys 1, 1))
def u₀ : UU := (initOf (Pipeline.cells cfgs cellOf_inj) (Pipeline.launchToks cfgs cellOf_inj), u₁)

theorem deal : BI.own (embR (nD := nD) (sig := sig) (Ix := ℕ) (Val := Elt F) (Name := ℕ) (A := UR sig nD τ) (Lvl := ℕ) u₁)
    ⊢ (|={Set.univ}=> bigSep Finset.univ (fun d : Dev nD => Dealt m d) : sProp 𝕄) := by
  unfold u₁
  iintro H
  ihave H := (own_pair_emb _ _ _) $$ H
  icases H with ⟨HR, HS⟩
  ihave HS := (own_pair_emb _ _ _) $$ HS
  icases HS with ⟨HS, -⟩
  imod (Rounds.fund ER (Rd m) cells toks) $$ HR with ⟨Hst, #Hr, Hat, Htok⟩
  imod (Release.slots_init ES keys 1 (Sl (F := F))) $$ HS with ⟨%J, -, #HI, Hrd, Hw⟩
  imodintro
  ihave HM := (mine_eq (F := F)) $$ [Hat Htok Hrd Hw]
  · isplitl [Hat]; · iexact Hat
    isplitl [Htok]; · iexact Htok
    isplitl [Hrd] <;> iassumption
  ihave Hst := (show bigSep cells (fun g => roundState ER (Rd m) g 0) ⊢ bigSep Finset.univ (fun d : Dev nD => bigSep Finset.univ (fun j => roundState ER (Rd m) (cellOf (d, j)) 0)) from
    Entails.of_eq (by unfold cells; rw [fam_image (fun i _ j _ h => cellOf_injective h), bigSep_univ_prod])) $$ Hst
  iapply (fam_share (R := Shared (F := F) J) (Ψ := fun d : Dev nD => iprop(bigSep Finset.univ (fun j => roundState ER (Rd m) (cellOf (d, j)) 0) ∗ Mine d)) fun d _ => by
    unfold Dealt
    iintro ⟨#HS, H⟩
    isplitr; · iexists J; iexact HS
    iexact H)
  isplitr
  · unfold Shared
    isplitr; · iexact Hr
    iexact HI
  rw [bigSep_sep']
  isplitl [Hst] <;> iassumption

/-! ## The invariants -/

/-- A device at the start, before the order of waits and the arrays are added. -/
def Given (m : (ℓ : Loc nD τ sig) → Buf (Elt F) ℓ) (d : Dev nD) : sProp 𝕄 :=
  iprop((∃ K : GSem nD τ sig → ℕ, bigSep cells (fun g => cellInv ER (Rd m) (K g) g)) ∗ (∃ J, Shared (F := F) J) ∗ Mine d ∗ Local d)

theorem open_cells (d : Dev nD) : iprop(Sems (F := F) d ∗ unscopedSems0 d ∗ Dealt m d)
    ⊢ |={Set.univ}=> iprop((bigSep Finset.univ fun j => iprop(∃ κ : ℕ, cellInv ER (Rd m) κ (cellOf (d, j)))) ∗ (∃ J, Shared (F := F) J) ∗ Mine d ∗ Local d) := by
  have h : iprop(bigSep Finset.univ (fun j => (semVal (cellOf (d, j)) 0 : sProp 𝕄)) ∗ bigSep Finset.univ (fun j => roundState ER (Rd m) (cellOf (d, j)) 0))
      ⊢ |={Set.univ}=> bigSep Finset.univ fun j => iprop(∃ κ : ℕ, cellInv ER (Rd m) κ (cellOf (d, j))) := by
    rw [← bigSep_sep']
    exact (bigSep_mono fun j _ => (Rounds.body_intro ER (Rd m) (cellOf (d, j))).trans inv_alloc).trans (bigSep_fupd _ _)
  rw [sems_eq, unscoped_eq]
  rw [over_locs (fun g => (semVal g 0 : sProp 𝕄)) d] at h
  unfold Dealt
  iintro ⟨⟨Hx, Hy, HL⟩, Hb, HS, Hst, HM⟩
  imod h $$ [Hx Hy Hb Hst] with Hinv
  · isplitr [Hst]; swap; · iexact Hst
    isplitl [Hb]; · iexact Hb
    isplitl [Hx] <;> iassumption
  imodintro
  isplitl [Hinv]; · iexact Hinv
  isplitl [HS]; · iexact HS
  isplitl [HM] <;> iassumption

theorem gather : (bigSep Finset.univ fun d : Dev nD => iprop((bigSep Finset.univ fun j => iprop(∃ κ : ℕ, cellInv ER (Rd m) κ (cellOf (d, j))))
      ∗ (∃ J, Shared (F := F) J) ∗ Mine d ∗ Local d)) ⊢ bigSep Finset.univ (fun d : Dev nD => Given m d) := by
  have h : bigSep Finset.univ (fun d : Dev nD => bigSep Finset.univ fun j => iprop(∃ κ : ℕ, cellInv ER (Rd m) κ (cellOf (d, j))))
      = bigSep cells (fun g => iprop(∃ κ : ℕ, cellInv ER (Rd m) κ g)) := by
    unfold cells; rw [fam_image (fun i _ j _ h => cellOf_injective h), bigSep_univ_prod]
  rw [bigSep_sep', h]
  iintro ⟨HI, H⟩
  ihave HK := (BI.bigSep_exists_pi cells (fun (g : GSem nD τ sig) (κ : ℕ) => (cellInv ER (Rd m) κ g : sProp 𝕄))) $$ HI
  icases HK with ⟨%K, #HI⟩
  iapply (fam_share (R := bigSep cells (fun g => cellInv ER (Rd m) (K g) g)) (Ψ := fun d : Dev nD => iprop((∃ J, Shared (F := F) J) ∗ Mine d ∗ Local d)) fun d _ => by
    unfold Given
    iintro ⟨#HS, H⟩
    isplitr; · iexists K; iexact HS
    iexact H)
  isplitr; · iexact HI
  iexact H

theorem glob : (bigSep Finset.univ fun d => iprop(Sems (F := F) d ∗ unscopedSems0 d ∗ Dealt m d)) ⊢ |={Set.univ}=> bigSep Finset.univ (fun d : Dev nD => Given m d) :=
  ((bigSep_mono fun d _ => open_cells d).trans (bigSep_fupd _ _)).trans (BI.fupd_mono gather)

/-! ## The start -/

abbrev Res (m : (ℓ : Loc nD τ sig) → Buf (Elt F) ℓ) (d : Dev nD) : sProp 𝕄 := (d : Thread nD τ).loc main_v1 ↦{fullShare} m ((d : Thread nD τ).loc main_v1)

def Start (m : (ℓ : Loc nD τ sig) → Buf (Elt F) ℓ) (d : Dev nD) : sProp 𝕄 :=
  iprop((∃ K J, Ctx (F := F) m K J) ∗ Mine d ∗ Local d ∗ Creds (F := F) .x d ∗ Creds (F := F) .y d ∗ Args m d ∗ Res m d)

theorem start_intro (d : Dev nD) (ρ : PrngReg) :
    iprop(Pipeline.unscopedRestP Pipeline.Prefetch.none cfg0.spec d (fun b => m ((d : Thread nD τ).loc b)) ∗ levAts L lv
        ∗ Pipeline.launchCred (fun d => O d 1) d ∗ prngReg d ρ ∗ Given m d)
      ⊢ (|={Set.univ}=> iprop(Start m d ∗ emp) : sProp 𝕄) := by
  have h : Pipeline.unscopedRestP Pipeline.Prefetch.none cfg0.spec d (fun b => m ((d : Thread nD τ).loc b)) ⊢ (iprop(Args m d ∗ Res m d) : sProp 𝕄) := by
    rw [show Pipeline.unscopedRestP Pipeline.Prefetch.none cfg0.spec d (fun b => m ((d : Thread nD τ).loc b)) = (_ : sProp 𝕄) from unscopedRest0_eq d _]
    unfold Args Res
    iintro ⟨H0, H1, H2⟩
    isplitl [H0 H1]
    · isplitl [H0] <;> iassumption
    iexact H2
  iintro ⟨HU, #Hlev, Hcr, -, HG⟩
  ihave HU := h $$ HU
  icases HU with ⟨HA, HV⟩
  ihave Hc := (creds_deal (F := F) d) $$ Hcr
  icases Hc with ⟨Hcx, Hcy⟩
  unfold Given Shared
  icases HG with ⟨⟨%K, #HI⟩, ⟨%J, #HR, #HS⟩, HM, HL⟩
  imodintro
  unfold Start Ctx
  isplitl
  · isplitr
    · iexists K; iexists J
      isplitr; · iexact HI
      isplitr; · iexact HR
      isplitr; · iexact HS
      iexact Hlev
    isplitl [HM]; · iexact HM
    isplitl [HL]; · iexact HL
    isplitl [Hcx]; · iexact Hcx
    isplitl [Hcy]; · iexact Hcy
    isplitl [HA] <;> iassumption
  · iempintro

/-! ## In -/

theorem loads_eq (d : Dev nD) : bigSep (Finset.Ico 0 4) (LFr (F := F) d)
    = iprop((bigSep (Finset.Ico 0 4) (fun k => Full (F := F) (mL .p) four_pos k d) ∗ bigSep (Finset.Ico 0 4) (fun k => semVal (lCell .p d k) 0))
      ∗ bigSep (Finset.Ico 0 4) (fun k => Full (F := F) (mL .r) four_pos k d) ∗ bigSep (Finset.Ico 0 4) (fun k => semVal (lCell .r d k) 0)) := by
  rw [← bigSep_sep', ← bigSep_sep', ← bigSep_sep']
  rfl
theorem stores_eq (h : Ho) (d : Dev nD) : bigSep (Finset.Ico 0 2) (SFree (F := F) h d)
    = iprop(bigSep (Finset.Ico 0 2) (fun k => Full (F := F) (mO h) two_pos' k d) ∗ bigSep (Finset.Ico 0 2) (fun k => semVal (oCell h d k) 0)) := by
  rw [← bigSep_sep']
  rfl

/-- Rows no device touches. -/
def Aside (m : (ℓ : Loc nD τ sig) → Buf (Elt F) ℓ) (d : Dev nD) : sProp 𝕄 := iprop(ArgsRest m d ∗ ResRest m d)

theorem enter (d : Dev nD) : iprop(Start m d ∗ Scr (F := F) d)
    ⊢ ∃ K J, iprop(Ctx (F := F) m K J ∗ (InitB (F := F) d ∗ Init (F := F) .x d ∗ Init (F := F) .y d ∗ LInit m d ∗ OInit .m d ∗ OInit .o d) ∗ Aside m d) := by
  unfold Start
  iintro ⟨⟨⟨%K, %J, #HC⟩, HM, HL, Hcx, Hcy, HA, HV⟩, HS⟩
  iexists K; iexists J
  isplitr; · iexact HC
  ihave HA := (Entails.of_eq (args_eq (m := m) d)) $$ HA
  ihave HV := (res_out (m := m) d) $$ HV
  ihave HS := (scr_out (F := F) d) $$ HS
  unfold Mine Local Slots Aside LInit OInit
  icases HM with ⟨Hb, Hx, Hy⟩
  icases HL with ⟨Lp, Lr, Lm, Lo⟩
  icases HA with ⟨HA, HA'⟩
  icases HV with ⟨Vm, Vo, HV'⟩
  icases HS with ⟨S0, S1, S2, S3, S4, S5, S6, S7⟩
  ihave Hx := (init_intro (m := m) (K := K) (J := J) .x d) $$ [Hx Hcx S1]
  · isplitr; · iexact HC
    isplitl [Hx]; · iexact Hx
    isplitl [Hcx]; · iexact Hcx
    iexact S1
  ihave Hy := (init_intro (m := m) (K := K) (J := J) .y d) $$ [Hy Hcy S4]
  · isplitr; · iexact HC
    isplitl [Hy]; · iexact Hy
    isplitl [Hcy]; · iexact Hcy
    iexact S4
  icases Hx with ⟨Tx, Cx, Hx⟩
  icases Hy with ⟨Ty, Cy, Hy⟩
  isplitr [HA' HV']; swap
  · isplitl [HA'] <;> iassumption
  isplitl [Tx Ty Hb Cx Cy S2 S5]
  · unfold InitB
    isplitl [Tx]; · iexact Tx
    isplitl [Ty]; · iexact Ty
    isplitl [Hb]; · iexact Hb
    isplitl [Cx]; · iexact Cx
    isplitl [Cy]; · iexact Cy
    isplitl [S2] <;> iassumption
  isplitl [Hx]; · iexact Hx
  isplitl [Hy]; · iexact Hy
  isplitl [S0 S3 Lp Lr HA]
  · isplitr [HA]; swap; · iexact HA
    iapply (Entails.of_eq (loads_eq (F := F) d).symm)
    isplitl [S0 Lp]
    · isplitl [S0] <;> iassumption
    isplitl [S3] <;> iassumption
  isplitl [S6 Lm Vm]
  · isplitr [Vm]; swap; · iexact Vm
    iapply (Entails.of_eq (stores_eq (F := F) .m d).symm)
    isplitl [S6] <;> iassumption
  isplitr [Vo]; swap; · iexact Vo
  iapply (Entails.of_eq (stores_eq (F := F) .o d).symm)
  isplitl [S7] <;> iassumption

/-! ## Out -/

/-- What is kept past the end: the arrays, and the semaphore of the first signals at zero. -/
def Kept' (m : (ℓ : Loc nD τ sig) → Buf (Elt F) ℓ) (d : Dev nD) : sProp 𝕄 :=
  iprop(unscopedSems0 d ∗ Args m d ∗ ∃ G, ⌜Stored m d G⌝ ∗ (d : Thread nD τ).loc main_v1 ↦{fullShare} G)

def Finish (m : (ℓ : Loc nD τ sig) → Buf (Elt F) ℓ) (d : Dev nD) : sProp 𝕄 := iprop(Kept' m d ∗ Sems (F := F) d ∗ Scr (F := F) d)

theorem leave (gM : Memref sig .tc .vmem S1x2048 .f32) (d : Dev nD) : iprop(Back gM m d ∗ Aside m d) ⊢ iprop(Finish m d ∗ Gam m gM d ∗ Ow (F := F) d 91) := by
  unfold Back Aside Finish Kept' LInit
  rw [sems_eq, unscoped_eq, args_eq, loads_eq, stores_eq, stores_eq]
  iintro ⟨⟨Hb, Hx, Hy, ⟨S1, S2⟩, ⟨S4, S5⟩, ⟨⟨⟨S0, Lp⟩, S3, Lr⟩, HA⟩, ⟨⟨S6, Lm⟩, Vm⟩, ⟨⟨S7, Lo⟩, Vo⟩, HG, How⟩, HA', HV'⟩
  ihave HV := (res_in (m := m) d) $$ [Vm Vo HV']
  · isplitl [Vm]; · iexact Vm
    isplitl [Vo] <;> iassumption
  ihave HS := (scr_in (F := F) d) $$ [S0 S1 S2 S3 S4 S5 S6 S7]
  · unfold Slots
    isplitl [S0]; · iexact S0
    isplitl [S1]; · iexact S1
    isplitl [S2]; · iexact S2
    isplitl [S3]; · iexact S3
    isplitl [S4]; · iexact S4
    isplitl [S5]; · iexact S5
    isplitl [S6] <;> iassumption
  isplitr [HG How]; swap
  · isplitl [HG] <;> iassumption
  isplitl [Hb HA HA' HV]
  · isplitl [Hb]; · iexact Hb
    isplitr [HV]; swap; · iexact HV
    isplitl [HA] <;> iassumption
  isplitr [HS]; swap; · iexact HS
  isplitl [Hx]; · iexact Hx
  isplitl [Hy]; · iexact Hy
  unfold Local
  isplitl [Lp]; · iexact Lp
  isplitl [Lr]; · iexact Lr
  isplitl [Lm] <;> iassumption

end Cert.KernelIdeal.Body

end
-- ==== Proof.ProgramEq.lean ====
/- The printed body is the body of `Program`. -/
module

public import proofs.«01_k».proof.Proof.Program
public import proofs.«01_k».proof.Proof.Gen.KernelIdeal.Points
public import Idealize.ShloMosaic.Lib.Tactic

@[expose] public section

noncomputable section

namespace Cert.KernelIdeal.Body

open Idealize.ShloMosaic Idealize.ShloMosaic.TcCoe Idealize.SL.Sem
open Cert.KernelIdeal.Gen

variable {F : FTy → Type} [FloatOps F]

theorem bodyAt_eq (gM : Memref sig .tc .vmem S1x2048 .f32) (hg : gM.IsWhole) :
    cc0_body (F := F) (Memref.whole main_arg0) (Memref.isWhole_whole _) (Memref.whole main_arg1) (Memref.isWhole_whole _) gM hg (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 cc0_scratch16
      = body gM := by
  sl_kernel_rfl

end Cert.KernelIdeal.Body

end
-- ==== Proof.Launch.lean ====
/- The run of the whole program. -/
module

public import proofs.«01_k».proof.Proof.Start
public import proofs.«01_k».proof.Proof.ProgramEq
public import Idealize.ShloMosaic.Lib.Pipeline.FrameBody
public import Idealize.ShloMosaic.Lib.Pipeline.CollectiveSegs

@[expose] public section

noncomputable section

namespace Cert.KernelIdeal.Body

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release Idealize.ShloMosaic.Transfers

variable {F : FTy → Type} [FloatOps F]

local notation "𝕄" => MT nD τ sig ℕ (Elt F) ℕ UU ℕ

variable {m : (ℓ : Loc nD τ sig) → Buf (Elt F) ℓ} {K : GSem nD τ sig → ℕ} {J : Key → ℕ}

open Idealize.ShloMosaic.Pipeline (Dat BodyObligation)

variable (m : (ℓ : Loc nD τ sig) → Buf (Elt F) ℓ) (ρ : Dev nD → PrngReg)

/-- What the pipeline knows of the one window and of the kernel between its start and its end. -/
def dats (_ : Fin 1) (d : Dev nD) : Dat τ (Elt F) ℕ ℕ UU ℕ cfg0 d where
  A w := m ((cfg0.win w).arr.view.loc (d : Thread nD τ))
  after w _ := match w with
    | ⟨0, _⟩ => gV m d
  Φ t := match t with
    | ⟨0, _⟩ => iprop(Start m d ∗ Scr d)
    | ⟨_ + 1, _⟩ => Finish m d
  q _ := fullShare
  owed t := match t with
    | ⟨0, _⟩ => O d 1
    | ⟨_ + 1, _⟩ => 0

theorem block_eq (d : Dev nD) (t : Fin cfg0.N) : (dats m 0 d).blockOf 0 t = gV m d := by
  rw [fin_N0 t]
  funext j
  show m ((d : Thread nD τ).loc main_arg2) (((cfg0.win 0).blk t0_0).view.emb j) = m ((d : Thread nD τ).loc main_arg2) j
  refine congrArg _ (funext fun a => Fin.ext ?_)
  exact Pipeline.Window.rect_emb_val_of_index_zero win0_0 t0_0 a rfl j

theorem before_eq (d : Dev nD) (t : Fin cfg0.N) (x) : (dats m 0 d).before 0 t x = gV m d :=
  ((dats m 0 d).before_in_eq_fetched 0 rfl (fun _ => rfl) (fun _ _ _ => rfl) (fun t => by rw [block_eq]; rfl) t x).trans
    (by unfold Dat.fetched; rw [block_eq]; rfl)

abbrev gStg : Memref sig .tc .vmem S1x2048 .f32 := st0_0 t0_0

theorem row_eq : (defs₀ (F := F)) .tc cfg0.body (cfg0.bodyArgs t0_0 (cfg0.slots t0_0)) = body gStg := bodyAt_eq _ _

theorem owed_first (d : Dev nD) : (dats m 0 d).owed 0 = O d 1 := rfl
theorem owed_first' (d : Dev nD) : (dats m 0 d).owed t0_0.castSucc = O d 1 := rfl
theorem owed_last (d : Dev nD) : (dats m 0 d).owed (Fin.last _) = 0 := rfl
theorem owed_last' (d : Dev nD) : (dats m 0 d).owed t0_0.succ = 0 := rfl
theorem phi_first (d : Dev nD) : (dats m 0 d).Φ 0 = iprop(Start m d ∗ Scr d) := rfl
theorem phi_first' (d : Dev nD) : (dats m 0 d).Φ t0_0.castSucc = iprop(Start m d ∗ Scr d) := rfl
theorem phi_last (d : Dev nD) : (dats m 0 d).Φ (Fin.last _) = Finish m d := rfl
theorem phi_last' (d : Dev nD) : (dats m 0 d).Φ t0_0.succ = Finish m d := rfl

theorem body_obligation (d : Dev nD) : Pipeline.BodyObligationLoose (dats m 0 d) (defs₀ (F := F)) 𝒱₀ 0 Set.univ := fun t => by
  rw [fin_N0 t, bigSep_W0, bigSep_W0, row_eq, phi_first', phi_last']
  unfold Dat.owesAt
  rw [owed_first', owed_last']
  simp only [before_eq]
  iintro ⟨HS, ⟨%W, -, How⟩, ⟨%x, HG⟩⟩
  ihave HS := (enter (m := m) d) $$ HS
  icases HS with ⟨%K, %J, #HC, HI, HA⟩
  icases HI with ⟨H1, H2, H3, H4, H5, H6⟩
  iapply (wp_wand frame _ (Q := fun _ => Back gStg m d)) $$ [HG How H1 H2 H3 H4 H5 H6]
  · iapply (body_back (m := m) (K := K) (J := J) gStg d)
    isplitr; · iexact HC
    isplitl [H1]; · iexact H1
    isplitl [H2]; · iexact H2
    isplitl [H3]; · iexact H3
    isplitl [H4]; · iexact H4
    isplitl [H5]; · iexact H5
    isplitl [H6]; · iexact H6
    isplitl [HG]
    · iapply (show owns (d : Thread nD τ) gStg fullShare (gV m d) ⊢ Gam m gStg d from Entails.of_eq (by unfold owns Gam; rfl)) $$ HG
    unfold Ow
    iexists W; iexact How
  iintro %u HB
  ihave HB := (leave (m := m) gStg d) $$ [HB HA]
  · isplitl [HB] <;> iassumption
  icases HB with ⟨HF, HG, How⟩
  isplitl [HF]; · iexact HF
  isplitl [How]
  · ihave How := (show Ow (F := F) d 91 ⊢ iprop(∃ W, owes (d : Thread nD τ) 0 W) from Entails.of_eq (by unfold Ow; rw [O_end d 91 (by decide)])) $$ How
    icases How with ⟨%W', How⟩
    iexists W'
    isplitr; · ipureintro; exact fun _ _ => Or.inl trivial
    iexact How
  iapply (show Gam m gStg d ⊢ owns (d : Thread nD τ) gStg fullShare (gV m d) from Entails.of_eq (by unfold owns Gam; rfl)) $$ HG

theorem share_eq (d : Dev nD) (w : Fin cfg0.W) : (dats m 0 d).share w = fullShare := by unfold Dat.share; split <;> rfl

theorem waits (d : Dev nD) : (levAts L lv : sProp 𝕄) ⊢ Pipeline.cellsWaits cfgs (dats m) 0 0 d :=
  Pipeline.cellsWaits_intro cfgs (dats m) 0 0 d fun w s t => by
    rcases t with ⟨_ | _, ht⟩
    · exact mayOwe d 1 _ (by decide) fun p hp => by rw [Finset.mem_singleton.mp hp]; exact ⟨Nat.one_pos, (by decide : 0 < 100)⟩
    · show (levAts L lv : sProp 𝕄) ⊢ MayWait _ _ _ 0
      rw [MayWait_zero]; iintro -; iempintro

/-- What a run ends with at device `d`. -/
def Ends (d : Dev nD) (s : MemSt nD τ sig (Elt F)) : Prop :=
  s.mem ((d : Thread nD τ).loc main_arg0) = m ((d : Thread nD τ).loc main_arg0)
    ∧ s.mem ((d : Thread nD τ).loc main_arg1) = m ((d : Thread nD τ).loc main_arg1)
    ∧ Stored m d (s.mem ((d : Thread nD τ).loc main_v1))

theorem held (ℓ : Loc nD τ sig) (f : Buf (Elt F) ℓ) (s' : Phys nD τ sig (Elt F)) : iprop((ℓ ↦{fullShare} f) ∗ SI s') ⊢ (⌜s'.mem.mem ℓ = f⌝ : sProp 𝕄) := by
  iintro ⟨H, HSI⟩
  ihave %h := (SI_pointsTo_agree (st := s') (ℓ := ℓ) (f := f)) $$ [H HSI]
  · isplitl [HSI] <;> iassumption
  ipureintro
  exact funext fun i => h i (Finset.mem_univ i)

theorem read_end (d : Dev nD) (s' : Phys nD τ sig (Elt F)) :
    iprop(Kept' m d ∗ emp ∗ SI s') ⊢ (|={Set.univ}=> iprop(⌜Ends m d s'.mem ∧ ∀ sm : SemLoc sig, sm.isScoped .tc = false → s'.mem.sem ((d.tc : Thread nD τ), sm) = 0⌝ ∗ SI s') : sProp 𝕄) := by
  unfold Kept' Args
  iintro ⟨⟨Hu, ⟨H0, H1⟩, ⟨%G, %hG, HV⟩⟩, -, HSI⟩
  ihave %h0 := (held _ _ s') $$ [H0 HSI]
  · isplitl [H0] <;> iassumption
  ihave %h1 := (held _ _ s') $$ [H1 HSI]
  · isplitl [H1] <;> iassumption
  ihave %hV := (held _ _ s') $$ [HV HSI]
  · isplitl [HV] <;> iassumption
  imod (Pipeline.unscopedSems0_read (X := unscopedSems0 d) (c := d) fupd_intro s') $$ [Hu HSI] with ⟨%hs, HSI⟩
  · isplitl [Hu] <;> iassumption
  imodintro
  isplitr
  · ipureintro
    exact ⟨⟨h0, h1, hV ▸ hG⟩, hs⟩
  iexact HSI

theorem main_eq (d : Dev nD) : main (F := F) d = .op (.customCall (Pipeline.entry 0) ()) fun _ => .ret ⟨⟩ := rfl

set_option maxRecDepth 20000 in
/-- Every run ends, with every semaphore at zero, the arguments unchanged and the result stored on each device. -/
theorem run_main : θ_run defs (onTc (τ := τ) (main (F := F))) ⟨m, fun _ => 0, ρ⟩
    (fun r => (∀ d : Dev nD, r.2.mem ((d : Thread nD τ).loc main_arg2) = m ((d : Thread nD τ).loc main_arg2) ∧ Ends m d r.2) ∧ r.2.sem = fun _ => 0) :=
  Pipeline.θ_run_region_owing_glob_pf (fun p => (cfgs p).toPCfg) (fun p => (cfgs p).toPCfg_adm) (dats m) 0 cellOf_inj (0 : Fin 1)
    winFacts0.to₀ ownSemFacts (Pipeline.PreFacts.none _) EP defs₀ 𝒱₀ m ρ main
    (hmain := main_eq)
    (hbody := body_obligation m) (hne := fun w => by fin_cases w <;> exact Nat.succ_pos _) (harr := arr_whole0) (hstage := stage_whole0) (hshare := share_eq m)
    (hdistinct := winFacts0.arr_inj)
    (O₀ := fun d => O d 1) (howed₀ := owed_first m) (howedN := owed_last m)
    (L := L) (lv := lv) (hL := fun g h => if_neg h) (hwaits := waits m)
    (G := fun d => Dealt m d) (G' := fun d => Given m d) (u₀ := u₀)
    (hu₀ := by
      unfold u₀
      iintro Hu
      ihave H := (ownU_pair _ _) $$ Hu
      icases H with ⟨HP, HX⟩
      imod (deal (m := m)) $$ HX with HG
      imodintro
      isplitl [HP] <;> iassumption)
    (hglob := glob (m := m))
    (hA := fun _ _ => rfl) (hpf := fun _ k => k.elim0)
    (X := fun d => Start m d) (Y := fun d => Kept' m d) (Z := fun _ => iprop(emp))
    (hX := fun d => start_intro (m := m) d (ρ d))
    (hin := fun d => by
      rw [phi_first, scopedRest0_eq]
      unfold Scr
      iintro ⟨Hs, -, Hr⟩
      isplitl [Hs] <;> iassumption)
    (hout := fun d => by
      rw [phi_last, scopedRest0_eq]
      unfold Finish Scr
      iintro H; iexact H)
    (QY := fun d s => Ends m d s ∧ ∀ sm : SemLoc sig, sm.isScoped .tc = false → s.sem ((d.tc : Thread nD τ), sm) = 0)
    (hY := read_end m)
    (hQ := fun s h hs => ⟨fun d => ⟨((h d).1 0).trans ((dats m 0 d).arrAt_in (0 : Fin 1) rfl _), (h d).2.2.1⟩, sem_eq_zero hs fun d => (h d).2.2.2⟩)

end Cert.KernelIdeal.Body

end
-- ==== Proof.Math.lean ====
/- A row scaled by the reciprocal root of its mean square, on extended reals: the kernel's spelling of a chunk of rows
   and the reference's spelling of all rows, each read at one entry, and the law between them. -/
module

public import proofs.«01_k».proof.Proof.Values
public import proofs.«01_k».proof.Proof.Gen.ReferenceIdeal
public import Idealize.ShloMosaic.Lib.Pointwise

@[expose] public section

noncomputable section

namespace Cert.RowMath

open Idealize.ShloMosaic

/-- The row length 2048 -/
def len : EReal := Ideal.ofBits .f32 0x45000000#32
/-- and the small positive number added to the mean square, as the two programs write them. -/
def eps : EReal := Ideal.ofBits .f32 0x358637BD#32

theorem len_eq : len = ((2048 : ℝ) : EReal) := by
  simp [len, Ideal.ofBits, Ideal.ieee, -EReal.coe_mul]; norm_num

theorem eps_pos : 0 < eps := by
  simp [eps, Ideal.ofBits, Ideal.ieee, -EReal.coe_mul]

/-- The mean square of a row, plus the small number. -/
def meanSq (y : Fin 2048 → EReal) : EReal := Ideal.div (∑ l, y l * y l) len + eps

/-- Entry `j` of the row scaled by the reciprocal root of its mean square and by the weights. -/
def scaled (y g : Fin 2048 → EReal) (j : Fin 2048) : EReal := y j * Ideal.rsqrt (meanSq y) * g j

theorem sq_nonneg (x : EReal) : 0 ≤ x * x := by
  induction x using EReal.rec with
  | bot => simp
  | top => simp
  | coe r => rw [← EReal.coe_mul]; exact_mod_cast mul_self_nonneg r

theorem meanSq_pos (y : Fin 2048 → EReal) : 0 < meanSq y := by
  have hs : 0 ≤ ∑ l, y l * y l := Finset.sum_nonneg fun l _ => sq_nonneg (y l)
  have hd : 0 ≤ Ideal.div (∑ l, y l * y l) len := by
    have hl : len ≠ 0 := by rw [len_eq]; exact_mod_cast (by norm_num : (2048 : ℝ) ≠ 0)
    have hi : 0 ≤ len⁻¹ := by rw [len_eq, ← EReal.coe_inv]; exact_mod_cast (by norm_num : (0 : ℝ) ≤ (2048 : ℝ)⁻¹)
    rw [Ideal.div, if_neg hl]
    exact mul_nonneg hs hi
  calc (0 : EReal) < eps := eps_pos
    _ = 0 + eps := (zero_add _).symm
    _ ≤ _ := add_le_add_left hd _

/-- Dividing by the root of a positive number is multiplying by its reciprocal root. -/
theorem div_sqrt (x a : EReal) (ha : 0 < a) : Ideal.div x (Ideal.sqrt a) = x * Ideal.rsqrt a := by
  induction a using EReal.rec with
  | bot => simp at ha
  | top => simp [Ideal.div]
  | coe r =>
    have hr : 0 < r := by exact_mod_cast ha
    have hs : 0 < Real.sqrt r := Real.sqrt_pos.mpr hr
    rw [Ideal.sqrt_coe, Ideal.rsqrt_coe, if_neg (not_lt.mpr hr.le), if_neg (not_lt.mpr hr.le), if_neg hr.ne', Ideal.div,
      if_neg (by exact_mod_cast hs.ne'), EReal.coe_inv]

section Kernel
open Cert.KernelIdeal Cert.KernelIdeal.Body

/-- A column repeated along the rows reads the column at the row's number, -/
theorem column_apply {n : ℕ} (v : FVec Ideal (shC n) .f32) (i : Fin n) (j : Fin 2048) :
    broadcastTo (sh2 n) v (bcastC n) (ix2 i j) = v (ix2 i 0) := by
  refine broadcastTo_apply v _ (ix2 i j) (ix2 i 0) fun a => ?_
  fin_cases a
  · show i.val = if n = 1 then 0 else i.val
    split_ifs <;> omega
  · rfl

/-- and a list stood up as a column reads the list. -/
theorem stood_apply {n : ℕ} (v : FVec Ideal (sh1 n) .f32) (i : Fin n) :
    shapeCast (shC n) v (casts1C n) (ix2 i 0) = v (ix1 i) := by
  refine shapeCast_apply v _ (ix2 i 0) (ix1 i) ?_
  show ((⟨1, ![n]⟩ : Shape).rowMajor (ix1 i)).val = ((⟨2, ![n, 1]⟩ : Shape).rowMajor (ix2 i 0)).val
  rw [Shape.rowMajor_val_one, Shape.rowMajor_val_two]
  show i.val = i.val * 1 + 0
  omega

/-- The kernel's chunk at an entry. -/
theorem chunk_apply {n : ℕ} (p : Vec Ideal (sh2 n) .f32) (x : Vec Ideal (sh2 n) .bf16) (r : Vec Ideal (sh2 n) .f32)
    (g : Vec Ideal S1x2048 .f32) (i : Fin n) (j : Fin 2048) :
    norm2 p x r g (ix2 i j)
      = scaled (fun l => (p (ix2 i l) + x (ix2 i l)) + r (ix2 i l)) (fun l => g (ix2 0 l)) j := by
  simp only [norm2, mulf_apply, column_apply, rsqrt_apply, addf_apply, divf_apply, stood_apply]
  pointwise! [scaled, meanSq, len, eps]

end Kernel

section Reference
open Cert.ReferenceIdeal Cert.ReferenceIdeal.Gen

/-- The reference's array, of its three arguments. -/
def refOut (a0 : FVec Ideal S2x8192x2048 .f32) (a1 : FVec Ideal S8192x2048 .f32) (a2 : FVec Ideal S1x2048 .f32) :
    FVec Ideal S8192x2048 .f32 :=
  let y := addf (Host.reduceAdd a0 (constant S_ .f32 0x00000000#32) reducesTo_S2x8192x2048_S8192x2048_d0 h_S_) a1
  mulf (Host.divf y (broadcastInDim S8192x2048 ![0, 1] bcast_S8192x1_S8192x2048_0_1
      (Host.sqrt (addf
        (Host.divf (broadcastInDim S8192x1 ![0] bcast_S8192_S8192x1_0
            (Host.reduceAdd (mulf y y) (constant S_ .f32 0x00000000#32) reducesTo_S8192x2048_S8192_d1 h_S_))
          (broadcastInDim S8192x1 ![] bcast_S_S8192x1 (constant S_ .f32 0x45000000#32)))
        (broadcastInDim S8192x1 ![] bcast_S_S8192x1 (constant S_ .f32 0x358637BD#32))))))
    (broadcastInDim S8192x2048 ![0, 1] bcast_S1x2048_S8192x2048_0_1 a2)

/-- The reference's array at an entry. -/
theorem refOut_apply (a0 : FVec Ideal S2x8192x2048 .f32) (a1 : FVec Ideal S8192x2048 .f32) (a2 : FVec Ideal S1x2048 .f32)
    (i : Fin 8192) (j : Fin 2048) :
    refOut a0 a1 a2 (ix2 i j)
      = scaled (fun l => (a0 (ix3 0 i l) + a0 (ix3 1 i l)) + a1 (ix2 i l)) (fun l => a2 (ix2 0 l)) j := by
  rw [scaled, ← div_sqrt _ _ (meanSq_pos _)]
  pointwise! [refOut, meanSq, len, eps]
  simp only [Fin.sum_univ_two]

end Reference

end Cert.RowMath

end
-- ==== Proof.Value.lean ====
/- What the kernel stores is the reference's array. -/
module

public import proofs.«01_k».proof.Proof.Math
public import proofs.«01_k».proof.Proof.Arrays

@[expose] public section

noncomputable section

namespace Cert.KernelIdeal.Body

open Cert.KernelIdeal.Gen
open Idealize.ShloMosaic
open Idealize.ShloMosaic.TcCoe
open Idealize.SL.Sem
open Cert.RowMath

/-! ## The chunks cover a half -/

/-- A row below the end of chunk `c` lies in one of the chunks up to `c`. -/
theorem row_below (r : ℕ) : ∀ c, c < 20 → r < off c + sz c → ∃ k : Fin 20, off k.val ≤ r ∧ r < off k.val + sz k.val
  | 0, _, h => ⟨0, Nat.zero_le _, h⟩
  | c + 1, hc, h => by
    by_cases hr : off (c + 1) ≤ r
    · exact ⟨⟨c + 1, hc⟩, hr, h⟩
    · refine row_below r c (by omega) ?_
      have := off_succ c (by omega)
      omega

/-- Every row of a half lies in a chunk. -/
theorem row_chunk (r : ℕ) (h : r < 4096) : ∃ k : Fin 20, off k.val ≤ r ∧ r < off k.val + sz k.val :=
  row_below r 19 (by decide) (h.trans_le (by decide))

/-! ## A chunk at an entry -/

/-- The entry of a memory that a chunk's entry names: two axes, -/
theorem rect2_emb {r n : ℕ} (h : r + n ≤ 8192) (i : Fin n) (j : Fin 2048) :
    (rect2 h).emb (ix2 i j) = ix2 (⟨r + i.val, by have := i.isLt; omega⟩ : Fin 8192) j := by
  funext a
  refine Fin.ext ?_
  fin_cases a
  · show r + 1 * i.val = r + i.val
    omega
  · show 0 + 1 * j.val = j.val
    omega

/-- and three. -/
theorem rect3_emb {r n : ℕ} (h : r + n ≤ 8192) (i : Fin n) (j : Fin 2048) :
    (rect3 h).emb (ix3 0 i j) = ix3 0 (⟨r + i.val, by have := i.isLt; omega⟩ : Fin 8192) j := by
  funext a
  refine Fin.ext ?_
  fin_cases a
  · rfl
  · show r + 1 * i.val = r + i.val
    omega
  · show 0 + 1 * j.val = j.val
    omega

variable (m : (ℓ : Loc nD τ sig) → Buf (Elt Ideal) ℓ)

theorem rC_apply (d : Dev nD) (k : ℕ) (i : Fin (sz k)) (j : Fin 2048) :
    rC m d k (ix2 i j) = m ((d : Thread nD τ).loc main_arg1)
      (ix2 (⟨rowM d k + i.val, by have := i.isLt; have := rowM_le d k; omega⟩ : Fin 8192) j) :=
  congrArg (m ((d : Thread nD τ).loc main_arg1)) (rect2_emb (rowM_le d k) i j)

theorem pC_apply (d : Dev nD) (k : ℕ) (i : Fin (sz k)) (j : Fin 2048) :
    pC m d k (ix2 i j) = m ((d : Thread nD τ).loc main_arg0)
      (ix3 0 (⟨rowM d k + i.val, by have := i.isLt; have := rowM_le d k; omega⟩ : Fin 8192) j) := by
  refine (shapeCast_apply (s := sh3 (sz k)) (t := sh2 (sz k)) (fun x => m ((d : Thread nD τ).loc main_arg0) ((rect3 (rowM_le d k)).emb x))
    (casts32 _) (ix2 i j) (ix3 0 i j) ?_).trans (congrArg (m ((d : Thread nD τ).loc main_arg0)) (rect3_emb (rowM_le d k) i j))
  show ((⟨3, ![1, sz k, 2048]⟩ : Shape).rowMajor (ix3 0 i j)).val = ((⟨2, ![sz k, 2048]⟩ : Shape).rowMajor (ix2 i j)).val
  rw [Shape.rowMajor_val_three, Shape.rowMajor_val_two]
  show (0 * sz k + i.val) * 2048 + j.val = i.val * 2048 + j.val
  omega

/-- An entry of the result, in the half the device owns -/
theorem omM_apply (d : Dev nD) (k : ℕ) (G : Buf (Elt Ideal) ((d : Thread nD τ).loc main_v1)) (i : Fin (sz k)) (j : Fin 2048) :
    (omM d k).view.read (Elt Ideal) G (ix2 i j)
      = G (ix2 (⟨rowM d k + i.val, by have := i.isLt; have := rowM_le d k; omega⟩ : Fin 8192) j) :=
  congrArg G (rect2_emb (rowM_le d k) i j)

/-- and in the other. -/
theorem ooM_apply (d : Dev nD) (k : ℕ) (G : Buf (Elt Ideal) ((d : Thread nD τ).loc main_v1)) (i : Fin (sz k)) (j : Fin 2048) :
    (ooM d k).view.read (Elt Ideal) G (ix2 i j)
      = G (ix2 (⟨rowO d k + i.val, by have := i.isLt; have := rowO_le d k; omega⟩ : Fin 8192) j) :=
  congrArg G (rect2_emb (rowO_le d k) i j)

/-! ## The stored rows -/

variable (a0 : FVec Ideal Cert.ReferenceIdeal.S2x8192x2048 .f32) (a1 : FVec Ideal S8192x2048 .f32)
  (a2 : FVec Ideal S1x2048 .f32)

/-- The device holds its block of the partial sums, all of the residual and the weights. -/
def Holds (d : Dev nD) : Prop :=
  (∀ (i : Fin 8192) (j : Fin 2048), m ((d : Thread nD τ).loc main_arg0) (ix3 0 i j)
      = a0 (ix3 (⟨d.val / 2, by have : d.val < 4 := d.isLt; omega⟩ : Fin 2) i j))
    ∧ m ((d : Thread nD τ).loc main_arg1) = a1 ∧ m ((d : Thread nD τ).loc main_arg2) = a2

theorem xN_half (d : Dev nD) : (xN d).val % 2 = d.val % 2 ∧ (xN d).val / 2 = 1 - d.val / 2 := by revert d; decide
theorem yN_half (d : Dev nD) : (yN d).val % 2 = 1 - d.val % 2 := by revert d; decide

/-- The two partial sums of an entry, the device's own first, are the reference's. -/
theorem pair_sum (h : ∀ d, Holds m a0 a1 a2 d) (d : Dev nD) (i : Fin 8192) (j : Fin 2048) :
    (show EReal from m ((d : Thread nD τ).loc main_arg0) (ix3 0 i j)) + m ((xN d : Thread nD τ).loc main_arg0) (ix3 0 i j)
      = a0 (ix3 0 i j) + a0 (ix3 1 i j) := by
  rw [(h d).1, (h (xN d)).1]
  have key : ∀ u v : Fin 2, v.val = 1 - u.val →
      (a0 (ix3 u i j) : EReal) + a0 (ix3 v i j) = a0 (ix3 0 i j) + a0 (ix3 1 i j) := by
    intro u v e
    fin_cases u <;> fin_cases v <;> simp_all [add_comm]
  exact key _ _ (xN_half d).2

/-- The device's own chunk is the reference's rows. -/
theorem nV_apply (h : ∀ d, Holds m a0 a1 a2 d) (d : Dev nD) (k : ℕ) (i : Fin (sz k)) (j : Fin 2048) :
    nV m d k (ix2 i j) = refOut a0 a1 a2
      (ix2 (⟨rowM d k + i.val, by have := i.isLt; have := rowM_le d k; omega⟩ : Fin 8192) j) := by
  rw [nV, chunk_apply, refOut_apply]
  congr 1
  · funext l
    have hx : pC m (xN d) k (ix2 i l) = m ((xN d : Thread nD τ).loc main_arg0)
        (ix3 0 (⟨rowM d k + i.val, by have := i.isLt; have := rowM_le d k; omega⟩ : Fin 8192) l) :=
      (pC_apply m (xN d) k i l).trans (congrArg (fun r => m ((xN d : Thread nD τ).loc main_arg0) (ix3 0 r l))
        (Fin.ext (by show rowM (xN d) k + i.val = rowM d k + i.val; rw [rowM_eq, rowM_eq, (xN_half d).1])))
    show pC m d k (ix2 i l) + pC m (xN d) k (ix2 i l) + rC m d k (ix2 i l) = _
    rw [pC_apply, hx, rC_apply, (h d).2.1]
    exact congrArg (· + _) (pair_sum m a0 a1 a2 h d _ l)
  · funext l
    exact congrFun (h d).2.2 _

/-- Both halves stored, the result is the reference's array. -/
theorem stored_eq (h : ∀ d, Holds m a0 a1 a2 d) (d : Dev nD) (G : Buf (Elt Ideal) ((d : Thread nD τ).loc main_v1))
    (hG : Stored m d G) : G = refOut a0 a1 a2 := by
  suffices H : ∀ (R : Fin 8192) (j : Fin 2048), G (ix2 R j) = refOut a0 a1 a2 (ix2 R j) by
    funext x
    have hx : x = ix2 (x 0) (x 1) := Shape.idx_ext₂ rfl rfl
    rw [hx]
    exact H (x 0) (x 1)
  intro R j
  obtain ⟨k, lo, hi⟩ := row_chunk (R.val % 4096) (Nat.mod_lt _ (by decide))
  have hR := R.isLt
  have hd : d.val < 4 := d.isLt
  let i : Fin (sz k.val) := ⟨R.val % 4096 - off k.val, by omega⟩
  by_cases half : R.val / 4096 = d.val % 2
  · have e : R = ⟨rowM d k.val + i.val, by have := i.isLt; have := rowM_le d k.val; omega⟩ :=
      Fin.ext (by show R.val = rowM d k.val + (R.val % 4096 - off k.val); rw [rowM_eq]; omega)
    calc G (ix2 R j) = nV m d k.val (ix2 i j) := by rw [← hG.1 k, omM_apply]; exact congrArg (fun r => G (ix2 r j)) e
      _ = _ := by rw [nV_apply m a0 a1 a2 h]; exact congrArg (fun r => refOut a0 a1 a2 (ix2 r j)) e.symm
  · have e : R = ⟨rowO d k.val + i.val, by have := i.isLt; have := rowO_le d k.val; omega⟩ :=
      Fin.ext (by show R.val = rowO d k.val + (R.val % 4096 - off k.val); rw [rowO_eq]; omega)
    have e' : R = ⟨rowM (yN d) k.val + i.val, by have := i.isLt; have := rowM_le (yN d) k.val; omega⟩ :=
      Fin.ext (by show R.val = rowM (yN d) k.val + (R.val % 4096 - off k.val); rw [rowM_eq, yN_half]; omega)
    calc G (ix2 R j) = oV m d k.val (ix2 i j) := by rw [← hG.2 k, ooM_apply]; exact congrArg (fun r => G (ix2 r j)) e
      _ = nV m (yN d) k.val (ix2 i j) := rfl
      _ = _ := by rw [nV_apply m a0 a1 a2 h]; exact congrArg (fun r => refOut a0 a1 a2 (ix2 r j)) e'.symm

end Cert.KernelIdeal.Body

end
-- ==== Proof.lean ====
/- The claims of `Cert.Claim` (proofs.«01_k».proof.Defs), put together from the run of the kernel (Proof/Launch.lean),
   the value it stores (Proof/Value.lean) and the run of the reference. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Value
public import Idealize.ShloMosaic.Adequacy
public import Idealize.ShloMosaic.Init

@[expose] public section

noncomputable section

namespace Cert.Proof

open Idealize.ShloMosaic Idealize.ShloMosaic.TcCoe Idealize.SL.Sem

/-- The program read over machine floats and that read over extended reals have one text: the same body table, -/
theorem bodies_eq : Cert.Kernel.defs₀ (F := Bits) = Cert.KernelIdeal.defs₀ (F := Bits) := by
  unfold Cert.Kernel.defs₀ Cert.KernelIdeal.defs₀
  congr 1
  funext a b
  match a, b with
  | 0, (t, s) => rfl

/-- and the same calls. -/
theorem table_eq : Cert.Kernel.defs (F := Bits) = Cert.KernelIdeal.defs (F := Bits) :=
  congrArg (Pipeline.defs (Cert.KernelIdeal.pcfgs (F := Bits))) bodies_eq

theorem frame_kernel : Cert.quiescent_Kernel := by
  intro m ρ _
  rw [table_eq]
  exact (θ_run (Cert.KernelIdeal.defs (F := Bits)) _ _).mono
    (fun _ h => ⟨fun c => ⟨(h.1 c).2.1, (h.1 c).2.2.1, (h.1 c).1⟩, h.2⟩) (Cert.KernelIdeal.Body.run_main (F := Bits) m ρ)

theorem frame_ideal : Cert.quiescent_KernelIdeal := fun m ρ _ =>
  (θ_run Cert.KernelIdeal.defs _ _).mono
    (fun _ h => ⟨fun c => ⟨(h.1 c).2.1, (h.1 c).2.2.1, (h.1 c).1⟩, h.2⟩) (Cert.KernelIdeal.Body.run_main (F := Ideal) m ρ)

theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

theorem same : Cert.preserves_Kernel_KernelIdeal := trivial

/-- The device's block of the stacked partial sums is the layer its first mesh coordinate names. -/
theorem layer (d : Dev Cert.KernelIdeal.nD) (v : Cert.ReferenceIdeal.S2x8192x2048.Idx → EReal) (i : Fin 8192) (j : Fin 2048) :
    Layout.blockN ⟨3, ![1, 8192, 2048]⟩ ⟨3, ![2, 8192, 2048]⟩ (Layout.meshBlock [2, 2] ![[0], [], []] d) v (by decide) (ix3 (0 : Fin 1) i j)
      = v (ix3 (⟨d.val / 2, by have : d.val < 4 := d.isLt; omega⟩ : Fin 2) i j) := by
  refine congrArg v (funext fun a => Fin.ext ?_)
  rw [Layout.TilesN.idx_val]
  fin_cases a
  · show Layout.meshLin [2, 2] d.val [0] * 1 + 0 = d.val / 2
    revert d; decide
  · show 0 * 8192 + i.val = i.val
    omega
  · show 0 * 2048 + j.val = j.val
    omega

theorem value : Cert.algebraic_KernelIdeal_ReferenceIdeal := by
  intro m g m' g' _ hin
  let a0 := m' (((0 : Dev Cert.ReferenceIdeal.nD).tc : Thread Cert.ReferenceIdeal.nD Cert.ReferenceIdeal.τ).loc Cert.ReferenceIdeal.main_arg0)
  let a1 := m' (((0 : Dev Cert.ReferenceIdeal.nD).tc : Thread Cert.ReferenceIdeal.nD Cert.ReferenceIdeal.τ).loc Cert.ReferenceIdeal.main_arg1)
  let a2 := m' (((0 : Dev Cert.ReferenceIdeal.nD).tc : Thread Cert.ReferenceIdeal.nD Cert.ReferenceIdeal.τ).loc Cert.ReferenceIdeal.main_arg2)
  have holds : ∀ d, Cert.KernelIdeal.Body.Holds m a0 a1 a2 d := fun d =>
    ⟨fun i j => (congrFun (hin d).1 (ix3 (0 : Fin 1) i j)).trans (layer d a0 i j), (hin d).2.1, (hin d).2.2⟩
  refine ⟨Cert.RowMath.refOut a0 a1 a2, ?_, ?_⟩
  · exact (θ_run Cert.KernelIdeal.defs _ _).mono
      (fun r h c => ⟨Cert.KernelIdeal.Body.stored_eq m a0 a1 a2 holds c _ (h.1 c).2.2.2, (h.1 c).2.1, (h.1 c).2.2.1, (h.1 c).1⟩)
      (Cert.KernelIdeal.Body.run_main (F := Ideal) m g)
  · exact (θ_run Cert.ReferenceIdeal.defs _ _).mono
      (fun r h => ⟨(h 0).1, (h 0).2.1, (h 0).2.2.1, (h 0).2.2.2⟩) (Cert.ReferenceIdeal.Value.run (F := Ideal) m' g')

theorem claim : Cert.Claim := ⟨Cert.Kernel.Gen.facts, Cert.KernelIdeal.Gen.facts, Cert.ReferenceIdeal.Gen.facts,
  frame_kernel, frame_ideal, frame_reference, same, value⟩

end Cert.Proof

end
